-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)) (v3 : (c : Dev Cert.Kernel3Ideal.nD) → Buf (Elt Ideal) ((c.tc : Thread Cert.Kernel3Ideal.nD Cert.Kernel3Ideal.τ).loc Cert.Kernel3Ideal.main_v26_3)) (v4 : (c : Dev Cert.Kernel3Ideal.nD) → Buf (Elt Ideal) ((c.tc : Thread Cert.Kernel3Ideal.nD Cert.Kernel3Ideal.τ).loc Cert.Kernel3Ideal.main_v26_4)) (v5 : (c : Dev Cert.Kernel3Ideal.nD) → Buf (Elt Ideal) ((c.tc : Thread Cert.Kernel3Ideal.nD Cert.Kernel3Ideal.τ).loc Cert.Kernel3Ideal.main_v26_5)) (v6 : (c : Dev Cert.Kernel3Ideal.nD) → Buf (Elt Ideal) ((c.tc : Thread Cert.Kernel3Ideal.nD Cert.Kernel3Ideal.τ).loc Cert.Kernel3Ideal.main_v26_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_v26_3) = v3 c
          ∧ r.2.mem ((c.tc : Thread Cert.Kernel3Ideal.nD Cert.Kernel3Ideal.τ).loc Cert.Kernel3Ideal.main_v26_4) = v4 c
          ∧ r.2.mem ((c.tc : Thread Cert.Kernel3Ideal.nD Cert.Kernel3Ideal.τ).loc Cert.Kernel3Ideal.main_v26_5) = v5 c
          ∧ r.2.mem ((c.tc : Thread Cert.Kernel3Ideal.nD Cert.Kernel3Ideal.τ).loc Cert.Kernel3Ideal.main_v26_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v55) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_v90) = v5 c
          ∧ r.2.mem ((c.tc : Thread Cert.Reference3Ideal.nD Cert.Reference3Ideal.τ).loc Cert.Reference3Ideal.main_v91) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite3.lean ====
abbrev S16x2048x1024 : Shape := ⟨3, ![16, 2048, 1024]⟩
abbrev S1x1024x3600 : Shape := ⟨3, ![1, 1024, 3600]⟩
abbrev S1x4x1536 : Shape := ⟨3, ![1, 4, 1536]⟩
abbrev S1x8 : Shape := ⟨2, ![1, 8]⟩
abbrev S1x1024 : Shape := ⟨2, ![1, 1024]⟩
abbrev S_ : Shape := ⟨0, ![]⟩

class Facts : Prop where
  bcast_S_S1x1024x3600 : S_.BroadcastsInDim S1x1024x3600 (![] : Fin 0 → Fin S1x1024x3600.rank)
  bcast_S_S1x4x1536 : S_.BroadcastsInDim S1x4x1536 (![] : Fin 0 → Fin S1x4x1536.rank)
  bcast_S_S1x1024 : S_.BroadcastsInDim S1x1024 (![] : Fin 0 → Fin S1x1024.rank)

variable [Facts]

def fn {F : FTy → Type} [FloatOps F] (main_arg0 : FVec F S16x2048x1024 .f32) (main_arg1 : FVec F S1x1024x3600 .f32) (main_arg2 : FVec F S1x4x1536 .f32) (main_arg3 : FVec F S1x8 .f32) (main_arg4 : FVec F S1x8 .f32) (main_arg5 : FVec F S1x1024 .f32) : IVec S1x1024x3600 1 × IVec S1x4x1536 1 × IVec S1x1024 1 :=
  let main_v0 : FVec F S1x1024x3600 .f32 := Host.absf main_arg1
  let main_cst : FVec F S_ .f32 := constant S_ .f32 0x7F800000#32
  let main_v1 : FVec F S1x1024x3600 .f32 := broadcastInDim S1x1024x3600 ![] bcast_S_S1x1024x3600 main_cst
  let main_v2 : IVec S1x1024x3600 1 := cmpf .olt main_v0 main_v1
  let main_v3 : FVec F S1x4x1536 .f32 := Host.absf main_arg2
  let main_cst_0 : FVec F S_ .f32 := constant S_ .f32 0x7F800000#32
  let main_v4 : FVec F S1x4x1536 .f32 := broadcastInDim S1x4x1536 ![] bcast_S_S1x4x1536 main_cst_0
  let main_v5 : IVec S1x4x1536 1 := cmpf .olt main_v3 main_v4
  let main_v6 : FVec F S1x1024 .f32 := Host.absf main_arg5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Kernel.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S16x8x256x512 : Shape := ⟨4, ![16, 8, 256, 512]⟩
abbrev S16x8x512x256 : Shape := ⟨4, ![16, 8, 512, 256]⟩
abbrev S16x4x512x256 : Shape := ⟨4, ![16, 4, 512, 256]⟩
abbrev S16x4x1x512x256 : Shape := ⟨5, ![16, 4, 1, 512, 256]⟩
abbrev S16x4x2x512x256 : Shape := ⟨5, ![16, 4, 2, 512, 256]⟩
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S1x1x512x256 : Shape := ⟨4, ![1, 1, 512, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 35
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S16x8x256x512, .f32⟩
  | .hbm, ⟨10, _⟩ => ⟨S16x8x512x256, .f32⟩
  | .hbm, ⟨11, _⟩ => ⟨S16x4x512x256, .f32⟩
  | .hbm, ⟨12, _⟩ => ⟨S16x4x512x256, .f32⟩
  | .hbm, ⟨13, _⟩ => ⟨S16x4x512x256, .f32⟩
  | .hbm, ⟨14, _⟩ => ⟨S16x4x1x512x256, .f32⟩
  | .hbm, ⟨15, _⟩ => ⟨S16x4x1x512x256, .f32⟩
  | .hbm, ⟨16, _⟩ => ⟨S16x4x2x512x256, .f32⟩
  | .hbm, ⟨17, _⟩ => ⟨S16x8x512x256, .f32⟩
  | .hbm, ⟨18, _⟩ => ⟨S32768x1024, .f32⟩
  | .hbm, ⟨19, _⟩ => ⟨S32768x512, .f32⟩
  | .hbm, ⟨20, _⟩ => ⟨S1024x1024, .f32⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024x4096, .f32⟩
  | .hbm, ⟨31, _⟩ => ⟨S1024x4096, .bf16⟩
  | .hbm, ⟨32, _⟩ => ⟨S4096x1024, .f32⟩
  | .hbm, ⟨33, _⟩ => ⟨S4096x1024, .bf16⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x512x256, .f32⟩
  | .local _ .vmem, ⟨5, _⟩ => ⟨S1x1x512x256, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let v11 : BitVec 32 := Scalar.addi v10 c0_i32_3
  let c4_i32_4 : BitVec 32 := 4#32
  let v12 : BitVec 32 := Scalar.divsi arg0 c4_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi arg0 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt v11 c4_i32_11
  let c2_i32_12 : BitVec 32 := 2#32
  let v30 : BitVec 32 := Scalar.muli c2_i32_12 v11
  let c7_i32 : BitVec 32 := 7#32
  let v31 : BitVec 32 := Scalar.subi c7_i32 v11
  let c2_i32_13 : BitVec 32 := 2#32
  let v32 : BitVec 32 := Scalar.muli c2_i32_13 v31
  let c1_i32_14 : BitVec 32 := 1#32
  let v33 : BitVec 32 := Scalar.addi v32 c1_i32_14
  let v34 : BitVec 32 := Scalar.select v29 v30 v33
  let c0_i32_15 : BitVec 32 := 0#32
  let c0_i32_16 : BitVec 32 := 0#32
  let c0_i32_17 : BitVec 32 := 0#32
  ![v28.toNat, v34.toNat, c0_i32_15.toNat, c0_i32_16.toNat]

def cc0_transform_2 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c1_i32_3 : BitVec 32 := 1#32
  let v11 : BitVec 32 := Scalar.addi v10 c1_i32_3
  let c4_i32_4 : BitVec 32 := 4#32
  let v12 : BitVec 32 := Scalar.divsi arg0 c4_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi arg0 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt v11 c4_i32_11
  let c2_i32_12 : BitVec 32 := 2#32
  let v30 : BitVec 32 := Scalar.muli c2_i32_12 v11
  let c7_i32 : BitVec 32 := 7#32
  let v31 : BitVec 32 := Scalar.subi c7_i32 v11
  let c2_i32_13 : BitVec 32 := 2#32
  let v32 : BitVec 32 := Scalar.muli c2_i32_13 v31
  let c1_i32_14 : BitVec 32 := 1#32
  let v33 : BitVec 32 := Scalar.addi v32 c1_i32_14
  let v34 : BitVec 32 := Scalar.select v29 v30 v33
  let c0_i32_15 : BitVec 32 := 0#32
  let c0_i32_16 : BitVec 32 := 0#32
  let c0_i32_17 : BitVec 32 := 0#32
  ![v28.toNat, v34.toNat, c0_i32_15.toNat, c0_i32_16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩
abbrev S32768x1024 : Shape := ⟨2, ![32768, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S16x2048x1024, .f32⟩
  | .hbm, ⟨10, _⟩ => ⟨S1024x1024, .f32⟩
  | .hbm, ⟨11, _⟩ => ⟨S16x2048x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S1024x4096, .f32⟩
  | .hbm, ⟨48, _⟩ => ⟨S16x2048x4096, .f32⟩
  | .hbm, ⟨49, _⟩ => ⟨S_, .f32⟩
  | .hbm, ⟨50, _⟩ => ⟨S16x2048x4096, .f32⟩
  | .hbm, ⟨51, _⟩ => ⟨S16x2048x4096, .f32⟩
  | .hbm, ⟨52, _⟩ => ⟨S16x2048x4096, .f32⟩
  | .hbm, ⟨53, _⟩ => ⟨S4096x1024, .f32⟩
  | .hbm, ⟨54, _⟩ => ⟨S16x2048x1024, .f32⟩
  | .hbm, ⟨55, _⟩ => ⟨S1024, .f32⟩
  | .hbm, ⟨56, _⟩ => ⟨S16x2048x1024, .f32⟩
  | .hbm, ⟨57, _⟩ => ⟨S_, .f32⟩
  | .hbm, ⟨58, _⟩ => ⟨S16x2048, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1, .f32⟩
  | .hbm, ⟨67, _⟩ => ⟨S16x2048x1024, .f32⟩
  | .hbm, ⟨68, _⟩ => ⟨S16x2048x1024, .f32⟩
  | .hbm, ⟨69, _⟩ => ⟨S1x1x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel2.lean ====
abbrev S8x32 : Shape := ⟨2, ![8, 32]⟩
abbrev S16x8x512x256 : Shape := ⟨4, ![16, 8, 512, 256]⟩
abbrev S32768x512 : Shape := ⟨2, ![32768, 512]⟩
abbrev S64x8x512 : Shape := ⟨3, ![64, 8, 512]⟩
abbrev S16x8x8x80x256 : Shape := ⟨5, ![16, 8, 8, 80, 256]⟩
abbrev S32768x1536 : Shape := ⟨2, ![32768, 1536]⟩
abbrev S32768x128 : Shape := ⟨2, ![32768, 128]⟩
abbrev S1x64 : Shape := ⟨2, ![1, 64]⟩
abbrev S16x2048x512 : Shape := ⟨3, ![16, 2048, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S1x2x128x256 : Shape := ⟨4, ![1, 2, 128, 256]⟩
abbrev S1x2048x128 : Shape := ⟨3, ![1, 2048, 128]⟩
abbrev S4x8x128 : Shape := ⟨3, ![4, 8, 128]⟩
abbrev S1x8x2x80x256 : Shape := ⟨5, ![1, 8, 2, 80, 256]⟩
abbrev S256x1536 : Shape := ⟨2, ![256, 1536]⟩
abbrev S256x128 : Shape := ⟨2, ![256, 128]⟩
abbrev S256x512 : Shape := ⟨2, ![256, 512]⟩
abbrev S1x4x128x256 : Shape := ⟨4, ![1, 4, 128, 256]⟩
abbrev S2x2x256x256 : Shape := ⟨4, ![2, 2, 256, 256]⟩
abbrev S2x2x16x256 : Shape := ⟨4, ![2, 2, 16, 256]⟩
abbrev S2x2x2x128x256 : Shape := ⟨5, ![2, 2, 2, 128, 256]⟩
abbrev S4x2x9x256x256 : Shape := ⟨5, ![4, 2, 9, 256, 256]⟩
abbrev S4x2x16x256 : Shape := ⟨4, ![4, 2, 16, 256]⟩
abbrev S2x256x512 : Shape := ⟨3, ![2, 256, 512]⟩
abbrev S2x4x128x512 : Shape := ⟨4, ![2, 4, 128, 512]⟩
abbrev S2x32x512 : Shape := ⟨3, ![2, 32, 512]⟩
abbrev S4x128x128 : Shape := ⟨3, ![4, 128, 128]⟩
abbrev S256x256 : Shape := ⟨2, ![256, 256]⟩
abbrev S64x128 : Shape := ⟨2, ![64, 128]⟩
abbrev S64x256 : Shape := ⟨2, ![64, 256]⟩
abbrev S128x128 : Shape := ⟨2, ![128, 128]⟩
abbrev S1x1 : Shape := ⟨2, ![1, 1]⟩
abbrev S1x1x256x256 : Shape := ⟨4, ![1, 1, 256, 256]⟩
abbrev S8x256 : Shape := ⟨2, ![8, 256]⟩
abbrev S128x256 : Shape := ⟨2, ![128, 256]⟩
abbrev S1x1x128 : Shape := ⟨3, ![1, 1, 128]⟩
abbrev S1x128 : Shape := ⟨2, ![1, 128]⟩
abbrev S8x128 : Shape := ⟨2, ![8, 128]⟩
abbrev S16x128 : Shape := ⟨2, ![16, 128]⟩
abbrev S1x1x128x256 : Shape := ⟨4, ![1, 1, 128, 256]⟩
abbrev S16x256 : Shape := ⟨2, ![16, 256]⟩
abbrev S1x256 : Shape := ⟨2, ![1, 256]⟩
abbrev S1x1x8x256 : Shape := ⟨4, ![1, 1, 8, 256]⟩
abbrev S1x1x1x128x256 : Shape := ⟨5, ![1, 1, 1, 128, 256]⟩
abbrev S1x256x128 : Shape := ⟨3, ![1, 256, 128]⟩
abbrev S1x1x1x256x256 : Shape := ⟨5, ![1, 1, 1, 256, 256]⟩
abbrev S256 : Shape := ⟨1, ![256]⟩
abbrev S1024x256 : Shape := ⟨2, ![1024, 256]⟩
abbrev S1x1x1x256 : Shape := ⟨4, ![1, 1, 1, 256]⟩
abbrev S256x1 : Shape := ⟨2, ![256, 1]⟩
abbrev S256x1024 : Shape := ⟨2, ![256, 1024]⟩
abbrev S64x512 : Shape := ⟨2, ![64, 512]⟩
abbrev S1x64x512 : Shape := ⟨3, ![1, 64, 512]⟩
abbrev S8x512 : Shape := ⟨2, ![8, 512]⟩
abbrev S1x8x512 : Shape := ⟨3, ![1, 8, 512]⟩
abbrev S1x64x128 : Shape := ⟨3, ![1, 64, 128]⟩
abbrev S1x1x64x128 : Shape := ⟨4, ![1, 1, 64, 128]⟩
abbrev S1x128x128 : Shape := ⟨3, ![1, 128, 128]⟩
abbrev S1x1x128x128 : Shape := ⟨4, ![1, 1, 128, 128]⟩
abbrev S1x1x1x80x256 : Shape := ⟨5, ![1, 1, 1, 80, 256]⟩
abbrev S80x256 : Shape := ⟨2, ![80, 256]⟩
abbrev S1x1x64x256 : Shape := ⟨4, ![1, 1, 64, 256]⟩

abbrev nBuf : Space → Nat
  | .hbm => 17
  | .vmem => 32
  | .smem => 1
  | _ => 0

abbrev bufTy : (tb : Table) → Fin (tcTables nBuf tb) → BufTy
  | .hbm, ⟨0, _⟩ => ⟨S8x32, .f32⟩
  | .hbm, ⟨1, _⟩ => ⟨S16x8x512x256, .f32⟩
  | .hbm, ⟨2, _⟩ => ⟨S32768x512, .bf16⟩
  | .hbm, ⟨3, _⟩ => ⟨S64x8x512, .f32⟩
  | .hbm, ⟨4, _⟩ => ⟨S16x8x8x80x256, .bf16⟩
  | .hbm, ⟨5, _⟩ => ⟨S32768x1536, .f32⟩
  | .hbm, ⟨6, _⟩ => ⟨S32768x512, .f32⟩
  | .hbm, ⟨7, _⟩ => ⟨S32768x128, .f32⟩
  | .hbm, ⟨8, _⟩ => ⟨S1x64, .f32⟩
  | .hbm, ⟨9, _⟩ => ⟨S16x2048x512, .bf16⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S16x8x512x256, .f32⟩
  | .hbm, ⟨16, _⟩ => ⟨S32768x512, .f32⟩
  | .local _ .vmem, ⟨0, _⟩ => ⟨S1x2x128x256, .f32⟩
  | .local _ .vmem, ⟨1, _⟩ => ⟨S1x2x128x256, .f32⟩
  | .local _ .vmem, ⟨2, _⟩ => ⟨S1x2x128x256, .f32⟩
  | .local _ .vmem, ⟨3, _⟩ => ⟨S1x2x128x256, .f32⟩
  | .local _ .vmem, ⟨4, _⟩ => ⟨S1x2048x128, .bf16⟩
  | .local _ .vmem, ⟨5, _⟩ => ⟨S1x2048x128, .bf16⟩
  | .local _ .vmem, ⟨6, _⟩ => ⟨S4x8x128, .f32⟩
  | .local _ .vmem, ⟨7, _⟩ => ⟨S4x8x128, .f32⟩
  | .local _ .vmem, ⟨8, _⟩ => ⟨S1x8x2x80x256, .bf16⟩
  | .local _ .vmem, ⟨9, _⟩ => ⟨S1x8x2x80x256, .bf16⟩
  | .local _ .vmem, ⟨10, _⟩ => ⟨S256x1536, .f32⟩
  | .local _ .vmem, ⟨11, _⟩ => ⟨S256x1536, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S1x512, .f32⟩
  | .local _ .vmem, ⟨17, _⟩ => ⟨S1x4x128x256, .f32⟩
  | .local _ .vmem, ⟨18, _⟩ => ⟨S1x4x128x256, .f32⟩
  | .local _ .vmem, ⟨19, _⟩ => ⟨S256x512, .f32⟩
  | .local _ .vmem, ⟨20, _⟩ => ⟨S256x512, .f32⟩
  | .local _ .vmem, ⟨21, _⟩ => ⟨S2x2x256x256, .f32⟩
  | .local _ .vmem, ⟨22, _⟩ => ⟨S2x2x16x256, .f32⟩
  | .local _ .vmem, ⟨23, _⟩ => ⟨S2x2x2x128x256, .bf16⟩
  | .local _ .vmem, ⟨24, _⟩ => ⟨S4x2x9x256x256, .f32⟩
  | .local _ .vmem, ⟨25, _⟩ => ⟨S4x2x16x256, .f32⟩
  | .local _ .vmem, ⟨26, _⟩ => ⟨S2x256x512, .f32⟩
  | .local _ .vmem, ⟨27, _⟩ => ⟨S2x4x128x512, .bf16⟩
  | .local _ .vmem, ⟨28, _⟩ => ⟨S2x256x512, .bf16⟩
  | .local _ .vmem, ⟨29, _⟩ => ⟨S2x256x512, .bf16⟩
  | .local _ .vmem, ⟨30, _⟩ => ⟨S2x32x512, .f32⟩
  | .local _ .vmem, ⟨31, _⟩ => ⟨S4x128x128, .f32⟩
  | .local _ .smem, ⟨0, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c127_i32 : BitVec 32 := 127#32
  let v0 : BitVec 32 := Scalar.minsi arg0 c127_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c2_i32 : BitVec 32 := 2#32
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let v18 : BitVec 32 := Scalar.divsi v0 c2_i32
  let c1_i32_9 : BitVec 32 := 1#32
  let v33 : BitVec 32 := Scalar.subi v18 c1_i32_9
  let v34 : BitVec 32 := Scalar.select v32 v33 v18
  let c16_i32 : BitVec 32 := 16#32
  let c0_i32_10 : BitVec 32 := 0#32
  let v35 : BitVec 1 := Scalar.cmpi .eq c16_i32 c0_i32_10
  let c1_i32_11 : BitVec 32 := 1#32
  let v36 : BitVec 32 := Scalar.select v35 c1_i32_11 c16_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let c0_i32_109 : BitVec 32 := 0#32
  let v331 : BitVec 1 := Scalar.cmpi .eq v44 c0_i32_109
  let c2_i32_15 : BitVec 32 := 2#32
  let c0_i32_16 : BitVec 32 := 0#32
  let v46 : BitVec 1 := Scalar.cmpi .eq c2_i32_15 c0_i32_16
  let c1_i32_17 : BitVec 32 := 1#32
  let v47 : BitVec 32 := Scalar.select v46 c1_i32_17 c2_i32_15
  let v48 : BitVec 32 := Scalar.remsi v0 v47
  let c0_i32_19 : BitVec 32 := 0#32
  let v50 : BitVec 1 := Scalar.cmpi .slt v48 c0_i32_19
  let c0_i32_20 : BitVec 32 := 0#32
  let v51 : BitVec 1 := Scalar.cmpi .slt v47 c0_i32_20
  let v52 : BitVec 1 := Scalar.xori v50 v51
  let c0_i32_18 : BitVec 32 := 0#32
  let v49 : BitVec 1 := Scalar.cmpi .ne v48 c0_i32_18
  let v53 : BitVec 1 := Scalar.andi v52 v49
  let v54 : BitVec 32 := Scalar.addi v48 v47
  let v55 : BitVec 32 := Scalar.select v53 v54 v48
  let c0_i32_21 : BitVec 32 := 0#32
  let v56 : BitVec 1 := Scalar.cmpi .eq v55 c0_i32_21
  let v332 : BitVec 1 := Scalar.andi v331 v56
  let c128_i32 : BitVec 32 := 128#32
  let v45 : BitVec 1 := Scalar.cmpi .slt arg0 c128_i32
  let v333 : BitVec 1 := Scalar.andi v332 v45
  let v334 : BitVec 32 := Scalar.extui v333
  let c0_i32_110 : BitVec 32 := 0#32
  let v335 : BitVec 1 := Scalar.cmpi .ne v334 c0_i32_110
  v335

def k0_off1 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v383 : Index := Scalar.indexCast v379
  let c31 : Index := 31#32
  ![v383.toNat, 31]
def k0_off2 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v388 : Index := Scalar.indexCast v379
  let c30 : Index := 30#32
  ![v388.toNat, 30]
def k0_off3 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v394 : Index := Scalar.indexCast v379
  let c29 : Index := 29#32
  ![v394.toNat, 29]
def k0_off4 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v400 : Index := Scalar.indexCast v379
  let c28 : Index := 28#32
  ![v400.toNat, 28]
def k0_off5 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v406 : Index := Scalar.indexCast v379
  let c27 : Index := 27#32
  ![v406.toNat, 27]
def k0_off6 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v412 : Index := Scalar.indexCast v379
  let c26 : Index := 26#32
  ![v412.toNat, 26]
def k0_off7 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v418 : Index := Scalar.indexCast v379
  let c25 : Index := 25#32
  ![v418.toNat, 25]
def k0_off8 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v424 : Index := Scalar.indexCast v379
  let c24 : Index := 24#32
  ![v424.toNat, 24]
def k0_off9 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v430 : Index := Scalar.indexCast v379
  let c23 : Index := 23#32
  ![v430.toNat, 23]
def k0_off10 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v436 : Index := Scalar.indexCast v379
  let c22 : Index := 22#32
  ![v436.toNat, 22]
def k0_off11 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v442 : Index := Scalar.indexCast v379
  let c21 : Index := 21#32
  ![v442.toNat, 21]
def k0_off12 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v448 : Index := Scalar.indexCast v379
  let c20 : Index := 20#32
  ![v448.toNat, 20]
def k0_off13 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v454 : Index := Scalar.indexCast v379
  let c19 : Index := 19#32
  ![v454.toNat, 19]
def k0_off14 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v460 : Index := Scalar.indexCast v379
  let c18 : Index := 18#32
  ![v460.toNat, 18]
def k0_off15 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v466 : Index := Scalar.indexCast v379
  let c17 : Index := 17#32
  ![v466.toNat, 17]
def k0_off16 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v472 : Index := Scalar.indexCast v379
  let c16 : Index := 16#32
  ![v472.toNat, 16]
def k0_off17 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v478 : Index := Scalar.indexCast v379
  let c15 : Index := 15#32
  ![v478.toNat, 15]
def k0_off18 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v484 : Index := Scalar.indexCast v379
  let c14 : Index := 14#32
  ![v484.toNat, 14]
def k0_off19 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v490 : Index := Scalar.indexCast v379
  let c13 : Index := 13#32
  ![v490.toNat, 13]
def k0_off20 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v496 : Index := Scalar.indexCast v379
  let c12 : Index := 12#32
  ![v496.toNat, 12]
def k0_off21 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v502 : Index := Scalar.indexCast v379
  let c11 : Index := 11#32
  ![v502.toNat, 11]
def k0_off22 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v508 : Index := Scalar.indexCast v379
  let c10 : Index := 10#32
  ![v508.toNat, 10]
def k0_off23 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v514 : Index := Scalar.indexCast v379
  let c9 : Index := 9#32
  ![v514.toNat, 9]
def k0_off24 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v520 : Index := Scalar.indexCast v379
  let c8 : Index := 8#32
  ![v520.toNat, 8]
def k0_off25 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v526 : Index := Scalar.indexCast v379
  let c7 : Index := 7#32
  ![v526.toNat, 7]
def k0_off26 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v532 : Index := Scalar.indexCast v379
  let c6 : Index := 6#32
  ![v532.toNat, 6]
def k0_off27 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v538 : Index := Scalar.indexCast v379
  let c5 : Index := 5#32
  ![v538.toNat, 5]
def k0_off28 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v544 : Index := Scalar.indexCast v379
  let c4 : Index := 4#32
  ![v544.toNat, 4]
def k0_off29 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v550 : Index := Scalar.indexCast v379
  let c3 : Index := 3#32
  ![v550.toNat, 3]
def k0_off30 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v556 : Index := Scalar.indexCast v379
  let c2 : Index := 2#32
  ![v556.toNat, 2]
def k0_off31 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v562 : Index := Scalar.indexCast v379
  let c1 : Index := 1#32
  ![v562.toNat, 1]
def k0_off32 (i : grid0.Coords) (c0_i32_136 : BitVec 32) : Fin 2 → Nat :=
  let c2_i32_135 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v378 : BitVec 32 := Scalar.muli c2_i32_135 v17
  let v379 : BitVec 32 := Scalar.addi v378 c0_i32_136
  let v568 : Index := Scalar.indexCast v379
  let c0 : Index := 0#32
  ![v568.toNat, 0]
def k0_cond2 (i : grid0.Coords) : BitVec 1 :=
  let arg0 : BitVec 32 := BitVec.ofNat 32 (i 0).val
  let c0_i32_111 : BitVec 32 := 0#32
  let v336 : BitVec 1 := Scalar.cmpi .eq arg0 c0_i32_111
  let v337 : BitVec 32 := Scalar.extui v336
  let c0_i32_112 : BitVec 32 := 0#32
  let v338 : BitVec 1 := Scalar.cmpi .ne v337 c0_i32_112
  v338

def k0_off33 (i : grid0.Coords) (c0_i32_416 : BitVec 32) : Fin 2 → Nat :=
  let c2_i32_415 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v1114 : BitVec 32 := Scalar.muli c2_i32_415 v17
  let v1115 : BitVec 32 := Scalar.addi v1114 c0_i32_416
  let v1116 : Index := Scalar.indexCast v1115
  let c31 : Index := 31#32
  ![v1116.toNat, 31]
def k0_cond3 (i : grid0.Coords) : BitVec 1 :=
  let arg0 : BitVec 32 := BitVec.ofNat 32 (i 0).val
  let c0_i32_113 : BitVec 32 := 0#32
  let v339 : BitVec 1 := Scalar.cmpi .sgt arg0 c0_i32_113
  let c128_i32_114 : BitVec 32 := 128#32
  let v340 : BitVec 1 := Scalar.cmpi .slt arg0 c128_i32_114
  let v341 : BitVec 1 := Scalar.andi v339 v340
  let c2_i32_115 : BitVec 32 := 2#32
  let c0_i32_116 : BitVec 32 := 0#32
  let v342 : BitVec 1 := Scalar.cmpi .eq c2_i32_115 c0_i32_116
  let c1_i32_117 : BitVec 32 := 1#32
  let v343 : BitVec 32 := Scalar.select v342 c1_i32_117 c2_i32_115
  let v344 : BitVec 32 := Scalar.remsi arg0 v343
  let c0_i32_119 : BitVec 32 := 0#32
  let v346 : BitVec 1 := Scalar.cmpi .slt v344 c0_i32_119
  let c0_i32_120 : BitVec 32 := 0#32
  let v347 : BitVec 1 := Scalar.cmpi .slt v343 c0_i32_120
  let v348 : BitVec 1 := Scalar.xori v346 v347
  let c0_i32_118 : BitVec 32 := 0#32
  let v345 : BitVec 1 := Scalar.cmpi .ne v344 c0_i32_118
  let v349 : BitVec 1 := Scalar.andi v348 v345
  let v350 : BitVec 32 := Scalar.addi v344 v343
  let v351 : BitVec 32 := Scalar.select v349 v350 v344
  let c0_i32_121 : BitVec 32 := 0#32
  let v352 : BitVec 1 := Scalar.cmpi .eq v351 c0_i32_121
  let v353 : BitVec 1 := Scalar.andi v341 v352
  let v354 : BitVec 32 := Scalar.extui v353
  let c0_i32_122 : BitVec 32 := 0#32
  let v355 : BitVec 1 := Scalar.cmpi .ne v354 c0_i32_122
  v355

def k0_off34 (i : grid0.Coords) (c0_i32_621 : BitVec 32) : Fin 2 → Nat :=
  let c2_i32_620 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v1368 : BitVec 32 := Scalar.muli c2_i32_620 v17
  let v1369 : BitVec 32 := Scalar.addi v1368 c0_i32_621
  let v1370 : Index := Scalar.indexCast v1369
  let c31 : Index := 31#32
  ![v1370.toNat, 31]
def k0_cond4 (i : grid0.Coords) : BitVec 1 :=
  let arg0 : BitVec 32 := BitVec.ofNat 32 (i 0).val
  let c0_i32_123 : BitVec 32 := 0#32
  let v356 : BitVec 1 := Scalar.cmpi .sgt arg0 c0_i32_123
  let c128_i32_124 : BitVec 32 := 128#32
  let v357 : BitVec 1 := Scalar.cmpi .slt arg0 c128_i32_124
  let v358 : BitVec 1 := Scalar.andi v356 v357
  let c2_i32_125 : BitVec 32 := 2#32
  let c0_i32_126 : BitVec 32 := 0#32
  let v359 : BitVec 1 := Scalar.cmpi .eq c2_i32_125 c0_i32_126
  let c1_i32_127 : BitVec 32 := 1#32
  let v360 : BitVec 32 := Scalar.select v359 c1_i32_127 c2_i32_125
  let v361 : BitVec 32 := Scalar.remsi arg0 v360
  let c0_i32_129 : BitVec 32 := 0#32
  let v363 : BitVec 1 := Scalar.cmpi .slt v361 c0_i32_129
  let c0_i32_130 : BitVec 32 := 0#32
  let v364 : BitVec 1 := Scalar.cmpi .slt v360 c0_i32_130
  let v365 : BitVec 1 := Scalar.xori v363 v364
  let c0_i32_128 : BitVec 32 := 0#32
  let v362 : BitVec 1 := Scalar.cmpi .ne v361 c0_i32_128
  let v366 : BitVec 1 := Scalar.andi v365 v362
  let v367 : BitVec 32 := Scalar.addi v361 v360
  let v368 : BitVec 32 := Scalar.select v366 v367 v361
  let c1_i32_131 : BitVec 32 := 1#32
  let v369 : BitVec 1 := Scalar.cmpi .eq v368 c1_i32_131
  let v370 : BitVec 1 := Scalar.andi v358 v369
  let v371 : BitVec 32 := Scalar.extui v370
  let c0_i32_132 : BitVec 32 := 0#32
  let v372 : BitVec 1 := Scalar.cmpi .ne v371 c0_i32_132
  v372

def k0_off35 (i : grid0.Coords) (c0_i32_645 : BitVec 32) : Fin 2 → Nat :=
  let c2_i32_644 : BitVec 32 := 2#32
  let arg0 : BitVec 32 := BitVec.ofNat 32 (i 0).val
  let c127_i32 : BitVec 32 := 127#32
  let v0 : BitVec 32 := Scalar.minsi arg0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let v1 : BitVec 32 := Scalar.divsi v0 c32_i32
  let c1_i32 : BitVec 32 := 1#32
  let v16 : BitVec 32 := Scalar.subi v1 c1_i32
  let v17 : BitVec 32 := Scalar.select v15 v16 v1
  let v1384 : BitVec 32 := Scalar.muli c2_i32_644 v17
  let v1385 : BitVec 32 := Scalar.addi v1384 c0_i32_645
  let v1386 : Index := Scalar.indexCast v1385
  let c31 : Index := 31#32
  ![v1386.toNat, 31]
def k0_cond5 (i : grid0.Coords) : BitVec 1 :=
  let arg0 : BitVec 32 := BitVec.ofNat 32 (i 0).val
  let c128_i32_133 : BitVec 32 := 128#32
  let v373 : BitVec 1 := Scalar.cmpi .eq arg0 c128_i32_133
  let v374 : BitVec 32 := Scalar.extui v373
  let c0_i32_134 : BitVec 32 := 0#32
  let v375 : BitVec 1 := Scalar.cmpi .ne v374 c0_i32_134
  v375

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32 : BitVec 32 := 16#32
  let c0_i32_10 : BitVec 32 := 0#32
  let v35 : BitVec 1 := Scalar.cmpi .eq c16_i32 c0_i32_10
  let c1_i32_11 : BitVec 32 := 1#32
  let v36 : BitVec 32 := Scalar.select v35 c1_i32_11 c16_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v44.toNat, v54.toNat, v17.toNat, c0_i32_21.toNat]

def cc0_transform_2 (i : grid0.Coords) : Fin 4 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32 : BitVec 32 := 16#32
  let c0_i32_10 : BitVec 32 := 0#32
  let v35 : BitVec 1 := Scalar.cmpi .eq c16_i32 c0_i32_10
  let c1_i32_11 : BitVec 32 := 1#32
  let v36 : BitVec 32 := Scalar.select v35 c1_i32_11 c16_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c3_i32 : BitVec 32 := 3#32
  let v55 : BitVec 32 := Scalar.subi c3_i32 v54
  let c0_i32_21 : BitVec 32 := 0#32
  let c0_i32_22 : BitVec 32 := 0#32
  ![v44.toNat, v55.toNat, v17.toNat, c0_i32_21.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32 : BitVec 32 := 16#32
  let c0_i32_10 : BitVec 32 := 0#32
  let v35 : BitVec 1 := Scalar.cmpi .eq c16_i32 c0_i32_10
  let c1_i32_11 : BitVec 32 := 1#32
  let v36 : BitVec 32 := Scalar.select v35 c1_i32_11 c16_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v44.toNat, c0_i32_21.toNat, v17.toNat]

def cc0_transform_4 (i : grid0.Coords) : Fin 3 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32 : BitVec 32 := 16#32
  let c0_i32_10 : BitVec 32 := 0#32
  let v35 : BitVec 1 := Scalar.cmpi .eq c16_i32 c0_i32_10
  let c1_i32_11 : BitVec 32 := 1#32
  let v36 : BitVec 32 := Scalar.select v35 c1_i32_11 c16_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v44.toNat, c0_i32_21.toNat, v17.toNat]

def cc0_transform_5 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.divsi v1 c2_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c2_i32 c0_i32_8
  let v26 : BitVec 32 := Scalar.extui v25
  let c0_i32_9 : BitVec 32 := 0#32
  let v27 : BitVec 1 := Scalar.cmpi .slt c2_i32 c0_i32_9
  let v28 : BitVec 32 := Scalar.extui v27
  let v29 : BitVec 32 := Scalar.subi v26 v28
  let v30 : BitVec 1 := Scalar.cmpi .ne v24 v29
  let v31 : BitVec 32 := Scalar.remsi v1 c2_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c16_i32 : BitVec 32 := 16#32
  let c0_i32_12 : BitVec 32 := 0#32
  let v36 : BitVec 1 := Scalar.cmpi .eq c16_i32 c0_i32_12
  let c1_i32_13 : BitVec 32 := 1#32
  let v37 : BitVec 32 := Scalar.select v36 c1_i32_13 c16_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  let c0_i32_26 : BitVec 32 := 0#32
  ![v45.toNat, c0_i32_23.toNat, v18.toNat, c0_i32_24.toNat, c0_i32_25.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.divsi v1 c2_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c2_i32 c0_i32_8
  let v26 : BitVec 32 := Scalar.extui v25
  let c0_i32_9 : BitVec 32 := 0#32
  let v27 : BitVec 1 := Scalar.cmpi .slt c2_i32 c0_i32_9
  let v28 : BitVec 32 := Scalar.extui v27
  let v29 : BitVec 32 := Scalar.subi v26 v28
  let v30 : BitVec 1 := Scalar.cmpi .ne v24 v29
  let v31 : BitVec 32 := Scalar.remsi v1 c2_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c16_i32 : BitVec 32 := 16#32
  let c0_i32_12 : BitVec 32 := 0#32
  let v36 : BitVec 1 := Scalar.cmpi .eq c16_i32 c0_i32_12
  let c1_i32_13 : BitVec 32 := 1#32
  let v37 : BitVec 32 := Scalar.select v36 c1_i32_13 c16_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v45.toNat, v55.toNat, v18.toNat, c0_i32_23.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3.lean ====
abbrev S16x2048x1024 : Shape := ⟨3, ![16, 2048, 1024]⟩
abbrev S1x1024x3600 : Shape := ⟨3, ![1, 1024, 3600]⟩
abbrev S1x4x1536 : Shape := ⟨3, ![1, 4, 1536]⟩
abbrev S1x8 : Shape := ⟨2, ![1, 8]⟩
abbrev S1x1024 : Shape := ⟨2, ![1, 1024]⟩
abbrev S32768x1024 : Shape := ⟨2, ![32768, 1024]⟩
abbrev S1024x3600 : Shape := ⟨2, ![1024, 3600]⟩
abbrev S1024x512 : Shape := ⟨2, ![1024, 512]⟩
abbrev S512x1024 : Shape := ⟨2, ![512, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024 : Shape := ⟨1, ![1024]⟩
abbrev S4x1536 : Shape := ⟨2, ![4, 1536]⟩
abbrev S8 : Shape := ⟨1, ![8]⟩
abbrev S128 : Shape := ⟨1, ![128]⟩
abbrev S1x128 : Shape := ⟨2, ![1, 128]⟩
abbrev S16x8x512x256 : Shape := ⟨4, ![16, 8, 512, 256]⟩
abbrev S32768x512 : Shape := ⟨2, ![32768, 512]⟩
abbrev S64x8x512 : Shape := ⟨3, ![64, 8, 512]⟩
abbrev S16x8x8x80x256 : Shape := ⟨5, ![16, 8, 8, 80, 256]⟩
abbrev S32768x1536 : Shape := ⟨2, ![32768, 1536]⟩
abbrev S32768x128 : Shape := ⟨2, ![32768, 128]⟩
abbrev S8x1024 : Shape := ⟨2, ![8, 1024]⟩
abbrev S1x2x512x256 : Shape := ⟨4, ![1, 2, 512, 256]⟩
abbrev S512x512 : Shape := ⟨2, ![512, 512]⟩
abbrev S1x8x512 : Shape := ⟨3, ![1, 8, 512]⟩
abbrev S1x2x8x80x256 : Shape := ⟨5, ![1, 2, 8, 80, 256]⟩
abbrev S512x1536 : Shape := ⟨2, ![512, 1536]⟩
abbrev S512x128 : Shape := ⟨2, ![512, 128]⟩
abbrev S8x576x128 : Shape := ⟨3, ![8, 576, 128]⟩
abbrev S3x4x576x128 : Shape := ⟨4, ![3, 4, 576, 128]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S1x1x512 : Shape := ⟨3, ![1, 1, 512]⟩
abbrev S16x256 : Shape := ⟨2, ![16, 256]⟩
abbrev S512x256 : Shape := ⟨2, ![512, 256]⟩
abbrev S1x1x512x256 : Shape := ⟨4, ![1, 1, 512, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x1 : Shape := ⟨2, ![8, 1]⟩
abbrev S8x512 : Shape := ⟨2, ![8, 512]⟩
abbrev S4x512 : Shape := ⟨2, ![4, 512]⟩
abbrev S504x512 : Shape := ⟨2, ![504, 512]⟩
abbrev S496x512 : Shape := ⟨2, ![496, 512]⟩
abbrev S488x512 : Shape := ⟨2, ![488, 512]⟩
abbrev S1x1x8x128 : Shape := ⟨4, ![1, 1, 8, 128]⟩
abbrev S1x1x64x128 : Shape := ⟨4, ![1, 1, 64, 128]⟩

abbrev nBuf : Space → Nat
  | .hbm => 45
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S1x1024x3600, .f32⟩
  | .hbm, ⟨2, _⟩ => ⟨S1x4x1536, .f32⟩
  | .hbm, ⟨3, _⟩ => ⟨S1x8, .f32⟩
  | .hbm, ⟨4, _⟩ => ⟨S1x8, .f32⟩
  | .hbm, ⟨5, _⟩ => ⟨S1x1024, .f32⟩
  | .hbm, ⟨6, _⟩ => ⟨S32768x1024, .f32⟩
  | .hbm, ⟨7, _⟩ => ⟨S1024x3600, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x1536, .f32⟩
  | .hbm, ⟨17, _⟩ => ⟨S1024x1536, .bf16⟩
  | .hbm, ⟨18, _⟩ => ⟨S1024x512, .f32⟩
  | .hbm, ⟨19, _⟩ => ⟨S1024x512, .bf16⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S1024, .f32⟩
  | .hbm, ⟨26, _⟩ => ⟨S1x1024, .f32⟩
  | .hbm, ⟨27, _⟩ => ⟨S4x1536, .f32⟩
  | .hbm, ⟨28, _⟩ => ⟨S8, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S8, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S16x8x512x256, .f32⟩
  | .hbm, ⟨39, _⟩ => ⟨S32768x512, .bf16⟩
  | .hbm, ⟨40, _⟩ => ⟨S64x8x512, .f32⟩
  | .hbm, ⟨41, _⟩ => ⟨S16x8x8x80x256, .bf16⟩
  | .hbm, ⟨42, _⟩ => ⟨S32768x1536, .f32⟩
  | .hbm, ⟨43, _⟩ => ⟨S32768x512, .f32⟩
  | .hbm, ⟨44, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S512x1024, .bf16⟩
  | .local _ .vmem, ⟨6, _⟩ => ⟨S1024x512, .bf16⟩
  | .local _ .vmem, ⟨7, _⟩ => ⟨S512x1024, .bf16⟩
  | .local _ .vmem, ⟨8, _⟩ => ⟨S1024x1536, .bf16⟩
  | .local _ .vmem, ⟨9, _⟩ => ⟨S1024x512, .bf16⟩
  | .local _ .vmem, ⟨10, _⟩ => ⟨S1024x128, .bf16⟩
  | .local _ .vmem, ⟨11, _⟩ => ⟨S4x1536, .f32⟩
  | .local _ .vmem, ⟨12, _⟩ => ⟨S1x128, .f32⟩
  | .local _ .vmem, ⟨13, _⟩ => ⟨S1x128, .f32⟩
  | .local _ .vmem, ⟨14, _⟩ => ⟨S1x2x512x256, .f32⟩
  | .local _ .vmem, ⟨15, _⟩ => ⟨S1x2x512x256, .f32⟩
  | .local _ .vmem, ⟨16, _⟩ => ⟨S512x512, .bf16⟩
  | .local _ .vmem, ⟨17, _⟩ => ⟨S512x512, .bf16⟩
  | .local _ .vmem, ⟨18, _⟩ => ⟨S1x8x512, .f32⟩
  | .local _ .vmem, ⟨19, _⟩ => ⟨S1x8x512, .f32⟩
  | .local _ .vmem, ⟨20, _⟩ => ⟨S1x2x8x80x256, .bf16⟩
  | .local _ .vmem, ⟨21, _⟩ => ⟨S1x2x8x80x256, .bf16⟩
  | .local _ .vmem, ⟨22, _⟩ => ⟨S512x1536, .f32⟩
  | .local _ .vmem, ⟨23, _⟩ => ⟨S512x1536, .f32⟩
  | .local _ .vmem, ⟨24, _⟩ => ⟨S512x512, .f32⟩
  | .local _ .vmem, ⟨25, _⟩ => ⟨S512x512, .f32⟩
  | .local _ .vmem, ⟨26, _⟩ => ⟨S512x128, .f32⟩
  | .local _ .vmem, ⟨27, _⟩ => ⟨S512x128, .f32⟩
  | .local _ .vmem, ⟨28, _⟩ => ⟨S8x576x128, .f32⟩
  | .local _ .vmem, ⟨29, _⟩ => ⟨S3x4x576x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_call2_v0 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev main_v26_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x8x80x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16x2048x1024 : Shape := ⟨3, ![16, 2048, 1024]⟩
abbrev S1x1024x3600 : Shape := ⟨3, ![1, 1024, 3600]⟩
abbrev S1x4x1536 : Shape := ⟨3, ![1, 4, 1536]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3600 : Shape := ⟨2, ![1024, 3600]⟩
abbrev S16x2048x3600 : Shape := ⟨3, ![16, 2048, 3600]⟩
abbrev S16x2048x512 : Shape := ⟨3, ![16, 2048, 512]⟩
abbrev S16x2048x1536 : Shape := ⟨3, ![16, 2048, 1536]⟩
abbrev S16x2048x8 : Shape := ⟨3, ![16, 2048, 8]⟩
abbrev S64x2x256x512 : Shape := ⟨4, ![64, 2, 256, 512]⟩
abbrev S64x2x512 : Shape := ⟨3, ![64, 2, 512]⟩
abbrev S64x6x512 : Shape := ⟨3, ![64, 6, 512]⟩
abbrev S64x8x512 : Shape := ⟨3, ![64, 8, 512]⟩
abbrev S16x8x256x512 : Shape := ⟨4, ![16, 8, 256, 512]⟩
abbrev S16x8x512x256 : Shape := ⟨4, ![16, 8, 512, 256]⟩
abbrev S16x8x256x8x64 : Shape := ⟨5, ![16, 8, 256, 8, 64]⟩
abbrev S16x8x8x64x256 : Shape := ⟨5, ![16, 8, 8, 64, 256]⟩
abbrev S16x8x8x1x256 : Shape := ⟨5, ![16, 8, 8, 1, 256]⟩
abbrev S16x8x8x15x256 : Shape := ⟨5, ![16, 8, 8, 15, 256]⟩
abbrev S16x8x8x80x256 : Shape := ⟨5, ![16, 8, 8, 80, 256]⟩
abbrev S8 : Shape := ⟨1, ![8]⟩
abbrev S1x1x8 : Shape := ⟨3, ![1, 1, 8]⟩
abbrev S16x2048x112 : Shape := ⟨3, ![16, 2048, 112]⟩
abbrev S16x2048x128 : Shape := ⟨3, ![16, 2048, 128]⟩
abbrev S32768x512 : Shape := ⟨2, ![32768, 512]⟩
abbrev S4x1536 : Shape := ⟨2, ![4, 1536]⟩
abbrev S16x2051x1536 : Shape := ⟨3, ![16, 2051, 1536]⟩
abbrev S1x1536 : Shape := ⟨2, ![1, 1536]⟩
abbrev S1536 : Shape := ⟨1, ![1536]⟩
abbrev S1x1x1536 : Shape := ⟨3, ![1, 1, 1536]⟩
abbrev S32768x1536 : Shape := ⟨2, ![32768, 1536]⟩
abbrev S32768x128 : Shape := ⟨2, ![32768, 128]⟩

abbrev nBuf : Space → Nat
  | .hbm => 140
  | .vmem => 0
  | .smem => 0
  | _ => 0

abbrev hbmTy0_0 (i : Nat) : BufTy := match i % 128 with
  | 0 => ⟨S16x2048x1024, .f32⟩
  | 1 => ⟨S1x1024x3600, .f32⟩
  | 2 => ⟨S1x4x1536, .f32⟩
  | 3 => ⟨S1x8, .f32⟩
  | 4 => ⟨S1x8, .f32⟩
  | 5 => ⟨S1x1024, .f32⟩
  | 6 => ⟨S1024, .f32⟩
  | 7 => ⟨S16x2048x1024, .f32⟩
  | 8 => ⟨S_, .f32⟩
  | 9 => ⟨S16x2048, .f32⟩
  | 10 => ⟨S16x2048x1, .f32⟩
  | 11 => ⟨S_, .f32⟩
  | 12 => ⟨S16x2048x1, .f32⟩
  | 13 => ⟨S16x2048x1, .f32⟩
  | 14 => ⟨S_, .f32⟩
  | 15 => ⟨S16x2048x1, .f32⟩
  | 16 => ⟨S16x2048x1, .f32⟩
  | 17 => ⟨S16x2048x1, .f32⟩
  | 18 => ⟨S16x2048x1024, .f32⟩
  | 19 => ⟨S16x2048x1024, .f32⟩
  | 20 => ⟨S1x1x1024, .f32⟩
  | 21 => ⟨S16x2048x1024, .f32⟩
  | 22 => ⟨S16x2048x1024, .f32⟩
  | 23 => ⟨S1024x3600, .f32⟩
  | 24 => ⟨S16x2048x3600, .f32⟩
  | 25 => ⟨S16x2048x512, .f32⟩
  | 26 => ⟨S16x2048x512, .f32⟩
  | 27 => ⟨S16x2048x512, .f32⟩
  | 28 => ⟨S16x2048x1536, .f32⟩
  | 29 => ⟨S16x2048x512, .f32⟩
  | 30 => ⟨S16x2048x8, .f32⟩
  | 31 => ⟨S16x2048x8, .f32⟩
  | 32 => ⟨S64x2x256x512, .f32⟩
  | 33 => ⟨S_, .f32⟩
  | 34 => ⟨S64x2x512, .f32⟩
  | 35 => ⟨S_, .f32⟩
  | 36 => ⟨S64x6x512, .f32⟩
  | 37 => ⟨S64x8x512, .f32⟩
  | 38 => ⟨S16x8x256x512, .f32⟩
  | 39 => ⟨S16x8x512x256, .f32⟩
  | 40 => ⟨S16x8x256x8x64, .f32⟩
  | 41 => ⟨S16x8x8x64x256, .f32⟩
  | 42 => ⟨S_, .f32⟩
  | 43 => ⟨S16x8x8x1x256, .f32⟩
  | 44 => ⟨S_, .f32⟩
  | 45 => ⟨S16x8x8x15x256, .f32⟩
  | 46 => ⟨S16x8x8x80x256, .f32⟩
  | 47 => ⟨S16x2048x8, .f32⟩
  | 48 => ⟨S16x2048x8, .f32⟩
  | 49 => ⟨S_, .f32⟩
  | 50 => ⟨S16x2048x8, .f32⟩
  | 51 => ⟨S16x2048x8, .f32⟩
  | 52 => ⟨S_, .f32⟩
  | 53 => ⟨S16x2048x8, .f32⟩
  | 54 => ⟨S16x2048x8, .f32⟩
  | 55 => ⟨S8, .f32⟩
  | 56 => ⟨S8, .f32⟩
  | 57 => ⟨S8, .f32⟩
  | 58 => ⟨S8, .f32⟩
  | 59 => ⟨S1x1x8, .f32⟩
  | 60 => ⟨S16x2048x8, .f32⟩
  | 61 => ⟨S16x2048x8, .f32⟩
  | 62 => ⟨S_, .f32⟩
  | 63 => ⟨S16x2048x8, .f32⟩
  | 64 => ⟨S16x2048x8, .f32⟩
  | 65 => ⟨S16x2048x8, .f32⟩
  | 66 => ⟨S16x2048x8, .f32⟩
  | 67 => ⟨S16x2048x8, .i1⟩
  | 68 => ⟨S16x2048x8, .f32⟩
  | 69 => ⟨S16x2048x8, .f32⟩
  | 70 => ⟨S16x2048x8, .f32⟩
  | 71 => ⟨S16x2048x8, .f32⟩
  | 72 => ⟨S16x2048x8, .f32⟩
  | 73 => ⟨S16x2048x8, .f32⟩
  | 74 => ⟨S16x2048x8, .f32⟩
  | 75 => ⟨S16x2048x8, .f32⟩
  | 76 => ⟨S1x1x8, .f32⟩
  | 77 => ⟨S16x2048x8, .f32⟩
  | 78 => ⟨S16x2048x8, .f32⟩
  | 79 => ⟨S_, .f32⟩
  | 80 => ⟨S16x2048x112, .f32⟩
  | 81 => ⟨S16x2048x128, .f32⟩
  | 82 => ⟨S32768x512, .f32⟩
  | 83 => ⟨S32768x512, .bf16⟩
  | 84 => ⟨S16x8x8x80x256, .bf16⟩
  | 85 => ⟨S4x1536, .f32⟩
  | 86 => ⟨S_, .i32⟩
  | 87 => ⟨S_, .f32⟩
  | 88 => ⟨S16x2051x1536, .f32⟩
  | 89 => ⟨S16x2048x1536, .f32⟩
  | 90 => ⟨S1x1536, .f32⟩
  | 91 => ⟨S1536, .f32⟩
  | 92 => ⟨S1x1x1536, .f32⟩
  | 93 => ⟨S16x2048x1536, .f32⟩
  | 94 => ⟨S16x2048x1536, .f32⟩
  | 95 => ⟨S_, .f32⟩
  | 96 => ⟨S16x2048x1536, .f32⟩
  | 97 => ⟨S16x2048x1536, .f32⟩
  | 98 => ⟨S16x2048x1536, .f32⟩
  | 99 => ⟨S1x1536, .f32⟩
  | 100 => ⟨S1536, .f32⟩
  | 101 => ⟨S1x1x1536, .f32⟩
  | 102 => ⟨S16x2048x1536, .f32⟩
  | 103 => ⟨S16x2048x1536, .f32⟩
  | 104 => ⟨S16x2048x1536, .f32⟩
  | 105 => ⟨S16x2048x1536, .f32⟩
  | 106 => ⟨S1x1536, .f32⟩
  | 107 => ⟨S1536, .f32⟩
  | 108 => ⟨S1x1x1536, .f32⟩
  | 109 => ⟨S16x2048x1536, .f32⟩
  | 110 => ⟨S16x2048x1536, .f32⟩
  | 111 => ⟨S16x2048x1536, .f32⟩
  | 112 => ⟨S16x2048x1536, .f32⟩
  | 113 => ⟨S1x1536, .f32⟩
  | 114 => ⟨S1536, .f32⟩
  | 115 => ⟨S1x1x1536, .f32⟩
  | 116 => ⟨S16x2048x1536, .f32⟩
  | 117 => ⟨S16x2048x1536, .f32⟩
  | 118 => ⟨S16x2048x1536, .f32⟩
  | 119 => ⟨S16x2048x1536, .f32⟩
  | 120 => ⟨S16x2048x1536, .f32⟩
  | 121 => ⟨S_, .f32⟩
  | 122 => ⟨S16x2048x1536, .f32⟩
  | 123 => ⟨S16x2048x1536, .f32⟩
  | 124 => ⟨S_, .f32⟩
  | 125 => ⟨S16x2048x1536, .f32⟩
  | 126 => ⟨S16x2048x1536, .f32⟩
  | 127 => ⟨S16x2048x1536, .f32⟩
  | _ => ⟨S16x2048x1024, .f32⟩

abbrev hbmTy0_1 (i : Nat) : BufTy := match i % 128 with
  | 0 => ⟨S32768x1536, .f32⟩
  | 1 => ⟨S16x2048x512, .f32⟩
  | 2 => ⟨S16x2048x512, .f32⟩
  | 3 => ⟨S_, .f32⟩
  | 4 => ⟨S16x2048x512, .f32⟩
  | 5 => ⟨S16x2048x512, .f32⟩
  | 6 => ⟨S_, .f32⟩
  | 7 => ⟨S16x2048x512, .f32⟩
  | 8 => ⟨S16x2048x512, .f32⟩
  | 9 => ⟨S16x2048x512, .f32⟩
  | 10 => ⟨S32768x512, .f32⟩
  | 11 => ⟨S32768x128, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call2_v0 : Ref sig .tc := ⟨.hbm, 119, rfl⟩
abbrev main_call2_v1 : Ref sig .tc := ⟨.hbm, 120, rfl⟩
abbrev main_call2_cst : Ref sig .tc := ⟨.hbm, 121, rfl⟩
abbrev main_call2_v2 : Ref sig .tc := ⟨.hbm, 122, rfl⟩
abbrev main_call2_v3 : Ref sig .tc := ⟨.hbm, 123, rfl⟩
abbrev main_call2_cst_0 : Ref sig .tc := ⟨.hbm, 124, rfl⟩
abbrev main_call2_v4 : Ref sig .tc := ⟨.hbm, 125, rfl⟩
abbrev main_call2_v5 : Ref sig .tc := ⟨.hbm, 126, rfl⟩
abbrev main_v87 : Ref sig .tc := ⟨.hbm, 127, rfl⟩
abbrev main_v88 : Ref sig .tc := ⟨.hbm, 128, rfl⟩
abbrev main_call3_v0 : Ref sig .tc := ⟨.hbm, 129, rfl⟩
abbrev main_call3_v1 : Ref sig .tc := ⟨.hbm, 130, rfl⟩
abbrev main_call3_cst : Ref sig .tc := ⟨.hbm, 131, rfl⟩
abbrev main_call3_v2 : Ref sig .tc := ⟨.hbm, 132, rfl⟩
abbrev main_call3_v3 : Ref sig .tc := ⟨.hbm, 133, rfl⟩
abbrev main_call3_cst_0 : Ref sig .tc := ⟨.hbm, 134, rfl⟩
abbrev main_call3_v4 : Ref sig .tc := ⟨.hbm, 135, rfl⟩
abbrev main_call3_v5 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩

abbrev nD : Nat := 1
abbrev τ : Topo := Topo.v7x

variable {F : FTy → Type} [FloatOps F]
-- ==== Proof.Rows.lean ====
/-
  The layer's tail for ONE token, as functions of the token's rows over the extended reals: the output projection of the
  two mixers' rows, the residual with its root-mean-square norm, and the squared-ReLU feed-forward network with its two
  norms. Both programs are read down to `tailRow`; nothing here mentions blocks or programs.
-/
module

public import Idealize.ShloMosaic.Lib.Pointwise

@[expose] public section

noncomputable section

namespace Cert.Tail

open Idealize.ShloMosaic

/-- The number of columns a mean is taken over, as the programs spell it (1024). -/
abbrev width : EReal := Ideal.ofBits FTy.f32 1149239296#32

/-- The small number added under the root. -/
abbrev eps : EReal := Ideal.ofBits FTy.f32 897988541#32

/-- A row divided by the root of its mean square, times the weights. -/
def normed (y w : Fin 1024 → EReal) (d : Fin 1024) : EReal :=
  y d * Ideal.rsqrt (Ideal.div (∑ x, y x * y x) width + eps) * w d

/-- The output projection: the attention row through the first 512 rows of the matrix, the recurrence row through the rest. -/
def projected (oa og : Fin 512 → EReal) (wo : Fin 1024 → Fin 1024 → EReal) (d : Fin 1024) : EReal :=
  ∑ x : Fin 512, oa x * wo ⟨x.val, by omega⟩ d + ∑ x : Fin 512, og x * wo ⟨512 + x.val, by omega⟩ d

/-- One hidden unit: the squared positive part of the row's product with one column. -/
def unit (h : Fin 1024 → EReal) (wu : Fin 1024 → Fin 4096 → EReal) (f : Fin 4096) : EReal :=
  max (∑ x, h x * wu x f) 0 * max (∑ x, h x * wu x f) 0

/-- The feed-forward network of a row. -/
def fed (h : Fin 1024 → EReal) (wu : Fin 1024 → Fin 4096 → EReal) (wd : Fin 4096 → Fin 1024 → EReal) (d : Fin 1024) : EReal :=
  ∑ f, unit h wu f * wd f d

/-- The row after the mixers' residual. -/
def midRow (x : Fin 1024 → EReal) (oa og : Fin 512 → EReal) (wo : Fin 1024 → Fin 1024 → EReal) (n₁ : Fin 1024 → EReal)
    (d : Fin 1024) : EReal :=
  x d + normed (projected oa og wo) n₁ d

/-- The row after the feed-forward network's residual. -/
def lastRow (r n₂ n₃ : Fin 1024 → EReal) (wu : Fin 1024 → Fin 4096 → EReal) (wd : Fin 4096 → Fin 1024 → EReal)
    (d : Fin 1024) : EReal :=
  r d + normed (fed (normed r n₂) wu wd) n₃ d

/-- The layer's tail for one token. -/
def tailRow (x : Fin 1024 → EReal) (oa og : Fin 512 → EReal) (wo : Fin 1024 → Fin 1024 → EReal) (n₁ n₂ n₃ : Fin 1024 → EReal)
    (wu : Fin 1024 → Fin 4096 → EReal) (wd : Fin 4096 → Fin 1024 → EReal) (d : Fin 1024) : EReal :=
  lastRow (midRow x oa og wo n₁) n₂ n₃ wu wd d

/-- A sum over 4096 hidden units in four runs of 1024, in order. -/
theorem sum_runs (f : Fin 4096 → EReal) :
    ∑ i, f i = ∑ i : Fin 1024, f ⟨i.val, by omega⟩ + ∑ i : Fin 1024, f ⟨1024 + i.val, by omega⟩
      + ∑ i : Fin 1024, f ⟨2048 + i.val, by omega⟩ + ∑ i : Fin 1024, f ⟨3072 + i.val, by omega⟩ := by
  rw [show (∑ i, f i) = ∑ i : Fin (1024 + 1024 + 1024 + 1024), f i from rfl, Fin.sum_univ_add, Fin.sum_univ_add,
    Fin.sum_univ_add]
  rfl

/-- The feed-forward network, its hidden units taken in four runs of 1024. -/
theorem fed_runs (h : Fin 1024 → EReal) (wu : Fin 1024 → Fin 4096 → EReal) (wd : Fin 4096 → Fin 1024 → EReal) (d : Fin 1024) :
    fed h wu wd d = ∑ i : Fin 1024, unit h wu ⟨i.val, by omega⟩ * wd ⟨i.val, by omega⟩ d
      + ∑ i : Fin 1024, unit h wu ⟨1024 + i.val, by omega⟩ * wd ⟨1024 + i.val, by omega⟩ d
      + ∑ i : Fin 1024, unit h wu ⟨2048 + i.val, by omega⟩ * wd ⟨2048 + i.val, by omega⟩ d
      + ∑ i : Fin 1024, unit h wu ⟨3072 + i.val, by omega⟩ * wd ⟨3072 + i.val, by omega⟩ d :=
  sum_runs _

end Cert.Tail

end
-- ==== Proof.Ref.lean ====
/-
  What the reference computes, read at a token and a column: `tailRow` of that token's rows of the argument arrays. Its
  operations are grouped into the projection, the norm (met three times) and the feed-forward network.
-/
module

public import proofs.«01_k».proof.Proof.Gen.ReferenceIdeal.Run
public import proofs.«01_k».proof.Proof.Rows

@[expose] public section

set_option maxRecDepth 16384

noncomputable section

namespace Cert.Tail.Ref

open Idealize.ShloMosaic Idealize.ShloMosaic.TcCoe Cert.ReferenceIdeal Cert.ReferenceIdeal.Gen

/-- The reference's norm of every token's row. -/
def normA (y : FVec Ideal S16x2048x1024 .f32) (w : FVec Ideal S1x1024 .f32) : FVec Ideal S16x2048x1024 .f32 :=
  mulf (mulf y (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf y y) (constant S_ .f32 0x00000000#32)
      reducesTo_S16x2048x1024_S16x2048_d2 h_S_))
    (broadcastInDim S16x2048x1 ![] bcast_S_S16x2048x1 (constant S_ .f32 0x44800000#32)))
    (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 (shapeCast S1024 w shapeCasts_S1x1024_S1024)))

/-- The reference's output projection. -/
def projA (oa og : FVec Ideal S16x2048x512 .f32) (wo : FVec Ideal S1x1024x1024 .f32) : FVec Ideal S16x2048x1024 .f32 :=
  Host.dotGeneral (F := Ideal) dot_S16x2048x1024_S1024x1024_S16x2048x1024_2_0_01_1_n_n none
    (concatenate S16x2048x1024 2 [⟨S16x2048x512, oa⟩, ⟨S16x2048x512, og⟩] concatenates_S16x2048x512_S16x2048x512_S16x2048x1024_d2)
    (shapeCast S1024x1024 wo shapeCasts_S1x1024x1024_S1024x1024)

/-- The reference's hidden units before they are squared. -/
def hidA (h : FVec Ideal S16x2048x1024 .f32) (wu : FVec Ideal S1x1024x4096 .f32) : FVec Ideal S16x2048x4096 .f32 :=
  maximumf (Host.dotGeneral (F := Ideal) dot_S16x2048x1024_S1024x4096_S16x2048x4096_2_0_01_1_n_n none h
    (shapeCast S1024x4096 wu shapeCasts_S1x1024x4096_S1024x4096))
    (broadcastInDim S16x2048x4096 ![] bcast_S_S16x2048x4096 (constant S_ .f32 0x00000000#32))

/-- The reference's feed-forward network. -/
def fedA (h : FVec Ideal S16x2048x1024 .f32) (wu : FVec Ideal S1x1024x4096 .f32) (wd : FVec Ideal S1x4096x1024 .f32) :
    FVec Ideal S16x2048x1024 .f32 :=
  Host.dotGeneral (F := Ideal) dot_S16x2048x4096_S4096x1024_S16x2048x1024_2_0_01_1_n_n none (mulf (hidA h wu) (hidA h wu))
    (shapeCast S4096x1024 wd shapeCasts_S1x4096x1024_S4096x1024)

theorem normA_apply (y : FVec Ideal S16x2048x1024 .f32) (w : FVec Ideal S1x1024 .f32) (b : Fin 16) (s : Fin 2048) (d : Fin 1024) :
    normA y w (ix3 b s d) = normed (fun d => y (ix3 b s d)) (fun d => w (ix2 0 d)) d := by
  pointwise [normA]
  rfl

theorem projA_apply (oa og : FVec Ideal S16x2048x512 .f32) (wo : FVec Ideal S1x1024x1024 .f32) (b : Fin 16) (s : Fin 2048)
    (d : Fin 1024) :
    projA oa og wo (ix3 b s d)
      = projected (fun x => oa (ix3 b s x)) (fun x => og (ix3 b s x)) (fun x d => wo (ix3 0 x d)) d := by
  pointwise [projA]
  rfl

theorem fedA_apply (h : FVec Ideal S16x2048x1024 .f32) (wu : FVec Ideal S1x1024x4096 .f32) (wd : FVec Ideal S1x4096x1024 .f32)
    (b : Fin 16) (s : Fin 2048) (d : Fin 1024) :
    fedA h wu wd (ix3 b s d)
      = fed (fun x => h (ix3 b s x)) (fun x f => wu (ix3 0 x f)) (fun f d => wd (ix3 0 f d)) d := by
  pointwise [fedA, hidA]
  rfl

/-- The reference's rows after the first residual. -/
def midA (x : FVec Ideal S16x2048x1024 .f32) (oa og : FVec Ideal S16x2048x512 .f32) (wo : FVec Ideal S1x1024x1024 .f32)
    (n₁ : FVec Ideal S1x1024 .f32) : FVec Ideal S16x2048x1024 .f32 :=
  addf x (normA (projA oa og wo) n₁)

variable (m : (ℓ : Loc nD τ sig) → Buf (Elt Ideal) ℓ)

/-- The reference's result, its operations grouped. -/
theorem res_eq (c : Dev nD) (r : FVec Ideal S16x2048x1024 .f32)
    (hr : r = midA (m ((c : Thread nD τ).loc main_arg0)) (m ((c : Thread nD τ).loc main_arg1)) (m ((c : Thread nD τ).loc main_arg2))
      (m ((c : Thread nD τ).loc main_arg3)) (m ((c : Thread nD τ).loc main_arg4))) :
    Cert.ReferenceIdeal.Value.res_out0 m c = shapeCast S32768x1024 (addf r (normA (fedA (normA r (m ((c : Thread nD τ).loc main_arg5)))
        (m ((c : Thread nD τ).loc main_arg7)) (m ((c : Thread nD τ).loc main_arg8))) (m ((c : Thread nD τ).loc main_arg6))))
      shapeCasts_S16x2048x1024_S32768x1024 := by
  subst hr
  rfl

theorem res_apply (c : Dev nD) (i : Fin 32768) (d : Fin 1024) :
    Cert.ReferenceIdeal.Value.res_out0 m c (ix2 i d)
      = tailRow (fun d => m ((c : Thread nD τ).loc main_arg0) (ix3 ⟨i.val / 2048, by omega⟩ ⟨i.val % 2048, by omega⟩ d))
          (fun x => m ((c : Thread nD τ).loc main_arg1) (ix3 ⟨i.val / 2048, by omega⟩ ⟨i.val % 2048, by omega⟩ x))
          (fun x => m ((c : Thread nD τ).loc main_arg2) (ix3 ⟨i.val / 2048, by omega⟩ ⟨i.val % 2048, by omega⟩ x))
          (fun x d => m ((c : Thread nD τ).loc main_arg3) (ix3 0 x d))
          (fun d => m ((c : Thread nD τ).loc main_arg4) (ix2 0 d)) (fun d => m ((c : Thread nD τ).loc main_arg5) (ix2 0 d))
          (fun d => m ((c : Thread nD τ).loc main_arg6) (ix2 0 d)) (fun x f => m ((c : Thread nD τ).loc main_arg7) (ix3 0 x f))
          (fun f d => m ((c : Thread nD τ).loc main_arg8) (ix3 0 f d)) d := by
  rw [res_eq m c _ rfl]
  pointwise
  simp only [normA_apply, fedA_apply, midA, projA_apply, addf_apply, Ideal.addf_def]
  rfl

end Cert.Tail.Ref

end
-- ==== Proof.Block.lean ====
/-
  What the kernel leaves in one block of 512 tokens, read at a row and a column: `tailRow` of that row of each operand
  block. The kernel keeps the attention rows as columns of two half blocks, multiplies them by the first half of the output
  matrix and the recurrence rows by the second half, and runs the feed-forward network over four runs of 1024 hidden units.
-/
module

public import proofs.«01_k».proof.Proof.Gen.KernelIdeal.Value
public import proofs.«01_k».proof.Proof.Rows
public import Idealize.ShloMosaic.Lib.Pipeline.ValueKit

@[expose] public section

set_option maxRecDepth 16384

noncomputable section

namespace Cert.Tail.Block

open Idealize.ShloMosaic Cert.KernelIdeal Cert.KernelIdeal.Gen

/-- The projection as the kernel takes it, with the two halves of the output matrix apart. -/
def projected2 (oa og : Fin 512 → EReal) (wa wg : Fin 512 → Fin 1024 → EReal) (d : Fin 1024) : EReal :=
  ∑ x, oa x * wa x d + ∑ x, og x * wg x d

/-- The attention row of token `r`, out of the two half blocks that hold it as a column. -/
def attRow (a b : Vec Ideal S1x1x512x256 .f32) (r x : Fin 512) : EReal :=
  if h : r.val < 256 then a (ix4 0 0 x ⟨r.val, h⟩) else b (ix4 0 0 x ⟨r.val - 256, by omega⟩)

theorem mid_apply (v0 v2 : Vec Ideal S1x1x512x256 .f32) (v7 v13 : Vec Ideal S512x1024 .bf16) (v10 : Vec Ideal S512x512 .f32)
    (v17 : Vec Ideal S512x1024 .f32) (v19 : Vec Ideal S1x1024 .f32) (r : Fin 512) (d : Fin 1024) :
    k0_pay2 (F := Ideal) v0 v2 v7 v10 v13 v17 v19 (ix2 r d)
      = v17 (ix2 r d) + normed (projected2 (attRow v0 v2 r) (fun x => v10 (ix2 r x)) (fun x d => v7 (ix2 x d)) (fun x d => v13 (ix2 x d)))
          (fun d => v19 (ix2 0 d)) d := by
  pointwise [k0_pay2]
  rfl

theorem pre_apply (v : FVec Ideal S512x1024 .f32) (w : Vec Ideal S1x1024 .f32) (r : Fin 512) (d : Fin 1024) :
    k0_pay3 (F := Ideal) v w (ix2 r d) = normed (fun d => v (ix2 r d)) (fun d => w (ix2 0 d)) d := by
  pointwise [k0_pay3]
  rfl

/-- One run of 1024 hidden units, the products added up. -/
def run4 (h : Fin 1024 → EReal) (u w : Vec Ideal S1024x1024 .bf16) (d : Fin 1024) : EReal :=
  ∑ f : Fin 1024, max (∑ x : Fin 1024, h x * u (ix2 x f)) 0 * max (∑ x : Fin 1024, h x * u (ix2 x f)) 0 * w (ix2 f d)

theorem half_apply (v33 : FVec Ideal S512x1024 .f32) (v34 : Vec Ideal S1x1024 .f32) (v50 v57 v61 v68 : Vec Ideal S1024x1024 .bf16)
    (r : Fin 512) (d : Fin 1024) :
    k0_pay4 (F := Ideal) v33 v34 v50 v57 v61 v68 (ix2 r d)
      = run4 (fun x => k0_pay3 (F := Ideal) v33 v34 (ix2 r x)) v50 v57 d + run4 (fun x => k0_pay3 (F := Ideal) v33 v34 (ix2 r x)) v61 v68 d := by
  pointwise [k0_pay4]
  rfl

theorem last_apply (v33 : FVec Ideal S512x1024 .f32) (v48 : FVec Ideal S512x1024 .bf16) (v71 : FVec Ideal S512x1024 .f32)
    (v73 v79 v83 v90 : Vec Ideal S1024x1024 .bf16) (v94 : Vec Ideal S1x1024 .f32) (r : Fin 512) (d : Fin 1024) :
    k0_pay1 (F := Ideal) v33 v48 v71 v73 v79 v83 v90 v94 (ix2 r d)
      = v33 (ix2 r d) + normed (fun d => v71 (ix2 r d) + run4 (fun x => v48 (ix2 r x)) v73 v79 d
          + run4 (fun x => v48 (ix2 r x)) v83 v90 d) (fun d => v94 (ix2 0 d)) d := by
  pointwise [k0_pay1]
  rfl

/-- A run of hidden units over loaded tiles of the two matrices is that run of the network over the whole matrices. -/
theorem run4_eq (h : Fin 1024 → EReal) (x9 : Vec Ideal S1024x4096 .bf16) (x10 : Vec Ideal S4096x1024 .bf16)
    (u w : Vec Ideal S1024x1024 .bf16) (o : Nat) (ho : o ≤ 3072)
    (hu : ∀ x f : Fin 1024, u (ix2 x f) = x9 (ix2 x ⟨o + f.val, by omega⟩))
    (hw : ∀ f d : Fin 1024, w (ix2 f d) = x10 (ix2 ⟨o + f.val, by omega⟩ d)) (d : Fin 1024) :
    run4 h u w d = ∑ i : Fin 1024, unit h (fun x f => x9 (ix2 x f)) ⟨o + i.val, by omega⟩ * x10 (ix2 ⟨o + i.val, by omega⟩ d) := by
  unfold run4 unit
  simp only [hu, hw]

/-- THE BLOCK: what the body leaves in the output's buffer at row `r`, column `d`. -/
theorem out_apply (x0 : Vec Ideal S512x1024 .f32) (x1 x2 : Vec Ideal S1x1x512x256 .f32) (x3 : Vec Ideal S512x512 .f32)
    (x4 x5 : Vec Ideal S512x1024 .bf16) (x6 x7 x8 : Vec Ideal S1x1024 .f32) (x9 : Vec Ideal S1024x4096 .bf16)
    (x10 : Vec Ideal S4096x1024 .bf16) (r : Fin 512) (d : Fin 1024) :
    out0_11 (F := Ideal) x0 x1 x2 x3 x4 x5 x6 x7 x8 x9 x10 (ix2 r d)
      = lastRow (fun d => x0 (ix2 r d) + normed (projected2 (attRow x1 x2 r) (fun x => x3 (ix2 r x)) (fun x d => x4 (ix2 x d))
            (fun x d => x5 (ix2 x d))) (fun d => x6 (ix2 0 d)) d)
          (fun d => x7 (ix2 0 d)) (fun d => x8 (ix2 0 d)) (fun x f => x9 (ix2 x f)) (fun f d => x10 (ix2 f d)) d := by
  have hz2 : (![0, 0] : Fin 2 → Nat) = fun _ => 0 := funext fun a => by fin_cases a <;> rfl
  have hz4 : (![0, 0, 0, 0] : Fin 4 → Nat) = fun _ => 0 := funext fun a => by fin_cases a <;> rfl
  have l0 : ∀ X : Vec Ideal S1x1x512x256 .f32, View.ld X r0_0 = X := fun X => View.ld_unit_zero hz4 _ X
  have l1 : ∀ X : Vec Ideal S512x1024 .f32, View.ld X r0_1 = X := fun X => View.ld_unit_zero hz2 _ X
  have l1' : ∀ X : Vec Ideal S512x1024 .bf16, View.ld X r0_1 = X := fun X => View.ld_unit_zero hz2 _ X
  have l2 : ∀ X : Vec Ideal S512x512 .f32, View.ld X r0_2 = X := fun X => View.ld_unit_zero hz2 _ X
  have l3 : ∀ X : Vec Ideal S1x1024 .f32, View.ld X r0_3 = X := fun X => View.ld_unit_zero hz2 _ X
  frame_out
  rw [last_apply]
  simp only [half_apply, pre_apply, k0_pay6, mid_apply, l0, l1, l1', l2, l3]
  unfold lastRow
  congr 1
  refine congrArg (fun y => normed y (fun d => x8 (ix2 0 d)) d) (funext fun d => ?_)
  rw [fed_runs, run4_eq _ x9 x10 _ _ 0 (by omega) (fun x f => by pointwise) (fun f d => by pointwise),
    run4_eq _ x9 x10 _ _ 1024 (by omega) (fun x f => by pointwise) (fun f d => by pointwise),
    run4_eq _ x9 x10 _ _ 2048 (by omega) (fun x f => by pointwise [k0_pay5]) (fun f d => by pointwise),
    run4_eq _ x9 x10 _ _ 3072 (by omega) (fun x f => by pointwise) (fun f d => by pointwise)]
  simp only [Nat.zero_add]

end Cert.Tail.Block

end
-- ==== Proof.Entry.lean ====
/-
  The kernel's operand arrays as the host code before the call leaves them, and its operand blocks, read at an index of the
  argument arrays. The attention rows come in blocks of 256 tokens, transposed, the blocks of a sequence in the order
  0, 7, 1, 6, 2, 5, 3, 4; a block of 512 tokens reads its two halves through two windows.
-/
module

public import proofs.«01_k».proof.Proof.Block

@[expose] public section

set_option maxRecDepth 16384

noncomputable section

namespace Cert.Tail.Entry

open Idealize.ShloMosaic Idealize.ShloMosaic.TcCoe Cert.KernelIdeal Cert.KernelIdeal.Gen

variable (m : (ℓ : Loc nD τ sig) → Buf (Elt Ideal) ℓ) (c : Dev nD)

/-! ## The operand arrays -/

/-- The attention rows by blocks of 256 tokens, transposed. -/
def blocksT (oa : FVec Ideal S16x2048x512 .f32) : FVec Ideal S16x8x512x256 .f32 :=
  transpose S16x8x512x256 [0, 1, 3, 2] (shapeCast S16x8x256x512 oa shapeCasts_S16x2048x512_S16x8x256x512)
    transposes_S16x8x256x512_S16x8x512x256_0_1_3_2

/-- The blocks of a sequence, the first half and the reversed second half interleaved. -/
def folded (oa : FVec Ideal S16x2048x512 .f32) : FVec Ideal S16x8x512x256 .f32 :=
  shapeCast S16x8x512x256 (concatenate S16x4x2x512x256 2
    [⟨S16x4x1x512x256, broadcastInDim S16x4x1x512x256 ![0, 1, 3, 4] bcast_S16x4x512x256_S16x4x1x512x256_0_1_3_4
        (extractStridedSlice S16x4x512x256 ![0, 0, 0, 0] (blocksT oa) slices_S16x8x512x256_S16x4x512x256_0_0_0_0)⟩,
     ⟨S16x4x1x512x256, broadcastInDim S16x4x1x512x256 ![0, 1, 3, 4] bcast_S16x4x512x256_S16x4x1x512x256_0_1_3_4
        (Host.reverse [1] (extractStridedSlice S16x4x512x256 ![0, 4, 0, 0] (blocksT oa) slices_S16x8x512x256_S16x4x512x256_0_4_0_0))⟩]
    concatenates_S16x4x1x512x256_S16x4x1x512x256_S16x4x2x512x256_d2) shapeCasts_S16x4x2x512x256_S16x8x512x256

theorem folded_apply (oa : FVec Ideal S16x2048x512 .f32) (b : Fin 16) (e : Fin 8) (x : Fin 512) (y : Fin 256) (s : Fin 2048)
    (hs : s.val = (if e.val % 2 = 0 then e.val / 2 else 7 - e.val / 2) * 256 + y.val) :
    folded oa (ix4 b e x y) = oa (ix3 b s x) := by
  pointwise [folded, blocksT]
  simp only [List.mem_cons, List.not_mem_nil, or_false, Fin.reduceEq, reduceIte, Fin.val_rev]
  split
  · rename_i h
    rw [if_pos (by omega)] at hs
    exact congrArg (fun s => oa (ix3 b s x)) (Fin.ext hs.symm)
  · rename_i h
    rw [if_neg (by omega)] at hs
    refine congrArg (fun s => oa (ix3 b s x)) (Fin.ext ?_)
    show (4 + (4 - (e.val / 2 + 1))) * 256 + y.val = s.val
    omega

/-! ## The host layout operations at an index -/

theorem rows_apply (X : FVec Ideal S16x2048x1024 .f32) (i : Fin 32768) (d : Fin 1024) :
    shapeCast S32768x1024 X shapeCasts_S16x2048x1024_S32768x1024 (ix2 i d) = X (ix3 ⟨i.val / 2048, by omega⟩ ⟨i.val % 2048, by omega⟩ d) := by
  pointwise

theorem rows512_apply (X : FVec Ideal S16x2048x512 .f32) (i : Fin 32768) (d : Fin 512) :
    shapeCast S32768x512 X shapeCasts_S16x2048x512_S32768x512 (ix2 i d) = X (ix3 ⟨i.val / 2048, by omega⟩ ⟨i.val % 2048, by omega⟩ d) := by
  pointwise

theorem top_apply (X : FVec Ideal S1x1024x1024 .f32) (r : Fin 512) (d : Fin 1024) :
    extractStridedSlice S512x1024 ![0, 0] (truncf (F := Ideal) .bf16 (shapeCast S1024x1024 X shapeCasts_S1x1024x1024_S1024x1024 : FVec Ideal S1024x1024 .f32)
      bitsLt_bf16_f32) slices_S1024x1024_S512x1024_0_0 (ix2 r d) = X (ix3 0 ⟨r.val, by omega⟩ d) := by
  pointwise

theorem bottom_apply (X : FVec Ideal S1x1024x1024 .f32) (r : Fin 512) (d : Fin 1024) :
    extractStridedSlice S512x1024 ![512, 0] (truncf (F := Ideal) .bf16 (shapeCast S1024x1024 X shapeCasts_S1x1024x1024_S1024x1024 : FVec Ideal S1024x1024 .f32)
      bitsLt_bf16_f32) slices_S1024x1024_S512x1024_512_0 (ix2 r d) = X (ix3 0 ⟨512 + r.val, by omega⟩ d) := by
  pointwise

theorem weights_apply (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem up_apply (X : FVec Ideal S1x1024x4096 .f32) (r : Fin 1024) (d : Fin 4096) :
    truncf (F := Ideal) .bf16 (shapeCast S1024x4096 X shapeCasts_S1x1024x4096_S1024x4096 : FVec Ideal S1024x4096 .f32) bitsLt_bf16_f32 (ix2 r d)
      = X (ix3 0 r d) := by
  pointwise

theorem down_apply (X : FVec Ideal S1x4096x1024 .f32) (r : Fin 4096) (d : Fin 1024) :
    truncf (F := Ideal) .bf16 (shapeCast S4096x1024 X shapeCasts_S1x4096x1024_S4096x1024 : FVec Ideal S4096x1024 .f32) bitsLt_bf16_f32 (ix2 r d)
      = X (ix3 0 r d) := by
  pointwise

/-! ## What the call finds -/

theorem V8 : V m c main_v8 = folded (m ((c : Thread nD τ).loc main_arg1)) := rfl
theorem V9 : V m c main_v9 = shapeCast S32768x1024 (m ((c : Thread nD τ).loc main_arg0)) shapeCasts_S16x2048x1024_S32768x1024 := rfl
theorem V10 : V m c main_v10 = shapeCast S32768x512 (m ((c : Thread nD τ).loc main_arg2)) shapeCasts_S16x2048x512_S32768x512 := rfl
theorem V13 : V m c main_v13 = extractStridedSlice S512x1024 ![0, 0] (truncf (F := Ideal) .bf16 (shapeCast S1024x1024 (m ((c : Thread nD τ).loc main_arg3)) shapeCasts_S1x1024x1024_S1024x1024 : FVec Ideal S1024x1024 .f32) bitsLt_bf16_f32) slices_S1024x1024_S512x1024_0_0 := rfl
theorem V14 : V m c main_v14 = extractStridedSlice S512x1024 ![512, 0] (truncf (F := Ideal) .bf16 (shapeCast S1024x1024 (m ((c : Thread nD τ).loc main_arg3)) shapeCasts_S1x1024x1024_S1024x1024 : FVec Ideal S1024x1024 .f32) bitsLt_bf16_f32) slices_S1024x1024_S512x1024_512_0 := rfl
theorem V16 : V m c main_v16 = broadcastInDim S1x1024 ![1] bcast_S1024_S1x1024_1 (shapeCast S1024 (m ((c : Thread nD τ).loc main_arg4)) shapeCasts_S1x1024_S1024) := rfl
theorem V18 : V m c main_v18 = broadcastInDim S1x1024 ![1] bcast_S1024_S1x1024_1 (shapeCast S1024 (m ((c : Thread nD τ).loc main_arg5)) shapeCasts_S1x1024_S1024) := rfl
theorem V20 : V m c main_v20 = broadcastInDim S1x1024 ![1] bcast_S1024_S1x1024_1 (shapeCast S1024 (m ((c : Thread nD τ).loc main_arg6)) shapeCasts_S1x1024_S1024) := rfl
theorem V22 : V m c main_v22 = truncf (F := Ideal) .bf16 (shapeCast S1024x4096 (m ((c : Thread nD τ).loc main_arg7)) shapeCasts_S1x1024x4096_S1024x4096 : FVec Ideal S1024x4096 .f32) bitsLt_bf16_f32 := rfl
theorem V24 : V m c main_v24 = truncf (F := Ideal) .bf16 (shapeCast S4096x1024 (m ((c : Thread nD τ).loc main_arg8)) shapeCasts_S1x4096x1024_S4096x1024 : FVec Ideal S4096x1024 .f32) bitsLt_bf16_f32 := rfl

/-! ## Where the blocks lie -/

theorem idx0 : ∀ t : Fin cfg0.N, win0_0.index t = ![t.val, 0] :=
  (by decide +kernel : ∀ t : Fin grid0.N, win0_0.index t = _)
theorem idx1 : ∀ t : Fin cfg0.N, win0_1.index t
    = ![t.val / 4, if t.val % 4 < 2 then 4 * (t.val % 4) else 2 * (7 - 2 * (t.val % 4)) + 1, 0, 0] :=
  (by decide +kernel : ∀ t : Fin grid0.N, win0_1.index t = _)
theorem idx2 : ∀ t : Fin cfg0.N, win0_2.index t
    = ![t.val / 4, if t.val % 4 < 2 then 4 * (t.val % 4) + 2 else 2 * (6 - 2 * (t.val % 4)) + 1, 0, 0] :=
  (by decide +kernel : ∀ t : Fin grid0.N, win0_2.index t = _)
theorem idx3 : ∀ t : Fin cfg0.N, win0_3.index t = ![t.val, 0] :=
  (by decide +kernel : ∀ t : Fin grid0.N, win0_3.index t = _)
theorem idx11 : ∀ t : Fin cfg0.N, win0_11.index t = ![t.val, 0] :=
  (by decide +kernel : ∀ t : Fin grid0.N, win0_11.index t = _)
theorem idx_rest : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0])

/-! ## The operand blocks -/

variable (t : Fin cfg0.N)

theorem emb0 (r : Fin 512) (d : Fin 1024) (i : Fin 32768) (hi : i.val = t.val * 512 + r.val) :
    ((cfg0.win 0).blk t).view.emb (ix2 r d) = ix2 i d :=
  funext fun a => Fin.ext (match a with
    | ⟨0, _⟩ => (Pipeline.Window.rect_emb_val win0_0 t (ix2 r d) 0 rfl).trans (by
        rw [idx0]; show t.val * 512 + r.val = i.val; omega)
    | ⟨1, _⟩ => (Pipeline.Window.rect_emb_val win0_0 t (ix2 r d) 1 rfl).trans (by
        rw [idx0]; show 0 * 1024 + d.val = d.val; omega))

theorem emb3 (r : Fin 512) (d : Fin 512) (i : Fin 32768) (hi : i.val = t.val * 512 + r.val) :
    ((cfg0.win 3).blk t).view.emb (ix2 r d) = ix2 i d :=
  funext fun a => Fin.ext (match a with
    | ⟨0, _⟩ => (Pipeline.Window.rect_emb_val win0_3 t (ix2 r d) 0 rfl).trans (by
        rw [idx3]; show t.val * 512 + r.val = i.val; omega)
    | ⟨1, _⟩ => (Pipeline.Window.rect_emb_val win0_3 t (ix2 r d) 1 rfl).trans (by
        rw [idx3]; show 0 * 512 + d.val = d.val; omega))

theorem emb4 (r : Fin 512) (d : Fin 1024) : ((cfg0.win 4).blk t).view.emb (ix2 r d) = ix2 r d :=
  funext fun a => Fin.ext (match a with
    | ⟨0, _⟩ => (Pipeline.Window.rect_emb_val win0_4 t (ix2 r d) 0 rfl).trans (by
        rw [(idx_rest t).1]; show 0 * 512 + r.val = r.val; omega)
    | ⟨1, _⟩ => (Pipeline.Window.rect_emb_val win0_4 t (ix2 r d) 1 rfl).trans (by
        rw [(idx_rest t).1]; show 0 * 1024 + d.val = d.val; omega))

theorem emb5 (r : Fin 512) (d : Fin 1024) : ((cfg0.win 5).blk t).view.emb (ix2 r d) = ix2 r d :=
  funext fun a => Fin.ext (match a with
    | ⟨0, _⟩ => (Pipeline.Window.rect_emb_val win0_5 t (ix2 r d) 0 rfl).trans (by
        rw [(idx_rest t).2.1]; show 0 * 512 + r.val = r.val; omega)
    | ⟨1, _⟩ => (Pipeline.Window.rect_emb_val win0_5 t (ix2 r d) 1 rfl).trans (by
        rw [(idx_rest t).2.1]; show 0 * 1024 + d.val = d.val; omega))

theorem emb6 (r : Fin 1) (d : Fin 1024) : ((cfg0.win 6).blk t).view.emb (ix2 r d) = ix2 r d :=
  funext fun a => Fin.ext (match a with
    | ⟨0, _⟩ => (Pipeline.Window.rect_emb_val win0_6 t (ix2 r d) 0 rfl).trans (by
        rw [(idx_rest t).2.2.1]; show 0 * 1 + r.val = r.val; omega)
    | ⟨1, _⟩ => (Pipeline.Window.rect_emb_val win0_6 t (ix2 r d) 1 rfl).trans (by
        rw [(idx_rest t).2.2.1]; show 0 * 1024 + d.val = d.val; omega))

theorem emb7 (r : Fin 1) (d : Fin 1024) : ((cfg0.win 7).blk t).view.emb (ix2 r d) = ix2 r d :=
  funext fun a => Fin.ext (match a with
    | ⟨0, _⟩ => (Pipeline.Window.rect_emb_val win0_7 t (ix2 r d) 0 rfl).trans (by
        rw [(idx_rest t).2.2.2.1]; show 0 * 1 + r.val = r.val; omega)
    | ⟨1, _⟩ => (Pipeline.Window.rect_emb_val win0_7 t (ix2 r d) 1 rfl).trans (by
        rw [(idx_rest t).2.2.2.1]; show 0 * 1024 + d.val = d.val; omega))

theorem emb8 (r : Fin 1) (d : Fin 1024) : ((cfg0.win 8).blk t).view.emb (ix2 r d) = ix2 r d :=
  funext fun a => Fin.ext (match a with
    | ⟨0, _⟩ => (Pipeline.Window.rect_emb_val win0_8 t (ix2 r d) 0 rfl).trans (by
        rw [(idx_rest t).2.2.2.2.1]; show 0 * 1 + r.val = r.val; omega)
    | ⟨1, _⟩ => (Pipeline.Window.rect_emb_val win0_8 t (ix2 r d) 1 rfl).trans (by
        rw [(idx_rest t).2.2.2.2.1]; show 0 * 1024 + d.val = d.val; omega))

theorem emb9 (r : Fin 1024) (d : Fin 4096) : ((cfg0.win 9).blk t).view.emb (ix2 r d) = ix2 r d :=
  funext fun a => Fin.ext (match a with
    | ⟨0, _⟩ => (Pipeline.Window.rect_emb_val win0_9 t (ix2 r d) 0 rfl).trans (by
        rw [(idx_rest t).2.2.2.2.2.1]; show 0 * 1024 + r.val = r.val; omega)
    | ⟨1, _⟩ => (Pipeline.Window.rect_emb_val win0_9 t (ix2 r d) 1 rfl).trans (by
        rw [(idx_rest t).2.2.2.2.2.1]; show 0 * 4096 + d.val = d.val; omega))

theorem emb10 (r : Fin 4096) (d : Fin 1024) : ((cfg0.win 10).blk t).view.emb (ix2 r d) = ix2 r d :=
  funext fun a => Fin.ext (match a with
    | ⟨0, _⟩ => (Pipeline.Window.rect_emb_val win0_10 t (ix2 r d) 0 rfl).trans (by
        rw [(idx_rest t).2.2.2.2.2.2]; show 0 * 4096 + r.val = r.val; omega)
    | ⟨1, _⟩ => (Pipeline.Window.rect_emb_val win0_10 t (ix2 r d) 1 rfl).trans (by
        rw [(idx_rest t).2.2.2.2.2.2]; show 0 * 1024 + d.val = d.val; omega))

theorem emb11 (r : Fin 512) (d : Fin 1024) (i : Fin 32768) (hi : i.val = t.val * 512 + r.val) :
    ((cfg0.win 11).blk t).view.emb (ix2 r d) = ix2 i d :=
  funext fun a => Fin.ext (match a with
    | ⟨0, _⟩ => (Pipeline.Window.rect_emb_val win0_11 t (ix2 r d) 0 rfl).trans (by
        rw [idx11]; show t.val * 512 + r.val = i.val; omega)
    | ⟨1, _⟩ => (Pipeline.Window.rect_emb_val win0_11 t (ix2 r d) 1 rfl).trans (by
        rw [idx11]; show 0 * 1024 + d.val = d.val; omega))

theorem emb1 (x : Fin 512) (y : Fin 256) (b : Fin 16) (e : Fin 8) (hb : b.val = t.val / 4)
    (he : e.val = if t.val % 4 < 2 then 4 * (t.val % 4) else 2 * (7 - 2 * (t.val % 4)) + 1) :
    ((cfg0.win 1).blk t).view.emb (ix4 0 0 x y) = ix4 b e x y :=
  funext fun a => Fin.ext (match a with
    | ⟨0, _⟩ => (Pipeline.Window.rect_emb_val win0_1 t (ix4 0 0 x y) 0 rfl).trans (by
        rw [idx1]; show t.val / 4 * 1 + 0 = b.val; omega)
    | ⟨1, _⟩ => (Pipeline.Window.rect_emb_val win0_1 t (ix4 0 0 x y) 1 rfl).trans (by
        rw [idx1]; show (if t.val % 4 < 2 then 4 * (t.val % 4) else 2 * (7 - 2 * (t.val % 4)) + 1) * 1 + 0 = e.val; rw [he, Nat.mul_one, Nat.add_zero])
    | ⟨2, _⟩ => (Pipeline.Window.rect_emb_val win0_1 t (ix4 0 0 x y) 2 rfl).trans (by
        rw [idx1]; show 0 * 512 + x.val = x.val; omega)
    | ⟨3, _⟩ => (Pipeline.Window.rect_emb_val win0_1 t (ix4 0 0 x y) 3 rfl).trans (by
        rw [idx1]; show 0 * 256 + y.val = y.val; omega))

theorem emb2 (x : Fin 512) (y : Fin 256) (b : Fin 16) (e : Fin 8) (hb : b.val = t.val / 4)
    (he : e.val = if t.val % 4 < 2 then 4 * (t.val % 4) + 2 else 2 * (6 - 2 * (t.val % 4)) + 1) :
    ((cfg0.win 2).blk t).view.emb (ix4 0 0 x y) = ix4 b e x y :=
  funext fun a => Fin.ext (match a with
    | ⟨0, _⟩ => (Pipeline.Window.rect_emb_val win0_2 t (ix4 0 0 x y) 0 rfl).trans (by
        rw [idx2]; show t.val / 4 * 1 + 0 = b.val; omega)
    | ⟨1, _⟩ => (Pipeline.Window.rect_emb_val win0_2 t (ix4 0 0 x y) 1 rfl).trans (by
        rw [idx2]; show (if t.val % 4 < 2 then 4 * (t.val % 4) + 2 else 2 * (6 - 2 * (t.val % 4)) + 1) * 1 + 0 = e.val; rw [he, Nat.mul_one, Nat.add_zero])
    | ⟨2, _⟩ => (Pipeline.Window.rect_emb_val win0_2 t (ix4 0 0 x y) 2 rfl).trans (by
        rw [idx2]; show 0 * 512 + x.val = x.val; omega)
    | ⟨3, _⟩ => (Pipeline.Window.rect_emb_val win0_2 t (ix4 0 0 x y) 3 rfl).trans (by
        rw [idx2]; show 0 * 256 + y.val = y.val; omega))

theorem b0 (r : Fin 512) (d : Fin 1024) (i : Fin 32768) (hi : i.val = t.val * 512 + r.val) :
    iblk m c 0 t (ix2 r d) = m ((c : Thread nD τ).loc main_arg0) (ix3 ⟨i.val / 2048, by omega⟩ ⟨i.val % 2048, by omega⟩ d) := by
  show V m c main_v9 (((cfg0.win 0).blk t).view.emb (ix2 r d)) = _
  rw [emb0 t r d i hi, V9]
  exact rows_apply _ _ _

theorem b3 (r : Fin 512) (d : Fin 512) (i : Fin 32768) (hi : i.val = t.val * 512 + r.val) :
    iblk m c 3 t (ix2 r d) = m ((c : Thread nD τ).loc main_arg2) (ix3 ⟨i.val / 2048, by omega⟩ ⟨i.val % 2048, by omega⟩ d) := by
  show V m c main_v10 (((cfg0.win 3).blk t).view.emb (ix2 r d)) = _
  rw [emb3 t r d i hi, V10]
  exact rows512_apply _ _ _

theorem b4 (r : Fin 512) (d : Fin 1024) :
    iblk m c 4 t (ix2 r d) = m ((c : Thread nD τ).loc main_arg3) (ix3 0 ⟨r.val, by omega⟩ d) := by
  show V m c main_v13 (((cfg0.win 4).blk t).view.emb (ix2 r d)) = _
  rw [emb4 t r d, V13]
  exact top_apply _ _ _

theorem b5 (r : Fin 512) (d : Fin 1024) :
    iblk m c 5 t (ix2 r d) = m ((c : Thread nD τ).loc main_arg3) (ix3 0 ⟨512 + r.val, by omega⟩ d) := by
  show V m c main_v14 (((cfg0.win 5).blk t).view.emb (ix2 r d)) = _
  rw [emb5 t r d, V14]
  exact bottom_apply _ _ _

theorem b6 (d : Fin 1024) : iblk m c 6 t (ix2 0 d) = m ((c : Thread nD τ).loc main_arg4) (ix2 0 d) := by
  show V m c main_v16 (((cfg0.win 6).blk t).view.emb (ix2 0 d)) = _
  rw [emb6 t 0 d, V16]
  exact weights_apply _ _

theorem b7 (d : Fin 1024) : iblk m c 7 t (ix2 0 d) = m ((c : Thread nD τ).loc main_arg5) (ix2 0 d) := by
  show V m c main_v18 (((cfg0.win 7).blk t).view.emb (ix2 0 d)) = _
  rw [emb7 t 0 d, V18]
  exact weights_apply _ _

theorem b8 (d : Fin 1024) : iblk m c 8 t (ix2 0 d) = m ((c : Thread nD τ).loc main_arg6) (ix2 0 d) := by
  show V m c main_v20 (((cfg0.win 8).blk t).view.emb (ix2 0 d)) = _
  rw [emb8 t 0 d, V20]
  exact weights_apply _ _

theorem b9 (r : Fin 1024) (d : Fin 4096) : iblk m c 9 t (ix2 r d) = m ((c : Thread nD τ).loc main_arg7) (ix3 0 r d) := by
  show V m c main_v22 (((cfg0.win 9).blk t).view.emb (ix2 r d)) = _
  rw [emb9 t r d, V22]
  exact up_apply _ _ _

theorem b10 (r : Fin 4096) (d : Fin 1024) : iblk m c 10 t (ix2 r d) = m ((c : Thread nD τ).loc main_arg8) (ix3 0 r d) := by
  show V m c main_v24 (((cfg0.win 10).blk t).view.emb (ix2 r d)) = _
  rw [emb10 t r d, V24]
  exact down_apply _ _ _

/-- The attention row of token `r` of the block. -/
theorem att (r x : Fin 512) (i : Fin 32768) (hi : i.val = t.val * 512 + r.val) :
    Block.attRow (iblk m c 1 t) (iblk m c 2 t) r x
      = m ((c : Thread nD τ).loc main_arg1) (ix3 ⟨i.val / 2048, by omega⟩ ⟨i.val % 2048, by omega⟩ x) := by
  have ht : t.val < 64 := Nat.lt_of_lt_of_eq t.isLt N_0
  unfold Block.attRow
  split
  · rename_i h
    show V m c main_v8 (((cfg0.win 1).blk t).view.emb (ix4 0 0 x ⟨r.val, h⟩)) = _
    rw [emb1 t x ⟨r.val, h⟩ ⟨i.val / 2048, by omega⟩
      ⟨if t.val % 4 < 2 then 4 * (t.val % 4) else 2 * (7 - 2 * (t.val % 4)) + 1, by split <;> omega⟩ (by show i.val / 2048 = _; omega) rfl, V8]
    refine folded_apply _ _ _ _ _ _ ?_
    show i.val % 2048 = (if (if t.val % 4 < 2 then 4 * (t.val % 4) else 2 * (7 - 2 * (t.val % 4)) + 1) % 2 = 0 then (if t.val % 4 < 2 then 4 * (t.val % 4) else 2 * (7 - 2 * (t.val % 4)) + 1) / 2 else 7 - (if t.val % 4 < 2 then 4 * (t.val % 4) else 2 * (7 - 2 * (t.val % 4)) + 1) / 2) * 256 + r.val
    split_ifs <;> omega
  · rename_i h
    show V m c main_v8 (((cfg0.win 2).blk t).view.emb (ix4 0 0 x ⟨r.val - 256, by omega⟩)) = _
    rw [emb2 t x ⟨r.val - 256, by omega⟩ ⟨i.val / 2048, by omega⟩
      ⟨if t.val % 4 < 2 then 4 * (t.val % 4) + 2 else 2 * (6 - 2 * (t.val % 4)) + 1, by split <;> omega⟩ (by show i.val / 2048 = _; omega) rfl, V8]
    refine folded_apply _ _ _ _ _ _ ?_
    show i.val % 2048 = (if (if t.val % 4 < 2 then 4 * (t.val % 4) + 2 else 2 * (6 - 2 * (t.val % 4)) + 1) % 2 = 0 then (if t.val % 4 < 2 then 4 * (t.val % 4) + 2 else 2 * (6 - 2 * (t.val % 4)) + 1) / 2 else 7 - (if t.val % 4 < 2 then 4 * (t.val % 4) + 2 else 2 * (6 - 2 * (t.val % 4)) + 1) / 2) * 256 + (r.val - 256)
    split_ifs <;> omega

end Cert.Tail.Entry

end
-- ==== Proof.Whole.lean ====
/-
  The kernel's result array after the run: at every token and column, `tailRow` of the token's rows of the argument arrays.
-/
module

public import proofs.«01_k».proof.Proof.Entry

@[expose] public section

set_option maxRecDepth 16384

noncomputable section

namespace Cert.Tail.Whole

open Idealize.ShloMosaic Idealize.ShloMosaic.TcCoe Cert.KernelIdeal Cert.KernelIdeal.Gen Cert.Tail.Entry

variable (m : (ℓ : Loc nD τ sig) → Buf (Elt Ideal) ℓ) (c : Dev nD)

/-- The result, index by index. -/
def result : FVec Ideal S32768x1024 .f32 := fun j =>
  tailRow (fun d => m ((c : Thread nD τ).loc main_arg0) (ix3 ⟨(j 0).val / 2048, by have := (j 0).isLt; change (j 0).val < 32768 at this; omega⟩ ⟨(j 0).val % 2048, by omega⟩ d))
    (fun x => m ((c : Thread nD τ).loc main_arg1) (ix3 ⟨(j 0).val / 2048, by have := (j 0).isLt; change (j 0).val < 32768 at this; omega⟩ ⟨(j 0).val % 2048, by omega⟩ x))
    (fun x => m ((c : Thread nD τ).loc main_arg2) (ix3 ⟨(j 0).val / 2048, by have := (j 0).isLt; change (j 0).val < 32768 at this; omega⟩ ⟨(j 0).val % 2048, by omega⟩ x))
    (fun x d => m ((c : Thread nD τ).loc main_arg3) (ix3 0 x d))
    (fun d => m ((c : Thread nD τ).loc main_arg4) (ix2 0 d)) (fun d => m ((c : Thread nD τ).loc main_arg5) (ix2 0 d))
    (fun d => m ((c : Thread nD τ).loc main_arg6) (ix2 0 d)) (fun x f => m ((c : Thread nD τ).loc main_arg7) (ix3 0 x f))
    (fun f d => m ((c : Thread nD τ).loc main_arg8) (ix3 0 f d)) (j 1)

/-- Block `t` of the result, as the body leaves it. -/
theorem block_apply (t : Fin cfg0.N) (r : Fin 512) (d : Fin 1024) (i : Fin 32768) (hi : i.val = t.val * 512 + r.val) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r d) = result m c (ix2 i d) := by
  refine (Block.out_apply _ _ _ _ _ _ _ _ _ _ _ r d).trans ?_
  have e0 : (fun d => iblk m c 0 t (ix2 r d)) = _ := funext fun d => b0 m c t r d i hi
  have e1 : Block.attRow (iblk m c 1 t) (iblk m c 2 t) r = _ := funext fun x => att m c t r x i hi
  have e3 : (fun d => iblk m c 3 t (ix2 r d)) = _ := funext fun d => b3 m c t r d i hi
  have e4 : (fun x d => iblk m c 4 t (ix2 x d)) = _ := funext fun x => funext fun d => b4 m c t x d
  have e5 : (fun x d => iblk m c 5 t (ix2 x d)) = _ := funext fun x => funext fun d => b5 m c t x d
  have e6 : (fun d => iblk m c 6 t (ix2 0 d)) = _ := funext fun d => b6 m c t d
  have e7 : (fun d => iblk m c 7 t (ix2 0 d)) = _ := funext fun d => b7 m c t d
  have e8 : (fun d => iblk m c 8 t (ix2 0 d)) = _ := funext fun d => b8 m c t d
  have e9 : (fun x d => iblk m c 9 t (ix2 x d)) = _ := funext fun x => funext fun d => b9 m c t x d
  have e10 : (fun x d => iblk m c 10 t (ix2 x d)) = _ := funext fun x => funext fun d => b10 m c t x d
  have key : ∀ (x0 y0 : Fin 1024 → EReal) (a1 a1' a3 a3' : Fin 512 → EReal) (w4 w4' w5 w5' : Fin 512 → Fin 1024 → EReal)
      (n6 n6' n7 n7' n8 n8' : Fin 1024 → EReal) (u u' : Fin 1024 → Fin 4096 → EReal) (w w' : Fin 4096 → Fin 1024 → EReal),
      x0 = y0 → a1 = a1' → a3 = a3' → w4 = w4' → w5 = w5' → n6 = n6' → n7 = n7' → n8 = n8' → u = u' → w = w' →
      lastRow (fun d => x0 d + normed (Block.projected2 a1 a3 w4 w5) n6 d) n7 n8 u w d
        = lastRow (fun d => y0 d + normed (Block.projected2 a1' a3' w4' w5') n6' d) n7' n8' u' w' d := by
    rintro _ _ _ _ _ _ _ _ _ _ _ _ _ _ _ _ _ _ _ _ rfl rfl rfl rfl rfl rfl rfl rfl rfl rfl; rfl
  exact key _ _ _ _ _ _ _ _ _ _ _ _ _ _ _ _ _ _ _ _ e0 e1 e3 e4 e5 e6 e7 e8 e9 e10

/-- The whole result array after the run. -/
theorem final : (dats m 0 c).arrAt 11 cfg0.N = result m c := by
  refine (dats m 0 c).arrAt_eq_of_covers 11 _ (by decide +kernel) fun t hf y => ?_
  have ht : t.val < 64 := Nat.lt_of_lt_of_eq t.isLt N_0
  obtain ⟨r, d, rfl⟩ : ∃ (r : Fin 512) (d : Fin 1024), y = ix2 r d := ⟨y 0, y 1, eq_ix2 y⟩
  rw [emb11 t r d ⟨t.val * 512 + r.val, by omega⟩ rfl]
  have hc : (dats m 0 c).flushed 11 t (ix2 r d) = out0_11 (iblk m c 0 t) (iblk m c 1 t) (iblk m c 2 t) (iblk m c 3 t) (iblk m c 4 t)
      (iblk m c 5 t) (iblk m c 6 t) (iblk m c 7 t) (iblk m c 8 t) (iblk m c 9 t) (iblk m c 10 t) (ix2 r d) := by
    rw [Cert.KernelIdeal.Value.flushed11]
    generalize out0_11 (iblk m c 0 t) (iblk m c 1 t) (iblk m c 2 t) (iblk m c 3 t) (iblk m c 4 t)
      (iblk m c 5 t) (iblk m c 6 t) (iblk m c 7 t) (iblk m c 8 t) (iblk m c 9 t) (iblk m c 10 t) = v
    rfl
  exact hc.trans (block_apply m c t r d _ rfl)

end Cert.Tail.Whole

end
-- ==== Proof.Steps.lean ====
/-
  Programs that only touch buffers they hold. A core holds `H`; `Has c H m` says that the memref `m`, at some
  contents, can be taken out of `H` and put back at any contents; `Ok H p` says that `p` runs from `H` and gives `H`
  back, whatever it returns. Loads from and stores into held memrefs are `Ok`, and `Ok` passes through sequencing and
  conditionals: a kernel body is shown to run, without a word about what it computes, from its text alone.
-/
module

public import Idealize.ShloMosaic.Lib.Memref
public import Idealize.ShloMosaic.Rules.Step
public import Idealize.ShloMosaic.Lib.Pipeline.Frame

@[expose] public section

noncomputable section

namespace Cert.Steps

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

/-- What a core may hold, over the resources a one-region program's launch uses. -/
abbrev Assn (nD : Nat) (τ : Topo) (sig : RefSig) (F : FTy → Type) : Type := sProp (MT nD τ sig Unit (Elt F) ℕ (UR sig nD τ) ℕ)

/-- The memref, at some contents, is part of `H`, and any contents may be put back. -/
class Has (c : Dev nD) (H : Assn nD τ sig F) {sp : Space} {s : Shape} {e : EltTy} (m : Memref sig .tc sp s e) : Prop where
  take : H ⊢ iprop((∃ X, owns (c : Thread nD τ) m fullShare X) ∗ ((∃ X, owns (c : Thread nD τ) m fullShare X) -∗ H))

/-- The program runs from `H` and gives `H` back, whatever it returns. -/
def Ok (defs : Defs nD τ sig (Elt F) Λ) (𝒱 : Variants) (c : Dev nD) (E : Set ℕ) (H : Assn nD τ sig F) {α : Type}
    (p : Prog (TpuEff nD τ sig (Elt F) Λ .tc) α) : Prop :=
  ∀ K : α → Assn nD τ sig F, iprop(H ∗ (∀ v, H -∗ K v)) ⊢ wp frame (wpE defs 𝒱 (c : Thread nD τ) none) E p K

variable {defs : Defs nD τ sig (Elt F) Λ} {𝒱 : Variants} {c : Dev nD} {E : Set ℕ} {H : Assn nD τ sig F} {α β : Type}

theorem Ok.pure (v : α) : Ok defs 𝒱 c E H (Pure.pure v) := by
  intro K
  iintro ⟨HH, Hk⟩
  rw [wp_pure]
  imodintro
  iapply Hk
  iexact HH

theorem Ok.bind {p : Prog (TpuEff nD τ sig (Elt F) Λ .tc) α} {k : α → Prog (TpuEff nD τ sig (Elt F) Λ .tc) β}
    (hp : Ok defs 𝒱 c E H p) (hk : ∀ v, Ok defs 𝒱 c E H (k v)) : Ok defs 𝒱 c E H (p >>= k) := by
  intro K
  rw [wp_bind]
  iintro ⟨HH, Hk⟩
  iapply (hp fun v => wp frame (wpE defs 𝒱 (c : Thread nD τ) none) E (k v) K)
  isplitl [HH]; · iexact HH
  iintro %v HH
  iapply (hk v K)
  isplitl [HH]; · iexact HH
  iexact Hk

theorem Ok.dite {P : Prop} [Decidable P] {p : P → Prog (TpuEff nD τ sig (Elt F) Λ .tc) α} {q : ¬P → Prog (TpuEff nD τ sig (Elt F) Λ .tc) α}
    (hp : ∀ h, Ok defs 𝒱 c E H (p h)) (hq : ∀ h, Ok defs 𝒱 c E H (q h)) : Ok defs 𝒱 c E H (if h : P then p h else q h) := by
  split
  · exact hp _
  · exact hq _

/-- A load from a memref held, whatever follows. -/
theorem Ok.loadOp {cs : CoreSpace} {s : Shape} {e : EltTy} {m : Memref sig .tc (.core cs) s e} [hm : Has (τ := τ) (F := F) c H m] {r : LoadRect s} {hl : m.view.LoadsAt r}
    {k : (r.shape.Idx → (Elt F) e) → Prog (TpuEff nD τ sig (Elt F) Λ .tc) α} (hk : ∀ v, Ok defs 𝒱 c E H (k v)) :
    Ok defs 𝒱 c E H (.op (.load m r hl) k) := by
  intro K
  iintro ⟨HH, Hk⟩
  ihave H' := hm.take $$ HH
  icases H' with ⟨⟨%X, Ho⟩, Hb⟩
  unfold owns
  icases Ho with ⟨%f, %hf, Ho⟩
  iapply (wp_load 𝒱 (c : Thread nD τ) none E (Q := K) (m := m) (r := r) (hl := hl) (k := k) (m.view.setOn_subset_set r.set)) $$ Ho
  iintro Ho
  iapply (hk _ K)
  isplitr [Hk]
  · iapply Hb
    iexists X; iexists f
    isplitr; · ipureintro; exact hf
    iexact Ho
  iexact Hk

theorem Ok.load {cs : CoreSpace} {s : Shape} {e : EltTy} {m : Memref sig .tc (.core cs) s e} [hm : Has (τ := τ) (F := F) c H m] {r : LoadRect s} {hl : m.view.LoadsAt r} :
    Ok defs 𝒱 c E H (Prog.lift (.load m r hl) : Prog (TpuEff nD τ sig (Elt F) Λ .tc) (r.shape.Idx → (Elt F) e)) :=
  Ok.loadOp fun v => Ok.pure v

/-- A store into a memref held. -/
theorem Ok.store {cs : CoreSpace} {s : Shape} {e : EltTy} {m : Memref sig .tc (.core cs) s e} [hm : Has (τ := τ) (F := F) c H m] {r : Rect s} {w : r.shape.Idx → (Elt F) e}
    {Mk : Finset r.shape.Idx} {hx : (m.access r).Stores Mk} {hs : Mk = Finset.univ ∨ ∀ a, r.stride a = 1} :
    Ok defs 𝒱 c E H (Prog.lift (.store m r w Mk hx hs) : Prog (TpuEff nD τ sig (Elt F) Λ .tc) PUnit) := by
  intro K
  iintro ⟨HH, Hk⟩
  ihave H' := hm.take $$ HH
  icases H' with ⟨⟨%X, Ho⟩, Hb⟩
  unfold owns
  icases Ho with ⟨%f, %hf, Ho⟩
  iapply (wp_store 𝒱 (c : Thread nD τ) none E (Q := K) (m := m) (r := r) (w := w) (Mk := Mk) (hx := hx) (hm := hs) (k := fun v => .ret v)
    (S := m.view.set) (((m.access r).setOn_subset_set Mk).trans (m.view.set_slice_subset r))) $$ Ho
  iintro Ho
  rw [wp_ret]
  imodintro
  iapply Hk
  iapply Hb
  iexists _; iexists _
  isplitr
  swap; · iexact Ho
  ipureintro; rfl

/-- A word loaded from scalar memory held. -/
theorem Ok.smem {s : Shape} {e : EltTy} {m : Memref sig .tc .smem s e} [hm : Has (τ := τ) (F := F) c H m] {r : Rect s} {h1 : r.shape.numel = 1} {hp : e.packing = 1} :
    Ok defs 𝒱 c E H (smemLoad m r h1 hp : Prog (TpuEff nD τ sig (Elt F) Λ .tc) (Elt F e)) :=
  Ok.loadOp fun _ => Ok.pure _

/-- A load, then the rest. -/
theorem ld {cs : CoreSpace} {s : Shape} {e : EltTy} {m : Memref sig .tc (.core cs) s e} [Has (τ := τ) (F := F) c H m] {r : LoadRect s}
    {hl : m.view.LoadsAt r} {k : (r.shape.Idx → Elt F e) → Prog (TpuEff nD τ sig (Elt F) Λ .tc) α} (hk : ∀ v, Ok defs 𝒱 c E H (k v)) :
    Ok defs 𝒱 c E H ((Prog.lift (.load m r hl) : Prog (TpuEff nD τ sig (Elt F) Λ .tc) (r.shape.Idx → Elt F e)) >>= k) :=
  Ok.load.bind hk

/-- A store, then the rest. -/
theorem st {cs : CoreSpace} {s : Shape} {e : EltTy} {m : Memref sig .tc (.core cs) s e} [Has (τ := τ) (F := F) c H m] {r : Rect s}
    {w : r.shape.Idx → Elt F e} {Mk : Finset r.shape.Idx} {hx : (m.access r).Stores Mk} {hs : Mk = Finset.univ ∨ ∀ a, r.stride a = 1}
    {k : PUnit → Prog (TpuEff nD τ sig (Elt F) Λ .tc) α} (hk : ∀ v, Ok defs 𝒱 c E H (k v)) :
    Ok defs 𝒱 c E H ((Prog.lift (.store m r w Mk hx hs) : Prog (TpuEff nD τ sig (Elt F) Λ .tc) PUnit) >>= k) :=
  Ok.store.bind hk

/-- A word loaded from scalar memory, then the rest. -/
theorem sm {s : Shape} {e : EltTy} {m : Memref sig .tc .smem s e} [Has (τ := τ) (F := F) c H m] {r : Rect s} {h1 : r.shape.numel = 1}
    {hp : e.packing = 1} {k : Elt F e → Prog (TpuEff nD τ sig (Elt F) Λ .tc) α} (hk : ∀ v, Ok defs 𝒱 c E H (k v)) :
    Ok defs 𝒱 c E H ((smemLoad m r h1 hp : Prog (TpuEff nD τ sig (Elt F) Λ .tc) (Elt F e)) >>= k) :=
  Ok.smem.bind hk

/-- A memref held, at some contents. -/
def held (c : Dev nD) {sp : Space} {s : Shape} {e : EltTy} (m : Memref sig .tc sp s e) : Assn nD τ sig F :=
  iprop(∃ X, owns (c : Thread nD τ) m fullShare X)

variable {R : Assn nD τ sig F} {sp sp' : Space} {s s' : Shape} {e e' : EltTy} {m : Memref sig .tc sp s e} {m' : Memref sig .tc sp' s' e'}

instance Has.self : Has c (held (τ := τ) (F := F) c m) m where
  take := by
    unfold held
    iintro H
    isplitl [H]; · iexact H
    iintro H; iexact H

instance Has.left : Has c (iprop(held (τ := τ) (F := F) c m ∗ R)) m where
  take := by
    unfold held
    iintro ⟨H, HR⟩
    isplitl [H]; · iexact H
    iintro H
    isplitl [H]; · iexact H
    iexact HR

instance Has.right [h : Has c R m] : Has c (iprop(held (τ := τ) (F := F) c m' ∗ R)) m where
  take := by
    iintro ⟨H, HR⟩
    ihave HR' := h.take $$ HR
    icases HR' with ⟨Hm, Hb⟩
    isplitl [Hm]; · iexact Hm
    iintro Hm
    isplitl [H]; · iexact H
    iapply Hb
    iexact Hm

end Cert.Steps

end
-- ==== Proof.BodyI1.lean ====
/-
  The token mixers' body (of `Kernel2Ideal`), the branch taken at the first step of the grid:
  each stretch of text only loads from and stores into the buffers it is given, so it runs on them and gives them back.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Steps

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {𝒱 : Variants} {c : Dev nD} {E : Set ℕ} {H : Assn nD τ sig F} {i : grid0.Coords}
  {a1 : Memref sig .tc .smem S8x32 .f32} {h1 : a1.IsWhole} [Has c H a1]
  {a2 : Memref sig .tc .vmem S1x2x128x256 .f32} {h2 : a2.IsWhole} [Has c H a2]
  {a3 : Memref sig .tc .vmem S1x2x128x256 .f32} {h3 : a3.IsWhole} [Has c H a3]
  {a4 : Memref sig .tc .vmem S1x2048x128 .bf16} {h4 : a4.IsWhole} [Has c H a4]
  {a5 : Memref sig .tc .vmem S4x8x128 .f32} {h5 : a5.IsWhole} [Has c H a5]
  {a6 : Memref sig .tc .vmem S1x8x2x80x256 .bf16} {h6 : a6.IsWhole} [Has c H a6]
  {a7 : Memref sig .tc .vmem S256x1536 .f32} {h7 : a7.IsWhole} [Has c H a7]
  {a8 : Memref sig .tc .vmem S256x128 .f32} {h8 : a8.IsWhole} [Has c H a8]
  {a9 : Memref sig .tc .vmem S256x512 .f32} {h9 : a9.IsWhole} [Has c H a9]
  {a10 : Memref sig .tc .vmem S1x512 .f32} {h10 : a10.IsWhole} [Has c H a10]
  {a11 : Memref sig .tc .vmem S1x4x128x256 .f32} {h11 : a11.IsWhole} [Has c H a11]
  {a12 : Memref sig .tc .vmem S256x512 .f32} {h12 : a12.IsWhole} [Has c H a12]
  {a13 : Memref sig .tc .vmem S2x2x256x256 .f32} {h13 : a13.IsWhole} [Has c H a13]
  {a14 : Memref sig .tc .vmem S2x2x16x256 .f32} {h14 : a14.IsWhole} [Has c H a14]
  {a15 : Memref sig .tc .vmem S2x2x2x128x256 .bf16} {h15 : a15.IsWhole} [Has c H a15]
  {a16 : Memref sig .tc .vmem S4x2x9x256x256 .f32} {h16 : a16.IsWhole} [Has c H a16]
  {a17 : Memref sig .tc .vmem S4x2x16x256 .f32} {h17 : a17.IsWhole} [Has c H a17]
  {a18 : Memref sig .tc .vmem S2x256x512 .f32} {h18 : a18.IsWhole} [Has c H a18]
  {a19 : Memref sig .tc .vmem S2x4x128x512 .bf16} {h19 : a19.IsWhole} [Has c H a19]
  {a20 : Memref sig .tc .vmem S2x256x512 .bf16} {h20 : a20.IsWhole} [Has c H a20]
  {a21 : Memref sig .tc .vmem S2x256x512 .bf16} {h21 : a21.IsWhole} [Has c H a21]
  {a22 : Memref sig .tc .vmem S2x32x512 .f32} {h22 : a22.IsWhole} [Has c H a22]
  {a23 : Memref sig .tc .vmem S4x128x128 .f32} {h23 : a23.IsWhole} [Has c H a23]

theorem p130 {x0 x1 x2 x3 x4 x5 x6 x7 x8 x9} : Ok defs₀ 𝒱 c E H (k0_part130 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9) := by
  rw [k0_part130_eq_skeleton]
  exact .bind (by rw [k0_part19_eq_skeleton]; exact ld fun _ => st fun _ => ld fun _ => ld fun _ => .pure _) fun ⟨_, _, _, _, _, _⟩ =>
    .bind (by rw [k0_part20_eq_skeleton]; exact .pure _) fun ⟨_, _, _, _, _⟩ =>
    .bind (by rw [k0_part21_eq_skeleton]; exact .pure _) fun ⟨_, _, _⟩ =>
    .bind (by rw [k0_part22_eq_skeleton]; exact ld fun _ => st fun _ => ld fun _ => st fun _ => .pure _) fun ⟨_, _⟩ =>
    .bind (by rw [k0_part23_eq_skeleton]; exact .pure _) fun ⟨_, _, _, _⟩ =>
    .bind (by rw [k0_part24_eq_skeleton]; exact .pure _) fun ⟨_, _, _, _⟩ =>
    .bind (by rw [k0_part25_eq_skeleton]; exact ld fun _ => st fun _ => ld fun _ => st fun _ => ld fun _ => .pure _) fun ⟨_, _, _, _⟩ =>
    .bind (by rw [k0_part26_eq_skeleton]; exact .pure _) fun ⟨_, _, _, _, _⟩ =>
    .bind (by rw [k0_part27_eq_skeleton]; exact .pure _) fun ⟨_, _, _⟩ =>
    .bind (by rw [k0_part28_eq_skeleton]; exact ld fun _ => st fun _ => ld fun _ => st fun _ => .pure _) fun ⟨_, _, _⟩ =>
    .bind (by rw [k0_part29_eq_skeleton]; exact .pure _) fun ⟨_, _, _, _⟩ =>
    .bind (by rw [k0_part30_eq_skeleton]; exact .pure _) fun ⟨_, _, _⟩ =>
    .bind (by rw [k0_part31_eq_skeleton]; exact ld fun _ => st fun _ => ld fun _ => st fun _ => ld fun _ => ld fun _ => .pure _) fun ⟨_, _, _⟩ =>
    .bind (by rw [k0_part32_eq_skeleton]; exact ld fun _ => ld fun _ => st fun _ => ld fun _ => ld fun _ => ld fun _ => .pure _) fun ⟨_, _, _, _, _, _⟩ =>
    .bind (by rw [k0_part33_eq_skeleton]; exact ld fun _ => ld fun _ => ld fun _ => ld fun _ => st fun _ => ld fun _ => ld fun _ => ld fun _ => .pure _) fun ⟨_, _, _⟩ =>
    .bind (by rw [k0_part34_eq_skeleton]; exact ld fun _ => st fun _ => ld fun _ => ld fun _ => .pure _) fun ⟨_, _, _, _⟩ =>
    .bind (by rw [k0_part35_eq_skeleton]; exact ld fun _ => .pure _) fun ⟨_, _, _⟩ =>
    .bind (by rw [k0_part36_eq_skeleton]; exact ld fun _ => ld fun _ => st fun _ => ld fun _ => sm fun _ => ld fun _ => ld fun _ => ld fun _ => .pure _) fun ⟨_, _, _, _⟩ =>
    .bind (by rw [k0_part37_eq_skeleton]; exact st fun _ => ld fun _ => sm fun _ => ld fun _ => st fun _ => ld fun _ => .pure _) fun ⟨_, _, _, _, _, _, _, _⟩ =>
    .bind (by rw [k0_part38_eq_skeleton]; exact st fun _ => ld fun _ => st fun _ => ld fun _ => st fun _ => ld fun _ => st fun _ => ld fun _ => st fun _ => .pure _) fun ⟨_, _⟩ =>
    .bind (by rw [k0_part39_eq_skeleton]; exact ld fun _ => st fun _ => ld fun _ => st fun _ => .pure _) fun ⟨_, _, _, _, _⟩ =>
    .bind (by rw [k0_part40_eq_skeleton]; exact .pure _) fun ⟨_, _, _, _, _, _, _⟩ =>
    .bind (by rw [k0_part41_eq_skeleton]; exact .pure _) fun ⟨_, _, _, _, _, _, _⟩ =>
    .bind (by rw [k0_part42_eq_skeleton]; exact .pure _) fun ⟨_, _, _, _, _, _, _⟩ =>
    .bind (by rw [k0_part43_eq_skeleton]; exact ld fun _ => ld fun _ => ld fun _ => st fun _ => ld fun _ => sm fun _ => .pure _) fun ⟨_, _, _, _⟩ =>
    .bind (by rw [k0_part44_eq_skeleton]; exact ld fun _ => ld fun _ => ld fun _ => st fun _ => ld fun _ => sm fun _ => .pure _) fun ⟨_, _, _, _⟩ =>
    .bind (by rw [k0_part45_eq_skeleton]; exact .pure _) fun ⟨_, _, _, _, _, _, _⟩ =>
    .bind (by rw [k0_part46_eq_skeleton]; exact .pure _) fun ⟨_, _, _, _, _, _, _, _⟩ =>
    .bind (by rw [k0_part47_eq_skeleton]; exact .pure _) fun ⟨_, _, _, _, _, _, _, _, _, _, _, _, _, _, _, _, _, _, _, _, _, _⟩ =>
    .bind (by rw [k0_part48_eq_skeleton]; exact .pure _) fun ⟨_, _, _, _, _, _, _⟩ =>
    .bind (by rw [k0_part49_eq_skeleton]; exact .pure _) fun ⟨_, _, _, _, _, _, _, _⟩ =>
    .bind (by rw [k0_part50_eq_skeleton]; exact ld fun _ => .pure _) fun ⟨_, _, _, _, _, _⟩ =>
    .bind (by rw [k0_part51_eq_skeleton]; exact ld fun _ => ld fun _ => st fun _ => ld fun _ => sm fun _ => ld fun _ => ld fun _ => ld fun _ => st fun _ => .pure _) fun ⟨_, _, _⟩ =>
    .bind (by rw [k0_part52_eq_skeleton]; exact ld fun _ => sm fun _ => .pure _) fun ⟨_, _, _, _, _, _, _⟩ =>
    .bind (by rw [k0_part53_eq_skeleton]; exact .pure _) fun ⟨_, _, _, _, _, _, _, _, _⟩ =>
    .bind (by rw [k0_part54_eq_skeleton]; exact .pure _) fun ⟨_, _, _, _, _, _, _, _, _⟩ =>
    .bind (by rw [k0_part55_eq_skeleton]; exact .pure _) fun ⟨_, _, _, _, _, _, _, _⟩ =>
    .bind (by rw [k0_part56_eq_skeleton]; exact .pure _) fun ⟨_, _, _, _, _, _, _, _, _, _⟩ =>
    .bind (by rw [k0_part57_eq_skeleton]; exact .pure _) fun ⟨_, _, _, _, _, _, _, _, _, _, _, _, _, _, _, _, _, _, _, _, _, _, _, _, _, _, _, _, _, _, _, _⟩ =>
    .bind (by rw [k0_part58_eq_skeleton]; exact ld fun _ => st fun _ => ld fun _ => st fun _ => ld fun _ => st fun _ => .pure _) fun ⟨_, _, _, _, _, _, _, _, _, _, _, _, _, _, _⟩ =>
    .bind (by rw [k0_part59_eq_skeleton]; exact ld fun _ => st fun _ => ld fun _ => st fun _ => ld fun _ => st fun _ => ld fun _ => st fun _ => ld fun _ => st fun _ => ld fun _ => st fun _ => ld fun _ => .pure _) fun _ =>
    .bind (by rw [k0_part60_eq_skeleton]; exact ld fun _ => ld fun _ => ld fun _ => st fun _ => ld fun _ => ld fun _ => ld fun _ => ld fun _ => st fun _ => .pure _) fun ⟨_, _⟩ =>
    .bind (by rw [k0_part61_eq_skeleton]; exact .pure _) fun ⟨_, _, _, _, _, _, _, _, _⟩ =>
    .bind (by rw [k0_part62_eq_skeleton]; exact .pure _) fun ⟨_, _, _, _, _, _, _, _⟩ =>
    .bind (by rw [k0_part63_eq_skeleton]; exact .pure _) fun ⟨_, _, _, _, _, _, _⟩ =>
    .bind (by rw [k0_part64_eq_skeleton]; exact .pure _) fun ⟨_, _, _, _, _, _, _, _, _⟩ =>
    .bind (by rw [k0_part65_eq_skeleton]; exact .pure _) fun ⟨_, _, _, _, _, _, _, _, _, _, _, _, _, _⟩ =>
    .bind (by rw [k0_part66_eq_skeleton]; exact .pure _) fun ⟨_, _, _, _, _, _, _, _, _, _, _, _, _, _, _, _, _, _, _, _, _, _, _, _, _, _, _, _, _, _, _, _⟩ =>
    .bind (by rw [k0_part67_eq_skeleton]; exact ld fun _ => ld fun _ => ld fun _ => ld fun _ => st fun _ => ld fun _ => ld fun _ => ld fun _ => .pure _) fun ⟨_, _, _, _, _, _, _, _⟩ =>
    .bind (by rw [k0_part68_eq_skeleton]; exact ld fun _ => st fun _ => ld fun _ => sm fun _ => .pure _) fun ⟨_, _, _, _, _, _, _⟩ =>
    .bind (by rw [k0_part69_eq_skeleton]; exact .pure _) fun ⟨_, _, _, _, _, _, _, _⟩ =>
    .bind (by rw [k0_part70_eq_skeleton]; exact .pure _) fun ⟨_, _, _, _, _, _, _, _⟩ =>
    .bind (by rw [k0_part71_eq_skeleton]; exact .pure _) fun ⟨_, _, _, _, _, _, _⟩ =>
    .bind (by rw [k0_part72_eq_skeleton]; exact .pure _) fun ⟨_, _, _, _, _, _, _, _, _⟩ =>
    .bind (by rw [k0_part73_eq_skeleton]; exact .pure _) fun ⟨_, _, _, _, _, _, _, _, _, _, _, _, _, _, _, _, _, _, _, _, _, _, _, _⟩ =>
    .bind (by rw [k0_part74_eq_skeleton]; exact ld fun _ => ld fun _ => ld fun _ => .pure _) fun ⟨_, _, _, _, _, _, _, _, _, _, _, _, _, _, _, _, _, _, _, _, _, _, _, _, _, _⟩ =>
    .bind (by rw [k0_part75_eq_skeleton]; exact st fun _ => ld fun _ => sm fun _ => ld fun _ => ld fun _ => ld fun _ => st fun _ => ld fun _ => .pure _) fun ⟨_, _, _, _, _⟩ =>
    .bind (by rw [k0_part76_eq_skeleton]; exact sm fun _ => .pure _) fun ⟨_, _, _, _, _, _, _, _, _, _⟩ =>
    .bind (by rw [k0_part77_eq_skeleton]; exact .pure _) fun ⟨_, _, _, _, _, _, _, _⟩ =>
    .bind (by rw [k0_part78_eq_skeleton]; exact .pure _) fun ⟨_, _, _, _, _, _, _⟩ => .pure _

theorem p131 {x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 x84 x85} : Ok defs₀ 𝒱 c E H (k0_part131 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 x84 x85) := by
  rw [k0_part131_eq_skeleton]
  exact .bind (by rw [k0_part79_eq_skeleton]; exact .pure _) fun ⟨_, _, _, _, _, _, _, _, _⟩ =>
    .bind (by rw [k0_part80_eq_skeleton]; exact .pure _) fun ⟨_, _, _, _, _, _, _, _, _, _, _, _, _⟩ =>
    .bind (by rw [k0_part81_eq_skeleton]; exact .pure _) fun ⟨_, _, _, _, _, _, _, _, _, _, _, _, _, _, _, _, _, _, _, _, _, _, _, _, _, _, _, _, _, _, _, _⟩ =>
    .bind (by rw [k0_part82_eq_skeleton]; exact ld fun _ => ld fun _ => ld fun _ => st fun _ => ld fun _ => sm fun _ => .pure _) fun ⟨_, _, _, _, _, _, _, _, _, _⟩ =>
    .bind (by rw [k0_part83_eq_skeleton]; exact ld fun _ => ld fun _ => ld fun _ => st fun _ => ld fun _ => sm fun _ => .pure _) fun ⟨_, _, _, _⟩ =>
    .bind (by rw [k0_part84_eq_skeleton]; exact .pure _) fun ⟨_, _, _, _, _, _, _, _, _⟩ =>
    .bind (by rw [k0_part85_eq_skeleton]; exact .pure _) fun ⟨_, _, _, _, _, _, _, _, _, _, _⟩ =>
    .bind (by rw [k0_part86_eq_skeleton]; exact ld fun _ => .pure _) fun ⟨_, _, _, _, _, _, _, _, _, _, _, _, _, _, _, _, _⟩ =>
    .bind (by rw [k0_part87_eq_skeleton]; exact ld fun _ => ld fun _ => st fun _ => ld fun _ => sm fun _ => ld fun _ => st fun _ => ld fun _ => .pure _) fun ⟨_, _, _⟩ =>
    .bind (by rw [k0_part88_eq_skeleton]; exact st fun _ => ld fun _ => st fun _ => ld fun _ => st fun _ => ld fun _ => st fun _ => ld fun _ => st fun _ => ld fun _ => st fun _ => ld fun _ => st fun _ => .pure _) fun _ =>
    .bind (by rw [k0_part89_eq_skeleton]; exact ld fun _ => st fun _ => ld fun _ => .pure _) fun ⟨_, _, _, _, _, _, _⟩ =>
    .bind (by rw [k0_part90_eq_skeleton]; exact .pure _) fun ⟨_, _⟩ =>
    .bind (by rw [k0_part91_eq_skeleton]; exact ld fun _ => st fun _ => .pure _) fun ⟨_, _, _⟩ =>
    .bind (by rw [k0_part92_eq_skeleton]; exact ld fun _ => st fun _ => .pure _) fun ⟨_, _, _, _⟩ =>
    .bind (by rw [k0_part93_eq_skeleton]; exact .pure _) fun ⟨_, _, _, _⟩ =>
    .bind (by rw [k0_part94_eq_skeleton]; exact ld fun _ => st fun _ => .pure _) fun _ =>
    .bind (by rw [k0_part95_eq_skeleton]; exact ld fun _ => st fun _ => ld fun _ => .pure _) fun ⟨_, _, _, _, _, _, _, _⟩ =>
    .bind (by rw [k0_part96_eq_skeleton]; exact .pure _) fun ⟨_, _, _⟩ =>
    .bind (by rw [k0_part97_eq_skeleton]; exact ld fun _ => st fun _ => .pure _) fun _ =>
    .bind (by rw [k0_part98_eq_skeleton]; exact ld fun _ => st fun _ => .pure _) fun ⟨_, _, _, _, _⟩ =>
    .bind (by rw [k0_part99_eq_skeleton]; exact .pure _) fun ⟨_, _, _, _⟩ =>
    .bind (by rw [k0_part100_eq_skeleton]; exact ld fun _ => st fun _ => .pure _) fun _ =>
    .bind (by rw [k0_part101_eq_skeleton]; exact ld fun _ => st fun _ => .pure _) fun ⟨_, _, _, _⟩ =>
    .bind (by rw [k0_part102_eq_skeleton]; exact .pure _) fun ⟨_, _, _, _, _, _⟩ =>
    .bind (by rw [k0_part103_eq_skeleton]; exact .pure _) fun ⟨_, _, _, _, _, _, _, _⟩ =>
    .bind (by rw [k0_part104_eq_skeleton]; exact ld fun _ => ld fun _ => .pure _) fun ⟨_, _, _, _, _, _⟩ =>
    .bind (by rw [k0_part105_eq_skeleton]; exact ld fun _ => ld fun _ => st fun _ => ld fun _ => ld fun _ => ld fun _ => ld fun _ => st fun _ => ld fun _ => .pure _) fun ⟨_, _, _⟩ =>
    .bind (by rw [k0_part106_eq_skeleton]; exact st fun _ => ld fun _ => st fun _ => ld fun _ => st fun _ => ld fun _ => st fun _ => ld fun _ => st fun _ => ld fun _ => st fun _ => ld fun _ => .pure _) fun _ =>
    .bind (by rw [k0_part107_eq_skeleton]; exact st fun _ => ld fun _ => st fun _ => ld fun _ => st fun _ => ld fun _ => st fun _ => ld fun _ => st fun _ => ld fun _ => st fun _ => ld fun _ => st fun _ => .pure _) fun _ =>
    .bind (by rw [k0_part108_eq_skeleton]; exact ld fun _ => st fun _ => ld fun _ => st fun _ => ld fun _ => st fun _ => ld fun _ => st fun _ => ld fun _ => st fun _ => ld fun _ => st fun _ => .pure _) fun ⟨_, _⟩ =>
    .bind (by rw [k0_part109_eq_skeleton]; exact ld fun _ => st fun _ => ld fun _ => st fun _ => ld fun _ => st fun _ => ld fun _ => st fun _ => ld fun _ => st fun _ => ld fun _ => st fun _ => .pure _) fun _ =>
    .bind (by rw [k0_part110_eq_skeleton]; exact ld fun _ => st fun _ => ld fun _ => st fun _ => ld fun _ => st fun _ => ld fun _ => st fun _ => ld fun _ => st fun _ => ld fun _ => st fun _ => .pure _) fun _ =>
    .bind (by rw [k0_part111_eq_skeleton]; exact ld fun _ => st fun _ => ld fun _ => st fun _ => ld fun _ => st fun _ => ld fun _ => st fun _ => ld fun _ => st fun _ => ld fun _ => st fun _ => ld fun _ => .pure _) fun ⟨_, _⟩ =>
    .bind (by rw [k0_part112_eq_skeleton]; exact st fun _ => ld fun _ => st fun _ => ld fun _ => st fun _ => ld fun _ => st fun _ => ld fun _ => st fun _ => ld fun _ => st fun _ => ld fun _ => .pure _) fun ⟨_, _⟩ =>
    .bind (by rw [k0_part113_eq_skeleton]; exact st fun _ => ld fun _ => st fun _ => ld fun _ => st fun _ => ld fun _ => st fun _ => ld fun _ => st fun _ => ld fun _ => st fun _ => ld fun _ => st fun _ => .pure _) fun _ =>
    .bind (by rw [k0_part114_eq_skeleton]; exact ld fun _ => st fun _ => ld fun _ => st fun _ => ld fun _ => st fun _ => ld fun _ => st fun _ => ld fun _ => st fun _ => ld fun _ => st fun _ => .pure _) fun _ =>
    .bind (by rw [k0_part115_eq_skeleton]; exact ld fun _ => st fun _ => ld fun _ => st fun _ => ld fun _ => st fun _ => ld fun _ => st fun _ => ld fun _ => st fun _ => ld fun _ => st fun _ => .pure _) fun _ =>
    .bind (by rw [k0_part116_eq_skeleton]; exact ld fun _ => st fun _ => ld fun _ => st fun _ => ld fun _ => ld fun _ => ld fun _ => ld fun _ => st fun _ => ld fun _ => .pure _) fun ⟨_, _⟩ =>
    .bind (by rw [k0_part117_eq_skeleton]; exact ld fun _ => ld fun _ => ld fun _ => ld fun _ => st fun _ => ld fun _ => ld fun _ => ld fun _ => ld fun _ => .pure _) fun ⟨_, _, _, _⟩ =>
    .bind (by rw [k0_part118_eq_skeleton]; exact st fun _ => ld fun _ => sm fun _ => ld fun _ => ld fun _ => ld fun _ => st fun _ => ld fun _ => .pure _) fun ⟨_, _, _, _⟩ =>
    .bind (by rw [k0_part119_eq_skeleton]; exact sm fun _ => ld fun _ => ld fun _ => ld fun _ => st fun _ => ld fun _ => sm fun _ => ld fun _ => .pure _) fun ⟨_, _, _, _, _⟩ =>
    .bind (by rw [k0_part120_eq_skeleton]; exact ld fun _ => ld fun _ => st fun _ => ld fun _ => sm fun _ => ld fun _ => ld fun _ => ld fun _ => st fun _ => .pure _) fun ⟨_, _, _⟩ =>
    .bind (by rw [k0_part121_eq_skeleton]; exact ld fun _ => sm fun _ => ld fun _ => st fun _ => ld fun _ => st fun _ => ld fun _ => st fun _ => ld fun _ => st fun _ => .pure _) fun ⟨_, _, _⟩ =>
    .bind (by rw [k0_part122_eq_skeleton]; exact ld fun _ => st fun _ => ld fun _ => st fun _ => ld fun _ => st fun _ => ld fun _ => st fun _ => ld fun _ => st fun _ => ld fun _ => ld fun _ => .pure _) fun _ =>
    .bind (by rw [k0_part123_eq_skeleton]; exact ld fun _ => ld fun _ => st fun _ => ld fun _ => ld fun _ => ld fun _ => ld fun _ => st fun _ => ld fun _ => .pure _) fun ⟨_, _, _⟩ =>
    .bind (by rw [k0_part124_eq_skeleton]; exact ld fun _ => ld fun _ => ld fun _ => st fun _ => ld fun _ => ld fun _ => ld fun _ => ld fun _ => ld fun _ => st fun _ => .pure _) fun ⟨_, _, _⟩ =>
    .bind (by rw [k0_part125_eq_skeleton]; exact ld fun _ => ld fun _ => ld fun _ => ld fun _ => st fun _ => ld fun _ => sm fun _ => ld fun _ => .pure _) fun ⟨_, _, _, _, _⟩ =>
    .bind (by rw [k0_part126_eq_skeleton]; exact ld fun _ => ld fun _ => st fun _ => ld fun _ => sm fun _ => ld fun _ => ld fun _ => ld fun _ => .pure _) fun ⟨_, _, _, _⟩ =>
    .bind (by rw [k0_part127_eq_skeleton]; exact st fun _ => ld fun _ => sm fun _ => ld fun _ => ld fun _ => ld fun _ => st fun _ => ld fun _ => .pure _) fun ⟨_, _, _, _⟩ =>
    .bind (by rw [k0_part128_eq_skeleton]; exact sm fun _ => ld fun _ => ld fun _ => ld fun _ => st fun _ => ld fun _ => sm fun _ => .pure _) fun ⟨_, _, _, _⟩ =>
    .bind (by rw [k0_part129_eq_skeleton]; exact ld fun _ => st fun _ => ld fun _ => st fun _ => ld fun _ => st fun _ => ld fun _ => st fun _ => ld fun _ => st fun _ => ld fun _ => st fun _ => ld fun _ => st fun _ => .pure _) fun _ => ld fun _ => st fun _ => .pure _

end Cert.Kernel2Ideal.Body

end
-- ==== Proof.BodyI2.lean ====
/-
  The token mixers' body (of `Kernel2Ideal`), the branch taken at the even steps after the first:
  each stretch of text only loads from and stores into the buffers it is given, so it runs on them and gives them back.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Steps

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {𝒱 : Variants} {c : Dev nD} {E : Set ℕ} {H : Assn nD τ sig F} {i : grid0.Coords}
  {a1 : Memref sig .tc .smem S8x32 .f32} {h1 : a1.IsWhole} [Has c H a1]
  {a2 : Memref sig .tc .vmem S1x2x128x256 .f32} {h2 : a2.IsWhole} [Has c H a2]
  {a3 : Memref sig .tc .vmem S1x2x128x256 .f32} {h3 : a3.IsWhole} [Has c H a3]
  {a4 : Memref sig .tc .vmem S1x2048x128 .bf16} {h4 : a4.IsWhole} [Has c H a4]
  {a5 : Memref sig .tc .vmem S4x8x128 .f32} {h5 : a5.IsWhole} [Has c H a5]
  {a6 : Memref sig .tc .vmem S1x8x2x80x256 .bf16} {h6 : a6.IsWhole} [Has c H a6]
  {a7 : Memref sig .tc .vmem S256x1536 .f32} {h7 : a7.IsWhole} [Has c H a7]
  {a8 : Memref sig .tc .vmem S256x128 .f32} {h8 : a8.IsWhole} [Has c H a8]
  {a9 : Memref sig .tc .vmem S256x512 .f32} {h9 : a9.IsWhole} [Has c H a9]
  {a10 : Memref sig .tc .vmem S1x512 .f32} {h10 : a10.IsWhole} [Has c H a10]
  {a11 : Memref sig .tc .vmem S1x4x128x256 .f32} {h11 : a11.IsWhole} [Has c H a11]
  {a12 : Memref sig .tc .vmem S256x512 .f32} {h12 : a12.IsWhole} [Has c H a12]
  {a13 : Memref sig .tc .vmem S2x2x256x256 .f32} {h13 : a13.IsWhole} [Has c H a13]
  {a14 : Memref sig .tc .vmem S2x2x16x256 .f32} {h14 : a14.IsWhole} [Has c H a14]
  {a15 : Memref sig .tc .vmem S2x2x2x128x256 .bf16} {h15 : a15.IsWhole} [Has c H a15]
  {a16 : Memref sig .tc .vmem S4x2x9x256x256 .f32} {h16 : a16.IsWhole} [Has c H a16]
  {a17 : Memref sig .tc .vmem S4x2x16x256 .f32} {h17 : a17.IsWhole} [Has c H a17]
  {a18 : Memref sig .tc .vmem S2x256x512 .f32} {h18 : a18.IsWhole} [Has c H a18]
  {a19 : Memref sig .tc .vmem S2x4x128x512 .bf16} {h19 : a19.IsWhole} [Has c H a19]
  {a20 : Memref sig .tc .vmem S2x256x512 .bf16} {h20 : a20.IsWhole} [Has c H a20]
  {a21 : Memref sig .tc .vmem S2x256x512 .bf16} {h21 : a21.IsWhole} [Has c H a21]
  {a22 : Memref sig .tc .vmem S2x32x512 .f32} {h22 : a22.IsWhole} [Has c H a22]
  {a23 : Memref sig .tc .vmem S4x128x128 .f32} {h23 : a23.IsWhole} [Has c H a23]

theorem p281 {x0 x1 x2 x3 x4 x5 x6 x7 x8 x9 x10 x11 x12} : Ok defs₀ 𝒱 c E H (k0_part281 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12) := by
  rw [k0_part281_eq_skeleton]
  exact .bind (by rw [k0_part132_eq_skeleton]; exact ld fun _ => ld fun _ => ld fun _ => ld fun _ => ld fun _ => ld fun _ => ld fun _ => .pure _) fun ⟨_, _, _, _, _, _, _⟩ =>
    .bind (by rw [k0_part133_eq_skeleton]; exact ld fun _ => ld fun _ => ld fun _ => .pure _) fun ⟨_, _, _, _, _, _, _, _⟩ =>
    .bind (by rw [k0_part134_eq_skeleton]; exact .pure _) fun ⟨_, _, _, _, _⟩ =>
    .bind (by rw [k0_part135_eq_skeleton]; exact .pure _) fun ⟨_, _, _⟩ =>
    .bind (by rw [k0_part136_eq_skeleton]; exact ld fun _ => st fun _ => ld fun _ => st fun _ => .pure _) fun ⟨_, _, _⟩ =>
    .bind (by rw [k0_part137_eq_skeleton]; exact .pure _) fun ⟨_, _, _, _⟩ =>
    .bind (by rw [k0_part138_eq_skeleton]; exact .pure _) fun ⟨_, _, _⟩ =>
    .bind (by rw [k0_part139_eq_skeleton]; exact ld fun _ => st fun _ => ld fun _ => st fun _ => ld fun _ => .pure _) fun ⟨_, _, _, _, _⟩ =>
    .bind (by rw [k0_part140_eq_skeleton]; exact .pure _) fun ⟨_, _, _, _, _⟩ =>
    .bind (by rw [k0_part141_eq_skeleton]; exact .pure _) fun ⟨_, _, _⟩ =>
    .bind (by rw [k0_part142_eq_skeleton]; exact ld fun _ => st fun _ => ld fun _ => st fun _ => .pure _) fun ⟨_, _, _, _⟩ =>
    .bind (by rw [k0_part143_eq_skeleton]; exact .pure _) fun ⟨_, _, _, _⟩ =>
    .bind (by rw [k0_part144_eq_skeleton]; exact .pure _) fun ⟨_, _⟩ =>
    .bind (by rw [k0_part145_eq_skeleton]; exact ld fun _ => st fun _ => ld fun _ => st fun _ => ld fun _ => ld fun _ => .pure _) fun _ =>
    .bind (by rw [k0_part146_eq_skeleton]; exact ld fun _ => ld fun _ => st fun _ => ld fun _ => ld fun _ => ld fun _ => .pure _) fun ⟨_, _, _, _, _⟩ =>
    .bind (by rw [k0_part147_eq_skeleton]; exact ld fun _ => ld fun _ => ld fun _ => ld fun _ => ld fun _ => ld fun _ => ld fun _ => .pure _) fun ⟨_, _, _, _, _⟩ =>
    .bind (by rw [k0_part148_eq_skeleton]; exact ld fun _ => ld fun _ => ld fun _ => ld fun _ => ld fun _ => ld fun _ => ld fun _ => ld fun _ => .pure _) fun ⟨_, _, _, _, _, _, _, _, _, _⟩ =>
    .bind (by rw [k0_part149_eq_skeleton]; exact ld fun _ => ld fun _ => ld fun _ => .pure _) fun ⟨_, _, _, _, _, _, _⟩ =>
    .bind (by rw [k0_part150_eq_skeleton]; exact ld fun _ => ld fun _ => ld fun _ => ld fun _ => ld fun _ => ld fun _ => .pure _) fun ⟨_, _, _, _, _, _⟩ =>
    .bind (by rw [k0_part151_eq_skeleton]; exact ld fun _ => ld fun _ => st fun _ => ld fun _ => ld fun _ => ld fun _ => ld fun _ => st fun _ => ld fun _ => .pure _) fun ⟨_, _, _⟩ =>
    .bind (by rw [k0_part152_eq_skeleton]; exact ld fun _ => .pure _) fun ⟨_, _, _, _, _, _⟩ =>
    .bind (by rw [k0_part153_eq_skeleton]; exact ld fun _ => ld fun _ => ld fun _ => .pure _) fun ⟨_, _, _, _⟩ =>
    .bind (by rw [k0_part154_eq_skeleton]; exact ld fun _ => ld fun _ => ld fun _ => ld fun _ => ld fun _ => ld fun _ => .pure _) fun ⟨_, _, _, _, _⟩ =>
    .bind (by rw [k0_part155_eq_skeleton]; exact ld fun _ => ld fun _ => ld fun _ => ld fun _ => st fun _ => ld fun _ => ld fun _ => ld fun _ => .pure _) fun ⟨_, _, _⟩ =>
    .bind (by rw [k0_part156_eq_skeleton]; exact st fun _ => ld fun _ => ld fun _ => ld fun _ => st fun _ => ld fun _ => ld fun _ => ld fun _ => st fun _ => ld fun _ => ld fun _ => .pure _) fun _ =>
    .bind (by rw [k0_part157_eq_skeleton]; exact ld fun _ => st fun _ => ld fun _ => sm fun _ => ld fun _ => ld fun _ => ld fun _ => st fun _ => ld fun _ => .pure _) fun ⟨_, _, _, _, _, _⟩ =>
    .bind (by rw [k0_part158_eq_skeleton]; exact sm fun _ => ld fun _ => st fun _ => ld fun _ => st fun _ => ld fun _ => .pure _) fun ⟨_, _, _, _, _, _, _, _, _, _⟩ =>
    .bind (by rw [k0_part159_eq_skeleton]; exact st fun _ => ld fun _ => st fun _ => ld fun _ => st fun _ => ld fun _ => st fun _ => ld fun _ => st fun _ => ld fun _ => .pure _) fun ⟨_, _⟩ =>
    .bind (by rw [k0_part160_eq_skeleton]; exact st fun _ => .pure _) fun ⟨_, _, _, _, _⟩ =>
    .bind (by rw [k0_part161_eq_skeleton]; exact .pure _) fun ⟨_, _, _, _, _, _⟩ =>
    .bind (by rw [k0_part162_eq_skeleton]; exact .pure _) fun ⟨_, _, _, _, _, _⟩ =>
    .bind (by rw [k0_part163_eq_skeleton]; exact .pure _) fun ⟨_, _, _, _, _, _⟩ =>
    .bind (by rw [k0_part164_eq_skeleton]; exact ld fun _ => ld fun _ => ld fun _ => ld fun _ => ld fun _ => ld fun _ => .pure _) fun ⟨_, _, _⟩ =>
    .bind (by rw [k0_part165_eq_skeleton]; exact ld fun _ => ld fun _ => ld fun _ => ld fun _ => ld fun _ => ld fun _ => ld fun _ => ld fun _ => .pure _) fun ⟨_, _, _, _, _, _, _, _, _⟩ =>
    .bind (by rw [k0_part166_eq_skeleton]; exact ld fun _ => ld fun _ => ld fun _ => ld fun _ => .pure _) fun ⟨_, _, _, _, _, _, _⟩ =>
    .bind (by rw [k0_part167_eq_skeleton]; exact ld fun _ => ld fun _ => ld fun _ => ld fun _ => ld fun _ => ld fun _ => .pure _) fun ⟨_, _, _, _, _, _, _⟩ =>
    .bind (by rw [k0_part168_eq_skeleton]; exact ld fun _ => st fun _ => ld fun _ => sm fun _ => ld fun _ => ld fun _ => ld fun _ => st fun _ => .pure _) fun ⟨_, _, _⟩ =>
    .bind (by rw [k0_part169_eq_skeleton]; exact ld fun _ => sm fun _ => .pure _) fun ⟨_, _, _, _, _, _, _⟩ =>
    .bind (by rw [k0_part170_eq_skeleton]; exact .pure _) fun ⟨_, _, _, _, _, _, _, _⟩ =>
    .bind (by rw [k0_part171_eq_skeleton]; exact .pure _) fun ⟨_, _, _, _, _, _, _⟩ =>
    .bind (by rw [k0_part172_eq_skeleton]; exact .pure _) fun ⟨_, _, _, _, _, _, _, _, _, _, _, _, _, _, _, _, _, _, _, _, _, _⟩ =>
    .bind (by rw [k0_part173_eq_skeleton]; exact .pure _) fun ⟨_, _, _, _, _, _, _, _⟩ =>
    .bind (by rw [k0_part174_eq_skeleton]; exact .pure _) fun ⟨_, _, _, _, _, _, _⟩ =>
    .bind (by rw [k0_part175_eq_skeleton]; exact ld fun _ => ld fun _ => ld fun _ => ld fun _ => .pure _) fun ⟨_, _, _, _, _⟩ =>
    .bind (by rw [k0_part176_eq_skeleton]; exact ld fun _ => ld fun _ => ld fun _ => ld fun _ => ld fun _ => ld fun _ => .pure _) fun ⟨_, _, _, _, _, _, _, _⟩ =>
    .bind (by rw [k0_part177_eq_skeleton]; exact ld fun _ => ld fun _ => ld fun _ => st fun _ => ld fun _ => ld fun _ => ld fun _ => st fun _ => ld fun _ => .pure _) fun ⟨_, _, _⟩ =>
    .bind (by rw [k0_part178_eq_skeleton]; exact ld fun _ => ld fun _ => st fun _ => ld fun _ => ld fun _ => ld fun _ => st fun _ => ld fun _ => ld fun _ => ld fun _ => st fun _ => ld fun _ => .pure _) fun ⟨_, _⟩ =>
    .bind (by rw [k0_part179_eq_skeleton]; exact sm fun _ => ld fun _ => ld fun _ => ld fun _ => st fun _ => ld fun _ => sm fun _ => .pure _) fun ⟨_, _, _, _, _⟩ =>
    .bind (by rw [k0_part180_eq_skeleton]; exact .pure _) fun ⟨_, _, _, _, _, _, _, _⟩ =>
    .bind (by rw [k0_part181_eq_skeleton]; exact .pure _) fun ⟨_, _, _, _, _, _, _, _, _⟩ =>
    .bind (by rw [k0_part182_eq_skeleton]; exact .pure _) fun ⟨_, _, _, _, _, _, _, _⟩ =>
    .bind (by rw [k0_part183_eq_skeleton]; exact .pure _) fun ⟨_, _, _, _, _, _, _⟩ =>
    .bind (by rw [k0_part184_eq_skeleton]; exact .pure _) fun ⟨_, _, _, _, _, _, _, _, _, _, _, _, _, _, _⟩ =>
    .bind (by rw [k0_part185_eq_skeleton]; exact .pure _) fun ⟨_, _, _, _, _, _, _, _, _, _, _, _, _, _, _, _, _, _, _, _, _, _, _, _, _, _, _, _, _, _, _, _⟩ =>
    .bind (by rw [k0_part186_eq_skeleton]; exact ld fun _ => ld fun _ => ld fun _ => ld fun _ => st fun _ => ld fun _ => st fun _ => .pure _) fun ⟨_, _, _⟩ =>
    .bind (by rw [k0_part187_eq_skeleton]; exact ld fun _ => ld fun _ => ld fun _ => ld fun _ => ld fun _ => ld fun _ => ld fun _ => ld fun _ => .pure _) fun ⟨_, _, _, _, _, _⟩ =>
    .bind (by rw [k0_part188_eq_skeleton]; exact ld fun _ => ld fun _ => ld fun _ => ld fun _ => ld fun _ => .pure _) fun ⟨_, _, _, _, _, _⟩ =>
    .bind (by rw [k0_part189_eq_skeleton]; exact ld fun _ => ld fun _ => ld fun _ => ld fun _ => ld fun _ => .pure _) fun ⟨_, _, _, _, _, _⟩ =>
    .bind (by rw [k0_part190_eq_skeleton]; exact ld fun _ => ld fun _ => st fun _ => ld fun _ => st fun _ => ld fun _ => st fun _ => ld fun _ => st fun _ => .pure _) fun ⟨_, _, _, _⟩ =>
    .bind (by rw [k0_part191_eq_skeleton]; exact ld fun _ => st fun _ => ld fun _ => st fun _ => ld fun _ => st fun _ => ld fun _ => st fun _ => ld fun _ => st fun _ => ld fun _ => ld fun _ => ld fun _ => .pure _) fun ⟨_, _⟩ => .pure _

theorem p282 {x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58} : Ok defs₀ 𝒱 c E H (k0_part282 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58) := by
  rw [k0_part282_eq_skeleton]
  exact .bind (by rw [k0_part192_eq_skeleton]; exact ld fun _ => st fun _ => ld fun _ => ld fun _ => ld fun _ => ld fun _ => st fun _ => .pure _) fun ⟨_, _, _, _, _⟩ =>
    .bind (by rw [k0_part193_eq_skeleton]; exact .pure _) fun ⟨_, _, _, _, _, _, _, _, _⟩ =>
    .bind (by rw [k0_part194_eq_skeleton]; exact .pure _) fun ⟨_, _, _, _, _, _, _, _, _⟩ =>
    .bind (by rw [k0_part195_eq_skeleton]; exact .pure _) fun ⟨_, _, _, _, _, _, _, _⟩ =>
    .bind (by rw [k0_part196_eq_skeleton]; exact .pure _) fun ⟨_, _, _, _, _, _, _⟩ =>
    .bind (by rw [k0_part197_eq_skeleton]; exact .pure _) fun ⟨_, _, _, _, _, _, _, _, _, _, _, _, _, _, _, _⟩ =>
    .bind (by rw [k0_part198_eq_skeleton]; exact ld fun _ => .pure _) fun ⟨_, _, _, _, _, _, _, _, _, _, _, _, _, _, _, _, _, _, _, _, _, _, _, _, _, _, _, _, _, _, _, _, _⟩ =>
    .bind (by rw [k0_part199_eq_skeleton]; exact ld fun _ => ld fun _ => ld fun _ => ld fun _ => ld fun _ => ld fun _ => .pure _) fun ⟨_, _⟩ =>
    .bind (by rw [k0_part200_eq_skeleton]; exact ld fun _ => ld fun _ => ld fun _ => ld fun _ => ld fun _ => ld fun _ => st fun _ => .pure _) fun ⟨_, _, _, _, _, _⟩ =>
    .bind (by rw [k0_part201_eq_skeleton]; exact ld fun _ => ld fun _ => ld fun _ => st fun _ => ld fun _ => ld fun _ => ld fun _ => st fun _ => ld fun _ => ld fun _ => ld fun _ => st fun _ => .pure _) fun _ =>
    .bind (by rw [k0_part202_eq_skeleton]; exact ld fun _ => ld fun _ => ld fun _ => ld fun _ => st fun _ => ld fun _ => ld fun _ => ld fun _ => ld fun _ => st fun _ => .pure _) fun ⟨_, _, _⟩ =>
    .bind (by rw [k0_part203_eq_skeleton]; exact ld fun _ => sm fun _ => .pure _) fun ⟨_, _, _, _, _, _, _⟩ =>
    .bind (by rw [k0_part204_eq_skeleton]; exact .pure _) fun ⟨_, _, _, _, _, _, _, _, _⟩ =>
    .bind (by rw [k0_part205_eq_skeleton]; exact .pure _) fun ⟨_, _, _, _, _, _, _, _, _⟩ =>
    .bind (by rw [k0_part206_eq_skeleton]; exact .pure _) fun ⟨_, _, _, _, _, _, _, _⟩ =>
    .bind (by rw [k0_part207_eq_skeleton]; exact .pure _) fun ⟨_, _, _, _, _, _, _, _, _⟩ =>
    .bind (by rw [k0_part208_eq_skeleton]; exact .pure _) fun ⟨_, _, _, _, _, _, _, _, _, _, _, _, _, _, _, _, _, _, _, _, _, _, _, _, _, _, _, _, _, _, _, _⟩ =>
    .bind (by rw [k0_part209_eq_skeleton]; exact ld fun _ => ld fun _ => ld fun _ => .pure _) fun ⟨_, _, _, _, _, _, _, _, _, _, _, _, _, _, _, _⟩ =>
    .bind (by rw [k0_part210_eq_skeleton]; exact ld fun _ => ld fun _ => ld fun _ => ld fun _ => ld fun _ => ld fun _ => ld fun _ => ld fun _ => .pure _) fun ⟨_, _, _, _, _, _⟩ =>
    .bind (by rw [k0_part211_eq_skeleton]; exact ld fun _ => ld fun _ => ld fun _ => ld fun _ => ld fun _ => .pure _) fun ⟨_, _, _, _, _, _⟩ =>
    .bind (by rw [k0_part212_eq_skeleton]; exact ld fun _ => ld fun _ => ld fun _ => ld fun _ => ld fun _ => .pure _) fun ⟨_, _, _, _, _⟩ =>
    .bind (by rw [k0_part213_eq_skeleton]; exact ld fun _ => ld fun _ => ld fun _ => ld fun _ => st fun _ => ld fun _ => sm fun _ => .pure _) fun ⟨_, _, _, _⟩ =>
    .bind (by rw [k0_part214_eq_skeleton]; exact ld fun _ => ld fun _ => ld fun _ => st fun _ => ld fun _ => sm fun _ => .pure _) fun ⟨_, _, _, _, _⟩ =>
    .bind (by rw [k0_part215_eq_skeleton]; exact .pure _) fun ⟨_, _, _, _, _, _, _, _, _⟩ =>
    .bind (by rw [k0_part216_eq_skeleton]; exact .pure _) fun ⟨_, _, _, _, _, _, _, _⟩ =>
    .bind (by rw [k0_part217_eq_skeleton]; exact .pure _) fun ⟨_, _, _, _, _, _, _, _⟩ =>
    .bind (by rw [k0_part218_eq_skeleton]; exact .pure _) fun ⟨_, _, _, _, _, _, _, _⟩ =>
    .bind (by rw [k0_part219_eq_skeleton]; exact .pure _) fun ⟨_, _, _, _, _, _, _, _, _, _, _, _, _, _, _, _⟩ =>
    .bind (by rw [k0_part220_eq_skeleton]; exact ld fun _ => .pure _) fun ⟨_, _, _, _, _, _, _, _, _, _, _, _, _, _, _, _, _, _, _, _, _, _, _, _, _, _, _, _, _, _, _, _, _⟩ =>
    .bind (by rw [k0_part221_eq_skeleton]; exact ld fun _ => ld fun _ => ld fun _ => ld fun _ => ld fun _ => .pure _) fun ⟨_, _, _⟩ =>
    .bind (by rw [k0_part222_eq_skeleton]; exact ld fun _ => ld fun _ => ld fun _ => st fun _ => ld fun _ => ld fun _ => ld fun _ => st fun _ => ld fun _ => ld fun _ => ld fun _ => st fun _ => .pure _) fun _ =>
    .bind (by rw [k0_part223_eq_skeleton]; exact ld fun _ => ld fun _ => ld fun _ => st fun _ => ld fun _ => st fun _ => ld fun _ => st fun _ => ld fun _ => st fun _ => ld fun _ => st fun _ => ld fun _ => ld fun _ => .pure _) fun ⟨_, _, _⟩ =>
    .bind (by rw [k0_part224_eq_skeleton]; exact ld fun _ => st fun _ => ld fun _ => sm fun _ => ld fun _ => ld fun _ => ld fun _ => st fun _ => .pure _) fun ⟨_, _, _⟩ =>
    .bind (by rw [k0_part225_eq_skeleton]; exact ld fun _ => sm fun _ => .pure _) fun ⟨_, _, _, _, _, _, _, _, _⟩ =>
    .bind (by rw [k0_part226_eq_skeleton]; exact .pure _) fun ⟨_, _, _, _, _, _, _, _, _⟩ =>
    .bind (by rw [k0_part227_eq_skeleton]; exact .pure _) fun ⟨_, _, _, _, _, _, _, _, _, _, _, _, _, _, _, _⟩ =>
    .bind (by rw [k0_part228_eq_skeleton]; exact ld fun _ => ld fun _ => ld fun _ => ld fun _ => .pure _) fun ⟨_, _, _, _, _, _, _, _, _, _, _, _, _, _, _, _, _, _⟩ =>
    .bind (by rw [k0_part229_eq_skeleton]; exact ld fun _ => ld fun _ => ld fun _ => ld fun _ => ld fun _ => st fun _ => ld fun _ => sm fun _ => .pure _) fun ⟨_, _, _, _⟩ =>
    .bind (by rw [k0_part230_eq_skeleton]; exact ld fun _ => st fun _ => ld fun _ => st fun _ => ld fun _ => st fun _ => ld fun _ => st fun _ => ld fun _ => st fun _ => .pure _) fun ⟨_, _, _⟩ =>
    .bind (by rw [k0_part231_eq_skeleton]; exact ld fun _ => st fun _ => ld fun _ => st fun _ => ld fun _ => st fun _ => ld fun _ => st fun _ => ld fun _ => .pure _) fun ⟨_, _, _, _, _, _, _, _⟩ =>
    .bind (by rw [k0_part232_eq_skeleton]; exact .pure _) fun ⟨_, _, _, _⟩ =>
    .bind (by rw [k0_part233_eq_skeleton]; exact .pure _) fun _ =>
    .bind (by rw [k0_part234_eq_skeleton]; exact ld fun _ => st fun _ => ld fun _ => st fun _ => .pure _) fun ⟨_, _, _, _⟩ =>
    .bind (by rw [k0_part235_eq_skeleton]; exact .pure _) fun ⟨_, _, _, _⟩ =>
    .bind (by rw [k0_part236_eq_skeleton]; exact .pure _) fun _ =>
    .bind (by rw [k0_part237_eq_skeleton]; exact ld fun _ => st fun _ => ld fun _ => st fun _ => ld fun _ => .pure _) fun ⟨_, _, _, _, _, _, _, _⟩ =>
    .bind (by rw [k0_part238_eq_skeleton]; exact .pure _) fun ⟨_, _, _⟩ =>
    .bind (by rw [k0_part239_eq_skeleton]; exact .pure _) fun ⟨_, _⟩ =>
    .bind (by rw [k0_part240_eq_skeleton]; exact ld fun _ => st fun _ => ld fun _ => st fun _ => .pure _) fun ⟨_, _, _, _⟩ =>
    .bind (by rw [k0_part241_eq_skeleton]; exact .pure _) fun ⟨_, _⟩ =>
    .bind (by rw [k0_part242_eq_skeleton]; exact .pure _) fun _ =>
    .bind (by rw [k0_part243_eq_skeleton]; exact ld fun _ => st fun _ => ld fun _ => st fun _ => .pure _) fun ⟨_, _, _, _, _⟩ =>
    .bind (by rw [k0_part244_eq_skeleton]; exact .pure _) fun ⟨_, _, _, _, _, _, _⟩ =>
    .bind (by rw [k0_part245_eq_skeleton]; exact .pure _) fun ⟨_, _, _, _, _, _⟩ =>
    .bind (by rw [k0_part246_eq_skeleton]; exact .pure _) fun ⟨_, _, _, _, _, _⟩ =>
    .bind (by rw [k0_part247_eq_skeleton]; exact ld fun _ => st fun _ => ld fun _ => st fun _ => ld fun _ => ld fun _ => ld fun _ => .pure _) fun ⟨_, _, _⟩ =>
    .bind (by rw [k0_part248_eq_skeleton]; exact ld fun _ => ld fun _ => ld fun _ => ld fun _ => ld fun _ => ld fun _ => ld fun _ => st fun _ => .pure _) fun ⟨_, _, _⟩ =>
    .bind (by rw [k0_part249_eq_skeleton]; exact ld fun _ => ld fun _ => ld fun _ => ld fun _ => st fun _ => ld fun _ => st fun _ => ld fun _ => st fun _ => ld fun _ => .pure _) fun ⟨_, _, _, _⟩ =>
    .bind (by rw [k0_part250_eq_skeleton]; exact st fun _ => ld fun _ => st fun _ => ld fun _ => st fun _ => ld fun _ => st fun _ => ld fun _ => st fun _ => ld fun _ => st fun _ => ld fun _ => .pure _) fun _ =>
    .bind (by rw [k0_part251_eq_skeleton]; exact st fun _ => ld fun _ => st fun _ => ld fun _ => st fun _ => ld fun _ => st fun _ => ld fun _ => st fun _ => ld fun _ => st fun _ => ld fun _ => st fun _ => .pure _) fun _ => .pure _

theorem p283 {x0 x1 x2 x3 x4 x5 x6 x7 x8 x9 x10 x11 x12 x13 x14 x15 x16 x17 x18 x19 x20 x21 x22 x23 x24 x25 x26 x27 x28 x29 x30 x31 x32} : Ok defs₀ 𝒱 c E H (k0_part283 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 x23 x24 x25 x26 x27 x28 x29 x30 x31 x32) := by
  rw [k0_part283_eq_skeleton]
  exact .bind (by rw [k0_part252_eq_skeleton]; exact ld fun _ => st fun _ => ld fun _ => st fun _ => ld fun _ => st fun _ => ld fun _ => st fun _ => ld fun _ => st fun _ => ld fun _ => st fun _ => .pure _) fun _ =>
    .bind (by rw [k0_part253_eq_skeleton]; exact ld fun _ => st fun _ => ld fun _ => st fun _ => ld fun _ => st fun _ => ld fun _ => st fun _ => ld fun _ => st fun _ => ld fun _ => st fun _ => .pure _) fun _ =>
    .bind (by rw [k0_part254_eq_skeleton]; exact ld fun _ => st fun _ => ld fun _ => st fun _ => ld fun _ => st fun _ => ld fun _ => st fun _ => ld fun _ => st fun _ => ld fun _ => st fun _ => .pure _) fun _ =>
    .bind (by rw [k0_part255_eq_skeleton]; exact ld fun _ => st fun _ => ld fun _ => st fun _ => ld fun _ => st fun _ => ld fun _ => st fun _ => ld fun _ => st fun _ => ld fun _ => st fun _ => .pure _) fun _ =>
    .bind (by rw [k0_part256_eq_skeleton]; exact ld fun _ => st fun _ => ld fun _ => st fun _ => ld fun _ => st fun _ => ld fun _ => st fun _ => ld fun _ => st fun _ => ld fun _ => st fun _ => ld fun _ => .pure _) fun _ =>
    .bind (by rw [k0_part257_eq_skeleton]; exact st fun _ => ld fun _ => st fun _ => ld fun _ => st fun _ => ld fun _ => st fun _ => ld fun _ => st fun _ => ld fun _ => st fun _ => ld fun _ => .pure _) fun _ =>
    .bind (by rw [k0_part258_eq_skeleton]; exact st fun _ => ld fun _ => st fun _ => ld fun _ => st fun _ => ld fun _ => st fun _ => ld fun _ => st fun _ => ld fun _ => st fun _ => ld fun _ => st fun _ => .pure _) fun _ =>
    .bind (by rw [k0_part259_eq_skeleton]; exact ld fun _ => st fun _ => ld fun _ => st fun _ => ld fun _ => st fun _ => ld fun _ => st fun _ => ld fun _ => st fun _ => ld fun _ => st fun _ => .pure _) fun _ =>
    .bind (by rw [k0_part260_eq_skeleton]; exact ld fun _ => ld fun _ => ld fun _ => ld fun _ => ld fun _ => ld fun _ => ld fun _ => .pure _) fun ⟨_, _, _⟩ =>
    .bind (by rw [k0_part261_eq_skeleton]; exact ld fun _ => ld fun _ => ld fun _ => st fun _ => ld fun _ => ld fun _ => ld fun _ => ld fun _ => ld fun _ => .pure _) fun ⟨_, _, _, _⟩ =>
    .bind (by rw [k0_part262_eq_skeleton]; exact st fun _ => ld fun _ => ld fun _ => ld fun _ => ld fun _ => ld fun _ => ld fun _ => .pure _) fun ⟨_, _, _, _⟩ =>
    .bind (by rw [k0_part263_eq_skeleton]; exact ld fun _ => ld fun _ => ld fun _ => ld fun _ => st fun _ => ld fun _ => sm fun _ => ld fun _ => .pure _) fun ⟨_, _, _, _⟩ =>
    .bind (by rw [k0_part264_eq_skeleton]; exact ld fun _ => ld fun _ => st fun _ => ld fun _ => sm fun _ => ld fun _ => ld fun _ => ld fun _ => .pure _) fun ⟨_, _, _, _, _⟩ =>
    .bind (by rw [k0_part265_eq_skeleton]; exact ld fun _ => ld fun _ => ld fun _ => ld fun _ => ld fun _ => ld fun _ => st fun _ => ld fun _ => .pure _) fun ⟨_, _, _⟩ =>
    .bind (by rw [k0_part266_eq_skeleton]; exact sm fun _ => ld fun _ => ld fun _ => ld fun _ => st fun _ => ld fun _ => sm fun _ => .pure _) fun ⟨_, _, _, _⟩ =>
    .bind (by rw [k0_part267_eq_skeleton]; exact ld fun _ => ld fun _ => ld fun _ => ld fun _ => st fun _ => ld fun _ => st fun _ => ld fun _ => ld fun _ => .pure _) fun ⟨_, _⟩ =>
    .bind (by rw [k0_part268_eq_skeleton]; exact ld fun _ => ld fun _ => ld fun _ => ld fun _ => st fun _ => ld fun _ => sm fun _ => .pure _) fun ⟨_, _, _, _, _⟩ =>
    .bind (by rw [k0_part269_eq_skeleton]; exact ld fun _ => st fun _ => ld fun _ => st fun _ => ld fun _ => st fun _ => ld fun _ => st fun _ => ld fun _ => st fun _ => ld fun _ => st fun _ => .pure _) fun ⟨_, _⟩ =>
    .bind (by rw [k0_part270_eq_skeleton]; exact ld fun _ => st fun _ => ld fun _ => st fun _ => ld fun _ => st fun _ => ld fun _ => ld fun _ => ld fun _ => ld fun _ => st fun _ => .pure _) fun _ =>
    .bind (by rw [k0_part271_eq_skeleton]; exact ld fun _ => ld fun _ => ld fun _ => ld fun _ => ld fun _ => ld fun _ => ld fun _ => .pure _) fun ⟨_, _⟩ =>
    .bind (by rw [k0_part272_eq_skeleton]; exact ld fun _ => ld fun _ => ld fun _ => st fun _ => ld fun _ => ld fun _ => ld fun _ => ld fun _ => st fun _ => .pure _) fun ⟨_, _⟩ =>
    .bind (by rw [k0_part273_eq_skeleton]; exact ld fun _ => ld fun _ => ld fun _ => ld fun _ => ld fun _ => ld fun _ => ld fun _ => .pure _) fun ⟨_, _, _⟩ =>
    .bind (by rw [k0_part274_eq_skeleton]; exact ld fun _ => ld fun _ => ld fun _ => ld fun _ => st fun _ => ld fun _ => ld fun _ => ld fun _ => ld fun _ => st fun _ => .pure _) fun ⟨_, _, _⟩ =>
    .bind (by rw [k0_part275_eq_skeleton]; exact ld fun _ => sm fun _ => ld fun _ => ld fun _ => ld fun _ => ld fun _ => ld fun _ => .pure _) fun ⟨_, _, _, _, _⟩ =>
    .bind (by rw [k0_part276_eq_skeleton]; exact ld fun _ => ld fun _ => ld fun _ => ld fun _ => st fun _ => ld fun _ => sm fun _ => .pure _) fun ⟨_, _, _⟩ =>
    .bind (by rw [k0_part277_eq_skeleton]; exact ld fun _ => ld fun _ => ld fun _ => st fun _ => ld fun _ => sm fun _ => ld fun _ => ld fun _ => .pure _) fun ⟨_, _, _⟩ =>
    .bind (by rw [k0_part278_eq_skeleton]; exact ld fun _ => ld fun _ => ld fun _ => ld fun _ => ld fun _ => ld fun _ => ld fun _ => st fun _ => .pure _) fun ⟨_, _⟩ =>
    .bind (by rw [k0_part279_eq_skeleton]; exact ld fun _ => sm fun _ => ld fun _ => ld fun _ => ld fun _ => st fun _ => ld fun _ => sm fun _ => .pure _) fun ⟨_, _, _, _, _⟩ =>
    .bind (by rw [k0_part280_eq_skeleton]; exact ld fun _ => st fun _ => ld fun _ => st fun _ => ld fun _ => st fun _ => ld fun _ => st fun _ => ld fun _ => .pure _) fun ⟨_, _, _, _⟩ => st fun _ => ld fun _ => st fun _ => ld fun _ => st fun _ => ld fun _ => st fun _ => .pure _

end Cert.Kernel2Ideal.Body

end
-- ==== Proof.BodyI3.lean ====
/-
  The token mixers' body (of `Kernel2Ideal`), the branch taken at the odd steps:
  each stretch of text only loads from and stores into the buffers it is given, so it runs on them and gives them back.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Steps

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {𝒱 : Variants} {c : Dev nD} {E : Set ℕ} {H : Assn nD τ sig F} {i : grid0.Coords}
  {a1 : Memref sig .tc .smem S8x32 .f32} {h1 : a1.IsWhole} [Has c H a1]
  {a2 : Memref sig .tc .vmem S1x2x128x256 .f32} {h2 : a2.IsWhole} [Has c H a2]
  {a3 : Memref sig .tc .vmem S1x2x128x256 .f32} {h3 : a3.IsWhole} [Has c H a3]
  {a4 : Memref sig .tc .vmem S1x2048x128 .bf16} {h4 : a4.IsWhole} [Has c H a4]
  {a5 : Memref sig .tc .vmem S4x8x128 .f32} {h5 : a5.IsWhole} [Has c H a5]
  {a6 : Memref sig .tc .vmem S1x8x2x80x256 .bf16} {h6 : a6.IsWhole} [Has c H a6]
  {a7 : Memref sig .tc .vmem S256x1536 .f32} {h7 : a7.IsWhole} [Has c H a7]
  {a8 : Memref sig .tc .vmem S256x128 .f32} {h8 : a8.IsWhole} [Has c H a8]
  {a9 : Memref sig .tc .vmem S256x512 .f32} {h9 : a9.IsWhole} [Has c H a9]
  {a10 : Memref sig .tc .vmem S1x512 .f32} {h10 : a10.IsWhole} [Has c H a10]
  {a11 : Memref sig .tc .vmem S1x4x128x256 .f32} {h11 : a11.IsWhole} [Has c H a11]
  {a12 : Memref sig .tc .vmem S256x512 .f32} {h12 : a12.IsWhole} [Has c H a12]
  {a13 : Memref sig .tc .vmem S2x2x256x256 .f32} {h13 : a13.IsWhole} [Has c H a13]
  {a14 : Memref sig .tc .vmem S2x2x16x256 .f32} {h14 : a14.IsWhole} [Has c H a14]
  {a15 : Memref sig .tc .vmem S2x2x2x128x256 .bf16} {h15 : a15.IsWhole} [Has c H a15]
  {a16 : Memref sig .tc .vmem S4x2x9x256x256 .f32} {h16 : a16.IsWhole} [Has c H a16]
  {a17 : Memref sig .tc .vmem S4x2x16x256 .f32} {h17 : a17.IsWhole} [Has c H a17]
  {a18 : Memref sig .tc .vmem S2x256x512 .f32} {h18 : a18.IsWhole} [Has c H a18]
  {a19 : Memref sig .tc .vmem S2x4x128x512 .bf16} {h19 : a19.IsWhole} [Has c H a19]
  {a20 : Memref sig .tc .vmem S2x256x512 .bf16} {h20 : a20.IsWhole} [Has c H a20]
  {a21 : Memref sig .tc .vmem S2x256x512 .bf16} {h21 : a21.IsWhole} [Has c H a21]
  {a22 : Memref sig .tc .vmem S2x32x512 .f32} {h22 : a22.IsWhole} [Has c H a22]
  {a23 : Memref sig .tc .vmem S4x128x128 .f32} {h23 : a23.IsWhole} [Has c H a23]

theorem p433 {x0 x1 x2 x3 x4 x5 x6 x7 x8 x9 x10 x11 x12} : Ok defs₀ 𝒱 c E H (k0_part433 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12) := by
  rw [k0_part433_eq_skeleton]
  exact .bind (by rw [k0_part284_eq_skeleton]; exact ld fun _ => ld fun _ => ld fun _ => ld fun _ => ld fun _ => ld fun _ => ld fun _ => .pure _) fun ⟨_, _, _, _, _, _, _⟩ =>
    .bind (by rw [k0_part285_eq_skeleton]; exact ld fun _ => ld fun _ => ld fun _ => .pure _) fun ⟨_, _, _, _, _, _, _, _⟩ =>
    .bind (by rw [k0_part286_eq_skeleton]; exact .pure _) fun ⟨_, _, _, _, _⟩ =>
    .bind (by rw [k0_part287_eq_skeleton]; exact .pure _) fun ⟨_, _, _⟩ =>
    .bind (by rw [k0_part288_eq_skeleton]; exact ld fun _ => st fun _ => ld fun _ => st fun _ => .pure _) fun ⟨_, _, _⟩ =>
    .bind (by rw [k0_part289_eq_skeleton]; exact .pure _) fun ⟨_, _, _, _⟩ =>
    .bind (by rw [k0_part290_eq_skeleton]; exact .pure _) fun ⟨_, _, _⟩ =>
    .bind (by rw [k0_part291_eq_skeleton]; exact ld fun _ => st fun _ => ld fun _ => st fun _ => ld fun _ => .pure _) fun ⟨_, _, _, _, _⟩ =>
    .bind (by rw [k0_part292_eq_skeleton]; exact .pure _) fun ⟨_, _, _, _, _⟩ =>
    .bind (by rw [k0_part293_eq_skeleton]; exact .pure _) fun ⟨_, _, _⟩ =>
    .bind (by rw [k0_part294_eq_skeleton]; exact ld fun _ => st fun _ => ld fun _ => st fun _ => .pure _) fun ⟨_, _, _, _⟩ =>
    .bind (by rw [k0_part295_eq_skeleton]; exact .pure _) fun ⟨_, _, _, _⟩ =>
    .bind (by rw [k0_part296_eq_skeleton]; exact .pure _) fun ⟨_, _⟩ =>
    .bind (by rw [k0_part297_eq_skeleton]; exact ld fun _ => st fun _ => ld fun _ => st fun _ => ld fun _ => ld fun _ => .pure _) fun _ =>
    .bind (by rw [k0_part298_eq_skeleton]; exact ld fun _ => ld fun _ => st fun _ => ld fun _ => ld fun _ => ld fun _ => .pure _) fun ⟨_, _, _, _, _⟩ =>
    .bind (by rw [k0_part299_eq_skeleton]; exact ld fun _ => ld fun _ => ld fun _ => ld fun _ => ld fun _ => ld fun _ => ld fun _ => .pure _) fun ⟨_, _, _, _, _⟩ =>
    .bind (by rw [k0_part300_eq_skeleton]; exact ld fun _ => ld fun _ => ld fun _ => ld fun _ => ld fun _ => ld fun _ => ld fun _ => ld fun _ => .pure _) fun ⟨_, _, _, _, _, _, _, _, _, _⟩ =>
    .bind (by rw [k0_part301_eq_skeleton]; exact ld fun _ => ld fun _ => ld fun _ => .pure _) fun ⟨_, _, _, _, _, _, _⟩ =>
    .bind (by rw [k0_part302_eq_skeleton]; exact ld fun _ => ld fun _ => ld fun _ => ld fun _ => ld fun _ => ld fun _ => .pure _) fun ⟨_, _, _, _, _, _⟩ =>
    .bind (by rw [k0_part303_eq_skeleton]; exact ld fun _ => ld fun _ => st fun _ => ld fun _ => ld fun _ => ld fun _ => ld fun _ => st fun _ => ld fun _ => .pure _) fun ⟨_, _, _⟩ =>
    .bind (by rw [k0_part304_eq_skeleton]; exact ld fun _ => .pure _) fun ⟨_, _, _, _, _, _⟩ =>
    .bind (by rw [k0_part305_eq_skeleton]; exact ld fun _ => ld fun _ => ld fun _ => .pure _) fun ⟨_, _, _, _⟩ =>
    .bind (by rw [k0_part306_eq_skeleton]; exact ld fun _ => ld fun _ => ld fun _ => ld fun _ => ld fun _ => ld fun _ => .pure _) fun ⟨_, _, _, _⟩ =>
    .bind (by rw [k0_part307_eq_skeleton]; exact ld fun _ => ld fun _ => ld fun _ => ld fun _ => st fun _ => ld fun _ => ld fun _ => ld fun _ => .pure _) fun ⟨_, _, _⟩ =>
    .bind (by rw [k0_part308_eq_skeleton]; exact st fun _ => ld fun _ => ld fun _ => ld fun _ => st fun _ => ld fun _ => ld fun _ => ld fun _ => st fun _ => ld fun _ => ld fun _ => ld fun _ => .pure _) fun ⟨_, _⟩ =>
    .bind (by rw [k0_part309_eq_skeleton]; exact ld fun _ => st fun _ => ld fun _ => ld fun _ => ld fun _ => ld fun _ => st fun _ => ld fun _ => sm fun _ => .pure _) fun ⟨_, _, _, _, _⟩ =>
    .bind (by rw [k0_part310_eq_skeleton]; exact ld fun _ => st fun _ => ld fun _ => st fun _ => ld fun _ => st fun _ => .pure _) fun ⟨_, _, _, _, _, _, _, _⟩ =>
    .bind (by rw [k0_part311_eq_skeleton]; exact ld fun _ => st fun _ => ld fun _ => st fun _ => ld fun _ => st fun _ => ld fun _ => st fun _ => ld fun _ => st fun _ => .pure _) fun _ =>
    .bind (by rw [k0_part312_eq_skeleton]; exact .pure _) fun ⟨_, _, _, _, _⟩ =>
    .bind (by rw [k0_part313_eq_skeleton]; exact .pure _) fun ⟨_, _, _, _, _⟩ =>
    .bind (by rw [k0_part314_eq_skeleton]; exact .pure _) fun ⟨_, _, _, _, _⟩ =>
    .bind (by rw [k0_part315_eq_skeleton]; exact .pure _) fun ⟨_, _, _, _⟩ =>
    .bind (by rw [k0_part316_eq_skeleton]; exact ld fun _ => ld fun _ => ld fun _ => ld fun _ => ld fun _ => ld fun _ => ld fun _ => .pure _) fun ⟨_, _⟩ =>
    .bind (by rw [k0_part317_eq_skeleton]; exact ld fun _ => ld fun _ => ld fun _ => ld fun _ => ld fun _ => ld fun _ => ld fun _ => ld fun _ => .pure _) fun ⟨_, _, _, _, _, _, _, _, _, _⟩ =>
    .bind (by rw [k0_part318_eq_skeleton]; exact ld fun _ => ld fun _ => ld fun _ => .pure _) fun ⟨_, _, _, _, _⟩ =>
    .bind (by rw [k0_part319_eq_skeleton]; exact ld fun _ => ld fun _ => ld fun _ => ld fun _ => ld fun _ => ld fun _ => .pure _) fun ⟨_, _, _, _, _, _⟩ =>
    .bind (by rw [k0_part320_eq_skeleton]; exact ld fun _ => st fun _ => ld fun _ => sm fun _ => ld fun _ => ld fun _ => ld fun _ => st fun _ => ld fun _ => .pure _) fun ⟨_, _, _, _⟩ =>
    .bind (by rw [k0_part321_eq_skeleton]; exact sm fun _ => .pure _) fun ⟨_, _, _, _, _, _, _⟩ =>
    .bind (by rw [k0_part322_eq_skeleton]; exact .pure _) fun ⟨_, _, _, _, _, _⟩ =>
    .bind (by rw [k0_part323_eq_skeleton]; exact .pure _) fun ⟨_, _, _, _, _, _, _, _⟩ =>
    .bind (by rw [k0_part324_eq_skeleton]; exact .pure _) fun ⟨_, _, _, _, _, _, _, _, _, _, _, _, _, _, _, _, _, _, _, _, _, _⟩ =>
    .bind (by rw [k0_part325_eq_skeleton]; exact .pure _) fun ⟨_, _, _, _, _, _, _, _⟩ =>
    .bind (by rw [k0_part326_eq_skeleton]; exact .pure _) fun ⟨_, _, _, _, _, _, _⟩ =>
    .bind (by rw [k0_part327_eq_skeleton]; exact ld fun _ => ld fun _ => ld fun _ => ld fun _ => ld fun _ => .pure _) fun ⟨_, _, _, _, _⟩ =>
    .bind (by rw [k0_part328_eq_skeleton]; exact ld fun _ => ld fun _ => ld fun _ => ld fun _ => ld fun _ => .pure _) fun ⟨_, _, _, _, _, _⟩ =>
    .bind (by rw [k0_part329_eq_skeleton]; exact ld fun _ => ld fun _ => ld fun _ => st fun _ => ld fun _ => ld fun _ => ld fun _ => st fun _ => ld fun _ => ld fun _ => .pure _) fun ⟨_, _, _⟩ =>
    .bind (by rw [k0_part330_eq_skeleton]; exact ld fun _ => st fun _ => ld fun _ => ld fun _ => ld fun _ => st fun _ => ld fun _ => ld fun _ => ld fun _ => st fun _ => ld fun _ => .pure _) fun ⟨_, _, _, _⟩ =>
    .bind (by rw [k0_part331_eq_skeleton]; exact sm fun _ => ld fun _ => ld fun _ => ld fun _ => st fun _ => ld fun _ => sm fun _ => .pure _) fun ⟨_, _, _, _, _⟩ =>
    .bind (by rw [k0_part332_eq_skeleton]; exact .pure _) fun ⟨_, _, _, _, _, _, _, _, _⟩ =>
    .bind (by rw [k0_part333_eq_skeleton]; exact .pure _) fun ⟨_, _, _, _, _, _, _, _⟩ =>
    .bind (by rw [k0_part334_eq_skeleton]; exact .pure _) fun ⟨_, _, _, _, _, _, _, _, _⟩ =>
    .bind (by rw [k0_part335_eq_skeleton]; exact .pure _) fun ⟨_, _, _, _, _, _, _, _⟩ =>
    .bind (by rw [k0_part336_eq_skeleton]; exact .pure _) fun ⟨_, _, _, _, _, _, _, _, _, _, _, _, _, _, _, _⟩ =>
    .bind (by rw [k0_part337_eq_skeleton]; exact .pure _) fun ⟨_, _, _, _, _, _, _, _, _, _, _, _, _, _, _, _, _, _, _, _, _, _, _, _, _, _, _, _, _, _, _, _⟩ =>
    .bind (by rw [k0_part338_eq_skeleton]; exact ld fun _ => ld fun _ => ld fun _ => ld fun _ => st fun _ => ld fun _ => st fun _ => ld fun _ => .pure _) fun ⟨_, _⟩ =>
    .bind (by rw [k0_part339_eq_skeleton]; exact ld fun _ => ld fun _ => ld fun _ => ld fun _ => ld fun _ => ld fun _ => ld fun _ => ld fun _ => .pure _) fun ⟨_, _, _, _, _, _, _, _⟩ =>
    .bind (by rw [k0_part340_eq_skeleton]; exact ld fun _ => ld fun _ => ld fun _ => ld fun _ => ld fun _ => .pure _) fun ⟨_, _, _, _, _, _, _, _⟩ =>
    .bind (by rw [k0_part341_eq_skeleton]; exact ld fun _ => ld fun _ => ld fun _ => ld fun _ => .pure _) fun ⟨_, _, _, _, _⟩ =>
    .bind (by rw [k0_part342_eq_skeleton]; exact ld fun _ => ld fun _ => st fun _ => ld fun _ => st fun _ => ld fun _ => st fun _ => ld fun _ => st fun _ => ld fun _ => st fun _ => .pure _) fun ⟨_, _⟩ =>
    .bind (by rw [k0_part343_eq_skeleton]; exact ld fun _ => st fun _ => ld fun _ => st fun _ => ld fun _ => st fun _ => ld fun _ => st fun _ => ld fun _ => ld fun _ => ld fun _ => .pure _) fun _ => .pure _

theorem p434 {x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58} : Ok defs₀ 𝒱 c E H (k0_part434 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58) := by
  rw [k0_part434_eq_skeleton]
  exact .bind (by rw [k0_part344_eq_skeleton]; exact ld fun _ => st fun _ => ld fun _ => ld fun _ => ld fun _ => ld fun _ => st fun _ => .pure _) fun ⟨_, _, _, _, _⟩ =>
    .bind (by rw [k0_part345_eq_skeleton]; exact .pure _) fun ⟨_, _, _, _, _, _, _, _, _⟩ =>
    .bind (by rw [k0_part346_eq_skeleton]; exact .pure _) fun ⟨_, _, _, _, _, _, _, _, _⟩ =>
    .bind (by rw [k0_part347_eq_skeleton]; exact .pure _) fun ⟨_, _, _, _, _, _, _⟩ =>
    .bind (by rw [k0_part348_eq_skeleton]; exact .pure _) fun ⟨_, _, _, _, _, _, _, _, _⟩ =>
    .bind (by rw [k0_part349_eq_skeleton]; exact .pure _) fun ⟨_, _, _, _, _, _, _, _, _, _, _, _, _, _, _, _, _⟩ =>
    .bind (by rw [k0_part350_eq_skeleton]; exact ld fun _ => .pure _) fun ⟨_, _, _, _, _, _, _, _, _, _, _, _, _, _, _, _, _, _, _, _, _, _, _, _, _, _, _, _, _, _, _, _, _⟩ =>
    .bind (by rw [k0_part351_eq_skeleton]; exact ld fun _ => ld fun _ => ld fun _ => ld fun _ => ld fun _ => ld fun _ => ld fun _ => .pure _) fun ⟨_, _, _, _, _⟩ =>
    .bind (by rw [k0_part352_eq_skeleton]; exact ld fun _ => ld fun _ => ld fun _ => ld fun _ => ld fun _ => st fun _ => .pure _) fun ⟨_, _, _, _, _⟩ =>
    .bind (by rw [k0_part353_eq_skeleton]; exact ld fun _ => ld fun _ => ld fun _ => st fun _ => ld fun _ => ld fun _ => ld fun _ => st fun _ => ld fun _ => ld fun _ => ld fun _ => st fun _ => ld fun _ => .pure _) fun _ =>
    .bind (by rw [k0_part354_eq_skeleton]; exact ld fun _ => ld fun _ => ld fun _ => st fun _ => ld fun _ => ld fun _ => ld fun _ => ld fun _ => ld fun _ => .pure _) fun ⟨_, _, _, _⟩ =>
    .bind (by rw [k0_part355_eq_skeleton]; exact st fun _ => ld fun _ => .pure _) fun ⟨_, _, _, _, _, _, _, _⟩ =>
    .bind (by rw [k0_part356_eq_skeleton]; exact .pure _) fun ⟨_, _, _, _, _, _, _, _, _⟩ =>
    .bind (by rw [k0_part357_eq_skeleton]; exact .pure _) fun ⟨_, _, _, _, _, _, _, _⟩ =>
    .bind (by rw [k0_part358_eq_skeleton]; exact .pure _) fun ⟨_, _, _, _, _, _, _⟩ =>
    .bind (by rw [k0_part359_eq_skeleton]; exact .pure _) fun ⟨_, _, _, _, _, _, _, _, _, _⟩ =>
    .bind (by rw [k0_part360_eq_skeleton]; exact .pure _) fun ⟨_, _, _, _, _, _, _, _, _, _, _, _, _, _, _, _, _, _, _, _, _, _, _, _, _, _, _, _, _, _, _, _⟩ =>
    .bind (by rw [k0_part361_eq_skeleton]; exact ld fun _ => ld fun _ => ld fun _ => ld fun _ => ld fun _ => .pure _) fun ⟨_, _, _, _, _, _, _, _, _, _, _, _, _, _⟩ =>
    .bind (by rw [k0_part362_eq_skeleton]; exact ld fun _ => ld fun _ => ld fun _ => ld fun _ => ld fun _ => ld fun _ => ld fun _ => .pure _) fun ⟨_, _, _, _, _, _, _⟩ =>
    .bind (by rw [k0_part363_eq_skeleton]; exact ld fun _ => ld fun _ => ld fun _ => ld fun _ => ld fun _ => .pure _) fun ⟨_, _, _, _, _, _, _, _⟩ =>
    .bind (by rw [k0_part364_eq_skeleton]; exact ld fun _ => ld fun _ => ld fun _ => ld fun _ => ld fun _ => .pure _) fun ⟨_, _, _, _, _, _⟩ =>
    .bind (by rw [k0_part365_eq_skeleton]; exact ld fun _ => ld fun _ => ld fun _ => st fun _ => ld fun _ => sm fun _ => ld fun _ => .pure _) fun ⟨_, _, _, _⟩ =>
    .bind (by rw [k0_part366_eq_skeleton]; exact ld fun _ => ld fun _ => st fun _ => ld fun _ => sm fun _ => .pure _) fun ⟨_, _, _, _, _, _⟩ =>
    .bind (by rw [k0_part367_eq_skeleton]; exact .pure _) fun ⟨_, _, _, _, _, _, _, _, _⟩ =>
    .bind (by rw [k0_part368_eq_skeleton]; exact .pure _) fun ⟨_, _, _, _, _, _, _, _⟩ =>
    .bind (by rw [k0_part369_eq_skeleton]; exact .pure _) fun ⟨_, _, _, _, _, _, _, _, _⟩ =>
    .bind (by rw [k0_part370_eq_skeleton]; exact .pure _) fun ⟨_, _, _, _, _, _, _, _⟩ =>
    .bind (by rw [k0_part371_eq_skeleton]; exact .pure _) fun ⟨_, _, _, _, _, _, _, _, _, _, _, _, _, _, _, _, _, _, _, _, _⟩ =>
    .bind (by rw [k0_part372_eq_skeleton]; exact ld fun _ => ld fun _ => .pure _) fun ⟨_, _, _, _, _, _, _, _, _, _, _, _, _, _, _, _, _, _, _, _, _, _, _, _, _, _, _, _⟩ =>
    .bind (by rw [k0_part373_eq_skeleton]; exact ld fun _ => ld fun _ => ld fun _ => ld fun _ => ld fun _ => .pure _) fun ⟨_, _, _, _⟩ =>
    .bind (by rw [k0_part374_eq_skeleton]; exact ld fun _ => ld fun _ => st fun _ => ld fun _ => ld fun _ => ld fun _ => st fun _ => ld fun _ => ld fun _ => ld fun _ => st fun _ => ld fun _ => .pure _) fun ⟨_, _⟩ =>
    .bind (by rw [k0_part375_eq_skeleton]; exact ld fun _ => ld fun _ => st fun _ => ld fun _ => st fun _ => ld fun _ => st fun _ => ld fun _ => st fun _ => ld fun _ => st fun _ => ld fun _ => ld fun _ => ld fun _ => .pure _) fun _ =>
    .bind (by rw [k0_part376_eq_skeleton]; exact st fun _ => ld fun _ => sm fun _ => ld fun _ => ld fun _ => ld fun _ => st fun _ => ld fun _ => .pure _) fun ⟨_, _, _, _⟩ =>
    .bind (by rw [k0_part377_eq_skeleton]; exact sm fun _ => .pure _) fun ⟨_, _, _, _, _, _, _, _, _, _⟩ =>
    .bind (by rw [k0_part378_eq_skeleton]; exact .pure _) fun ⟨_, _, _, _, _, _, _, _, _⟩ =>
    .bind (by rw [k0_part379_eq_skeleton]; exact .pure _) fun ⟨_, _, _, _, _, _, _, _, _, _, _, _, _, _, _, _⟩ =>
    .bind (by rw [k0_part380_eq_skeleton]; exact ld fun _ => ld fun _ => ld fun _ => ld fun _ => ld fun _ => .pure _) fun ⟨_, _, _, _, _, _, _, _, _, _, _, _, _, _, _, _, _, _, _⟩ =>
    .bind (by rw [k0_part381_eq_skeleton]; exact ld fun _ => ld fun _ => ld fun _ => ld fun _ => st fun _ => ld fun _ => sm fun _ => .pure _) fun ⟨_, _, _, _, _⟩ =>
    .bind (by rw [k0_part382_eq_skeleton]; exact ld fun _ => st fun _ => ld fun _ => st fun _ => ld fun _ => st fun _ => ld fun _ => st fun _ => ld fun _ => st fun _ => ld fun _ => st fun _ => .pure _) fun ⟨_, _⟩ =>
    .bind (by rw [k0_part383_eq_skeleton]; exact ld fun _ => st fun _ => ld fun _ => st fun _ => ld fun _ => st fun _ => ld fun _ => .pure _) fun ⟨_, _, _, _, _, _, _⟩ =>
    .bind (by rw [k0_part384_eq_skeleton]; exact .pure _) fun _ =>
    .bind (by rw [k0_part385_eq_skeleton]; exact .pure _) fun _ =>
    .bind (by rw [k0_part386_eq_skeleton]; exact ld fun _ => st fun _ => ld fun _ => st fun _ => .pure _) fun ⟨_, _, _⟩ =>
    .bind (by rw [k0_part387_eq_skeleton]; exact .pure _) fun ⟨_, _, _, _⟩ =>
    .bind (by rw [k0_part388_eq_skeleton]; exact ld fun _ => st fun _ => .pure _) fun _ =>
    .bind (by rw [k0_part389_eq_skeleton]; exact ld fun _ => st fun _ => ld fun _ => .pure _) fun ⟨_, _, _, _, _, _, _⟩ =>
    .bind (by rw [k0_part390_eq_skeleton]; exact .pure _) fun ⟨_, _⟩ =>
    .bind (by rw [k0_part391_eq_skeleton]; exact .pure _) fun _ =>
    .bind (by rw [k0_part392_eq_skeleton]; exact ld fun _ => st fun _ => ld fun _ => st fun _ => .pure _) fun ⟨_, _, _, _⟩ =>
    .bind (by rw [k0_part393_eq_skeleton]; exact .pure _) fun ⟨_, _, _, _⟩ =>
    .bind (by rw [k0_part394_eq_skeleton]; exact ld fun _ => st fun _ => .pure _) fun _ =>
    .bind (by rw [k0_part395_eq_skeleton]; exact ld fun _ => st fun _ => .pure _) fun ⟨_, _, _, _⟩ =>
    .bind (by rw [k0_part396_eq_skeleton]; exact .pure _) fun ⟨_, _, _, _, _, _⟩ =>
    .bind (by rw [k0_part397_eq_skeleton]; exact .pure _) fun ⟨_, _, _, _, _, _, _⟩ =>
    .bind (by rw [k0_part398_eq_skeleton]; exact .pure _) fun ⟨_, _, _, _, _, _, _, _⟩ =>
    .bind (by rw [k0_part399_eq_skeleton]; exact ld fun _ => st fun _ => ld fun _ => st fun _ => ld fun _ => ld fun _ => ld fun _ => .pure _) fun ⟨_, _⟩ =>
    .bind (by rw [k0_part400_eq_skeleton]; exact ld fun _ => ld fun _ => ld fun _ => ld fun _ => ld fun _ => ld fun _ => ld fun _ => st fun _ => ld fun _ => .pure _) fun ⟨_, _, _⟩ =>
    .bind (by rw [k0_part401_eq_skeleton]; exact ld fun _ => ld fun _ => ld fun _ => st fun _ => ld fun _ => st fun _ => ld fun _ => st fun _ => ld fun _ => st fun _ => .pure _) fun ⟨_, _⟩ =>
    .bind (by rw [k0_part402_eq_skeleton]; exact ld fun _ => st fun _ => ld fun _ => st fun _ => ld fun _ => st fun _ => ld fun _ => st fun _ => ld fun _ => st fun _ => ld fun _ => st fun _ => ld fun _ => .pure _) fun ⟨_, _⟩ =>
    .bind (by rw [k0_part403_eq_skeleton]; exact st fun _ => ld fun _ => st fun _ => ld fun _ => st fun _ => ld fun _ => st fun _ => ld fun _ => st fun _ => ld fun _ => st fun _ => ld fun _ => .pure _) fun ⟨_, _⟩ => .pure _

theorem p435 {x0 x1 x2 x3 x4 x5 x6 x7 x8 x9 x10 x11 x12 x13 x14 x15 x16 x17 x18 x19 x20 x21 x22 x23 x24 x25 x26 x27 x28 x29 x30 x31 x32 x33} : Ok defs₀ 𝒱 c E H (k0_part435 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 x23 x24 x25 x26 x27 x28 x29 x30 x31 x32 x33) := by
  rw [k0_part435_eq_skeleton]
  exact .bind (by rw [k0_part404_eq_skeleton]; exact st fun _ => ld fun _ => st fun _ => ld fun _ => st fun _ => ld fun _ => st fun _ => ld fun _ => st fun _ => ld fun _ => st fun _ => ld fun _ => st fun _ => .pure _) fun _ =>
    .bind (by rw [k0_part405_eq_skeleton]; exact ld fun _ => st fun _ => ld fun _ => st fun _ => ld fun _ => st fun _ => ld fun _ => st fun _ => ld fun _ => st fun _ => ld fun _ => st fun _ => .pure _) fun _ =>
    .bind (by rw [k0_part406_eq_skeleton]; exact ld fun _ => st fun _ => ld fun _ => st fun _ => ld fun _ => st fun _ => ld fun _ => st fun _ => ld fun _ => st fun _ => ld fun _ => st fun _ => .pure _) fun _ =>
    .bind (by rw [k0_part407_eq_skeleton]; exact ld fun _ => st fun _ => ld fun _ => st fun _ => ld fun _ => st fun _ => ld fun _ => st fun _ => ld fun _ => st fun _ => ld fun _ => st fun _ => .pure _) fun _ =>
    .bind (by rw [k0_part408_eq_skeleton]; exact ld fun _ => st fun _ => ld fun _ => st fun _ => ld fun _ => st fun _ => ld fun _ => st fun _ => ld fun _ => st fun _ => ld fun _ => st fun _ => .pure _) fun _ =>
    .bind (by rw [k0_part409_eq_skeleton]; exact ld fun _ => st fun _ => ld fun _ => st fun _ => ld fun _ => st fun _ => ld fun _ => st fun _ => ld fun _ => st fun _ => ld fun _ => st fun _ => ld fun _ => .pure _) fun _ =>
    .bind (by rw [k0_part410_eq_skeleton]; exact st fun _ => ld fun _ => st fun _ => ld fun _ => st fun _ => ld fun _ => st fun _ => ld fun _ => st fun _ => ld fun _ => st fun _ => ld fun _ => .pure _) fun _ =>
    .bind (by rw [k0_part411_eq_skeleton]; exact st fun _ => ld fun _ => st fun _ => ld fun _ => st fun _ => ld fun _ => st fun _ => ld fun _ => st fun _ => ld fun _ => st fun _ => ld fun _ => .pure _) fun _ =>
    .bind (by rw [k0_part412_eq_skeleton]; exact ld fun _ => ld fun _ => ld fun _ => ld fun _ => ld fun _ => ld fun _ => ld fun _ => .pure _) fun ⟨_, _, _⟩ =>
    .bind (by rw [k0_part413_eq_skeleton]; exact ld fun _ => ld fun _ => st fun _ => ld fun _ => ld fun _ => ld fun _ => ld fun _ => ld fun _ => st fun _ => .pure _) fun ⟨_, _, _⟩ =>
    .bind (by rw [k0_part414_eq_skeleton]; exact ld fun _ => ld fun _ => ld fun _ => ld fun _ => ld fun _ => ld fun _ => ld fun _ => .pure _) fun ⟨_, _, _⟩ =>
    .bind (by rw [k0_part415_eq_skeleton]; exact ld fun _ => ld fun _ => ld fun _ => st fun _ => ld fun _ => sm fun _ => ld fun _ => ld fun _ => .pure _) fun ⟨_, _, _⟩ =>
    .bind (by rw [k0_part416_eq_skeleton]; exact ld fun _ => st fun _ => ld fun _ => sm fun _ => ld fun _ => ld fun _ => ld fun _ => ld fun _ => .pure _) fun ⟨_, _, _, _⟩ =>
    .bind (by rw [k0_part417_eq_skeleton]; exact ld fun _ => ld fun _ => ld fun _ => ld fun _ => ld fun _ => st fun _ => ld fun _ => sm fun _ => .pure _) fun ⟨_, _, _, _⟩ =>
    .bind (by rw [k0_part418_eq_skeleton]; exact ld fun _ => ld fun _ => ld fun _ => st fun _ => ld fun _ => sm fun _ => ld fun _ => .pure _) fun ⟨_, _, _, _, _⟩ =>
    .bind (by rw [k0_part419_eq_skeleton]; exact ld fun _ => ld fun _ => ld fun _ => st fun _ => ld fun _ => st fun _ => ld fun _ => ld fun _ => .pure _) fun _ =>
    .bind (by rw [k0_part420_eq_skeleton]; exact ld fun _ => ld fun _ => ld fun _ => ld fun _ => st fun _ => ld fun _ => sm fun _ => .pure _) fun ⟨_, _, _, _⟩ =>
    .bind (by rw [k0_part421_eq_skeleton]; exact ld fun _ => st fun _ => ld fun _ => st fun _ => ld fun _ => st fun _ => ld fun _ => st fun _ => ld fun _ => st fun _ => ld fun _ => st fun _ => ld fun _ => st fun _ => .pure _) fun _ =>
    .bind (by rw [k0_part422_eq_skeleton]; exact ld fun _ => st fun _ => ld fun _ => st fun _ => ld fun _ => ld fun _ => ld fun _ => ld fun _ => st fun _ => ld fun _ => .pure _) fun ⟨_, _⟩ =>
    .bind (by rw [k0_part423_eq_skeleton]; exact ld fun _ => ld fun _ => ld fun _ => ld fun _ => ld fun _ => ld fun _ => ld fun _ => .pure _) fun ⟨_, _⟩ =>
    .bind (by rw [k0_part424_eq_skeleton]; exact ld fun _ => ld fun _ => st fun _ => ld fun _ => ld fun _ => ld fun _ => ld fun _ => st fun _ => ld fun _ => .pure _) fun ⟨_, _, _⟩ =>
    .bind (by rw [k0_part425_eq_skeleton]; exact ld fun _ => ld fun _ => ld fun _ => ld fun _ => ld fun _ => ld fun _ => ld fun _ => ld fun _ => .pure _) fun ⟨_, _, _, _⟩ =>
    .bind (by rw [k0_part426_eq_skeleton]; exact ld fun _ => ld fun _ => st fun _ => ld fun _ => ld fun _ => ld fun _ => ld fun _ => st fun _ => ld fun _ => .pure _) fun ⟨_, _, _, _⟩ =>
    .bind (by rw [k0_part427_eq_skeleton]; exact sm fun _ => ld fun _ => ld fun _ => ld fun _ => ld fun _ => ld fun _ => .pure _) fun ⟨_, _, _, _⟩ =>
    .bind (by rw [k0_part428_eq_skeleton]; exact ld fun _ => ld fun _ => ld fun _ => ld fun _ => st fun _ => ld fun _ => sm fun _ => ld fun _ => .pure _) fun ⟨_, _, _, _⟩ =>
    .bind (by rw [k0_part429_eq_skeleton]; exact ld fun _ => ld fun _ => st fun _ => ld fun _ => sm fun _ => ld fun _ => ld fun _ => ld fun _ => .pure _) fun ⟨_, _, _, _, _⟩ =>
    .bind (by rw [k0_part430_eq_skeleton]; exact ld fun _ => ld fun _ => ld fun _ => ld fun _ => ld fun _ => ld fun _ => st fun _ => ld fun _ => .pure _) fun ⟨_, _, _⟩ =>
    .bind (by rw [k0_part431_eq_skeleton]; exact sm fun _ => ld fun _ => ld fun _ => ld fun _ => st fun _ => ld fun _ => sm fun _ => .pure _) fun ⟨_, _, _, _, _, _⟩ =>
    .bind (by rw [k0_part432_eq_skeleton]; exact ld fun _ => st fun _ => ld fun _ => st fun _ => ld fun _ => st fun _ => ld fun _ => st fun _ => ld fun _ => st fun _ => ld fun _ => .pure _) fun ⟨_, _, _⟩ => st fun _ => ld fun _ => st fun _ => ld fun _ => st fun _ => ld fun _ => st fun _ => .pure _

end Cert.Kernel2Ideal.Body

end
-- ==== Proof.BodyI4.lean ====
/-
  The token mixers' body (of `Kernel2Ideal`), the branch taken at the step after the last block:
  each stretch of text only loads from and stores into the buffers it is given, so it runs on them and gives them back.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Steps

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {𝒱 : Variants} {c : Dev nD} {E : Set ℕ} {H : Assn nD τ sig F} {i : grid0.Coords}
  {a1 : Memref sig .tc .smem S8x32 .f32} {h1 : a1.IsWhole} [Has c H a1]
  {a2 : Memref sig .tc .vmem S1x2x128x256 .f32} {h2 : a2.IsWhole} [Has c H a2]
  {a3 : Memref sig .tc .vmem S1x2x128x256 .f32} {h3 : a3.IsWhole} [Has c H a3]
  {a4 : Memref sig .tc .vmem S1x2048x128 .bf16} {h4 : a4.IsWhole} [Has c H a4]
  {a5 : Memref sig .tc .vmem S4x8x128 .f32} {h5 : a5.IsWhole} [Has c H a5]
  {a6 : Memref sig .tc .vmem S1x8x2x80x256 .bf16} {h6 : a6.IsWhole} [Has c H a6]
  {a7 : Memref sig .tc .vmem S256x1536 .f32} {h7 : a7.IsWhole} [Has c H a7]
  {a8 : Memref sig .tc .vmem S256x128 .f32} {h8 : a8.IsWhole} [Has c H a8]
  {a9 : Memref sig .tc .vmem S256x512 .f32} {h9 : a9.IsWhole} [Has c H a9]
  {a10 : Memref sig .tc .vmem S1x512 .f32} {h10 : a10.IsWhole} [Has c H a10]
  {a11 : Memref sig .tc .vmem S1x4x128x256 .f32} {h11 : a11.IsWhole} [Has c H a11]
  {a12 : Memref sig .tc .vmem S256x512 .f32} {h12 : a12.IsWhole} [Has c H a12]
  {a13 : Memref sig .tc .vmem S2x2x256x256 .f32} {h13 : a13.IsWhole} [Has c H a13]
  {a14 : Memref sig .tc .vmem S2x2x16x256 .f32} {h14 : a14.IsWhole} [Has c H a14]
  {a15 : Memref sig .tc .vmem S2x2x2x128x256 .bf16} {h15 : a15.IsWhole} [Has c H a15]
  {a16 : Memref sig .tc .vmem S4x2x9x256x256 .f32} {h16 : a16.IsWhole} [Has c H a16]
  {a17 : Memref sig .tc .vmem S4x2x16x256 .f32} {h17 : a17.IsWhole} [Has c H a17]
  {a18 : Memref sig .tc .vmem S2x256x512 .f32} {h18 : a18.IsWhole} [Has c H a18]
  {a19 : Memref sig .tc .vmem S2x4x128x512 .bf16} {h19 : a19.IsWhole} [Has c H a19]
  {a20 : Memref sig .tc .vmem S2x256x512 .bf16} {h20 : a20.IsWhole} [Has c H a20]
  {a21 : Memref sig .tc .vmem S2x256x512 .bf16} {h21 : a21.IsWhole} [Has c H a21]
  {a22 : Memref sig .tc .vmem S2x32x512 .f32} {h22 : a22.IsWhole} [Has c H a22]
  {a23 : Memref sig .tc .vmem S4x128x128 .f32} {h23 : a23.IsWhole} [Has c H a23]

theorem p474 {x0 x1 x2 x3} : Ok defs₀ 𝒱 c E H (k0_part474 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3) := by
  rw [k0_part474_eq_skeleton]
  exact .bind (by rw [k0_part436_eq_skeleton]; exact ld fun _ => ld fun _ => ld fun _ => ld fun _ => ld fun _ => ld fun _ => ld fun _ => .pure _) fun ⟨_, _, _, _, _, _, _⟩ =>
    .bind (by rw [k0_part437_eq_skeleton]; exact ld fun _ => ld fun _ => ld fun _ => ld fun _ => ld fun _ => ld fun _ => ld fun _ => .pure _) fun ⟨_, _, _⟩ =>
    .bind (by rw [k0_part438_eq_skeleton]; exact ld fun _ => ld fun _ => ld fun _ => ld fun _ => ld fun _ => ld fun _ => ld fun _ => ld fun _ => .pure _) fun ⟨_, _, _, _, _, _, _, _⟩ =>
    .bind (by rw [k0_part439_eq_skeleton]; exact ld fun _ => ld fun _ => ld fun _ => ld fun _ => .pure _) fun ⟨_, _, _, _, _, _⟩ =>
    .bind (by rw [k0_part440_eq_skeleton]; exact ld fun _ => ld fun _ => ld fun _ => ld fun _ => ld fun _ => .pure _) fun ⟨_, _, _, _, _, _⟩ =>
    .bind (by rw [k0_part441_eq_skeleton]; exact ld fun _ => ld fun _ => ld fun _ => ld fun _ => ld fun _ => ld fun _ => ld fun _ => .pure _) fun ⟨_, _, _, _⟩ =>
    .bind (by rw [k0_part442_eq_skeleton]; exact ld fun _ => ld fun _ => ld fun _ => ld fun _ => ld fun _ => st fun _ => .pure _) fun ⟨_, _, _, _, _⟩ =>
    .bind (by rw [k0_part443_eq_skeleton]; exact ld fun _ => ld fun _ => ld fun _ => st fun _ => ld fun _ => ld fun _ => ld fun _ => st fun _ => ld fun _ => ld fun _ => ld fun _ => st fun _ => .pure _) fun _ =>
    .bind (by rw [k0_part444_eq_skeleton]; exact ld fun _ => ld fun _ => ld fun _ => ld fun _ => ld fun _ => ld fun _ => ld fun _ => .pure _) fun ⟨_, _, _⟩ =>
    .bind (by rw [k0_part445_eq_skeleton]; exact ld fun _ => ld fun _ => ld fun _ => ld fun _ => ld fun _ => ld fun _ => ld fun _ => ld fun _ => .pure _) fun ⟨_, _, _, _, _, _, _, _, _, _, _⟩ =>
    .bind (by rw [k0_part446_eq_skeleton]; exact ld fun _ => ld fun _ => ld fun _ => .pure _) fun ⟨_, _, _, _⟩ =>
    .bind (by rw [k0_part447_eq_skeleton]; exact ld fun _ => ld fun _ => ld fun _ => ld fun _ => ld fun _ => ld fun _ => .pure _) fun ⟨_, _, _, _, _⟩ =>
    .bind (by rw [k0_part448_eq_skeleton]; exact ld fun _ => ld fun _ => ld fun _ => ld fun _ => ld fun _ => ld fun _ => ld fun _ => .pure _) fun ⟨_, _, _, _⟩ =>
    .bind (by rw [k0_part449_eq_skeleton]; exact ld fun _ => ld fun _ => ld fun _ => ld fun _ => st fun _ => ld fun _ => .pure _) fun ⟨_, _, _, _⟩ =>
    .bind (by rw [k0_part450_eq_skeleton]; exact ld fun _ => ld fun _ => st fun _ => ld fun _ => ld fun _ => ld fun _ => st fun _ => ld fun _ => ld fun _ => ld fun _ => st fun _ => ld fun _ => ld fun _ => .pure _) fun ⟨_, _⟩ =>
    .bind (by rw [k0_part451_eq_skeleton]; exact ld fun _ => ld fun _ => st fun _ => ld fun _ => st fun _ => ld fun _ => ld fun _ => ld fun _ => .pure _) fun ⟨_, _⟩ =>
    .bind (by rw [k0_part452_eq_skeleton]; exact ld fun _ => ld fun _ => ld fun _ => ld fun _ => ld fun _ => ld fun _ => ld fun _ => ld fun _ => .pure _) fun ⟨_, _, _, _, _, _, _, _, _⟩ =>
    .bind (by rw [k0_part453_eq_skeleton]; exact ld fun _ => ld fun _ => ld fun _ => ld fun _ => .pure _) fun ⟨_, _, _, _, _, _⟩ =>
    .bind (by rw [k0_part454_eq_skeleton]; exact ld fun _ => ld fun _ => ld fun _ => ld fun _ => .pure _) fun ⟨_, _, _, _, _⟩ =>
    .bind (by rw [k0_part455_eq_skeleton]; exact ld fun _ => ld fun _ => ld fun _ => ld fun _ => ld fun _ => ld fun _ => ld fun _ => .pure _) fun ⟨_, _⟩ =>
    .bind (by rw [k0_part456_eq_skeleton]; exact ld fun _ => ld fun _ => ld fun _ => ld fun _ => ld fun _ => ld fun _ => st fun _ => .pure _) fun ⟨_, _, _, _, _, _⟩ =>
    .bind (by rw [k0_part457_eq_skeleton]; exact ld fun _ => ld fun _ => ld fun _ => st fun _ => ld fun _ => ld fun _ => ld fun _ => st fun _ => ld fun _ => ld fun _ => ld fun _ => st fun _ => .pure _) fun _ =>
    .bind (by rw [k0_part458_eq_skeleton]; exact ld fun _ => ld fun _ => ld fun _ => ld fun _ => ld fun _ => ld fun _ => ld fun _ => .pure _) fun ⟨_, _⟩ =>
    .bind (by rw [k0_part459_eq_skeleton]; exact ld fun _ => ld fun _ => ld fun _ => ld fun _ => ld fun _ => ld fun _ => ld fun _ => ld fun _ => .pure _) fun ⟨_, _, _, _, _, _, _, _, _, _⟩ =>
    .bind (by rw [k0_part460_eq_skeleton]; exact ld fun _ => ld fun _ => ld fun _ => .pure _) fun ⟨_, _, _, _⟩ =>
    .bind (by rw [k0_part461_eq_skeleton]; exact ld fun _ => ld fun _ => ld fun _ => ld fun _ => ld fun _ => ld fun _ => .pure _) fun ⟨_, _, _, _, _⟩ =>
    .bind (by rw [k0_part462_eq_skeleton]; exact ld fun _ => ld fun _ => ld fun _ => ld fun _ => .pure _) fun ⟨_, _, _⟩ =>
    .bind (by rw [k0_part463_eq_skeleton]; exact ld fun _ => ld fun _ => ld fun _ => st fun _ => ld fun _ => ld fun _ => ld fun _ => st fun _ => ld fun _ => ld fun _ => ld fun _ => st fun _ => .pure _) fun _ =>
    .bind (by rw [k0_part464_eq_skeleton]; exact ld fun _ => ld fun _ => ld fun _ => st fun _ => ld fun _ => st fun _ => ld fun _ => st fun _ => ld fun _ => st fun _ => ld fun _ => st fun _ => ld fun _ => ld fun _ => .pure _) fun _ =>
    .bind (by rw [k0_part465_eq_skeleton]; exact ld fun _ => ld fun _ => ld fun _ => ld fun _ => ld fun _ => st fun _ => ld fun _ => st fun _ => .pure _) fun _ =>
    .bind (by rw [k0_part466_eq_skeleton]; exact ld fun _ => ld fun _ => ld fun _ => ld fun _ => ld fun _ => ld fun _ => ld fun _ => .pure _) fun ⟨_, _, _⟩ =>
    .bind (by rw [k0_part467_eq_skeleton]; exact ld fun _ => ld fun _ => ld fun _ => ld fun _ => ld fun _ => ld fun _ => ld fun _ => .pure _) fun ⟨_, _, _⟩ =>
    .bind (by rw [k0_part468_eq_skeleton]; exact ld fun _ => ld fun _ => ld fun _ => ld fun _ => ld fun _ => ld fun _ => ld fun _ => .pure _) fun ⟨_, _, _⟩ =>
    .bind (by rw [k0_part469_eq_skeleton]; exact ld fun _ => ld fun _ => ld fun _ => ld fun _ => ld fun _ => ld fun _ => .pure _) fun ⟨_, _⟩ =>
    .bind (by rw [k0_part470_eq_skeleton]; exact ld fun _ => st fun _ => ld fun _ => st fun _ => ld fun _ => ld fun _ => ld fun _ => ld fun _ => .pure _) fun ⟨_, _⟩ =>
    .bind (by rw [k0_part471_eq_skeleton]; exact ld fun _ => ld fun _ => ld fun _ => ld fun _ => ld fun _ => ld fun _ => ld fun _ => .pure _) fun ⟨_, _⟩ =>
    .bind (by rw [k0_part472_eq_skeleton]; exact ld fun _ => ld fun _ => ld fun _ => ld fun _ => ld fun _ => ld fun _ => ld fun _ => .pure _) fun ⟨_, _, _⟩ =>
    .bind (by rw [k0_part473_eq_skeleton]; exact ld fun _ => ld fun _ => ld fun _ => ld fun _ => ld fun _ => ld fun _ => .pure _) fun ⟨_, _⟩ => ld fun _ => ld fun _ => ld fun _ => .pure _

end Cert.Kernel2Ideal.Body

end
-- ==== Proof.BodyI.lean ====
/-
  The token mixers' whole body (of `Kernel2Ideal`): its straight text and its branches run on the buffers they are given.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Steps
public import proofs.«01_k».proof.Proof.BodyI1
public import proofs.«01_k».proof.Proof.BodyI2
public import proofs.«01_k».proof.Proof.BodyI3
public import proofs.«01_k».proof.Proof.BodyI4

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {𝒱 : Variants} {c : Dev nD} {E : Set ℕ} {H : Assn nD τ sig F} {i : grid0.Coords}
  {a1 : Memref sig .tc .smem S8x32 .f32} {h1 : a1.IsWhole} [Has c H a1]
  {a2 : Memref sig .tc .vmem S1x2x128x256 .f32} {h2 : a2.IsWhole} [Has c H a2]
  {a3 : Memref sig .tc .vmem S1x2x128x256 .f32} {h3 : a3.IsWhole} [Has c H a3]
  {a4 : Memref sig .tc .vmem S1x2048x128 .bf16} {h4 : a4.IsWhole} [Has c H a4]
  {a5 : Memref sig .tc .vmem S4x8x128 .f32} {h5 : a5.IsWhole} [Has c H a5]
  {a6 : Memref sig .tc .vmem S1x8x2x80x256 .bf16} {h6 : a6.IsWhole} [Has c H a6]
  {a7 : Memref sig .tc .vmem S256x1536 .f32} {h7 : a7.IsWhole} [Has c H a7]
  {a8 : Memref sig .tc .vmem S256x128 .f32} {h8 : a8.IsWhole} [Has c H a8]
  {a9 : Memref sig .tc .vmem S256x512 .f32} {h9 : a9.IsWhole} [Has c H a9]
  {a10 : Memref sig .tc .vmem S1x512 .f32} {h10 : a10.IsWhole} [Has c H a10]
  {a11 : Memref sig .tc .vmem S1x4x128x256 .f32} {h11 : a11.IsWhole} [Has c H a11]
  {a12 : Memref sig .tc .vmem S256x512 .f32} {h12 : a12.IsWhole} [Has c H a12]
  {a13 : Memref sig .tc .vmem S2x2x256x256 .f32} {h13 : a13.IsWhole} [Has c H a13]
  {a14 : Memref sig .tc .vmem S2x2x16x256 .f32} {h14 : a14.IsWhole} [Has c H a14]
  {a15 : Memref sig .tc .vmem S2x2x2x128x256 .bf16} {h15 : a15.IsWhole} [Has c H a15]
  {a16 : Memref sig .tc .vmem S4x2x9x256x256 .f32} {h16 : a16.IsWhole} [Has c H a16]
  {a17 : Memref sig .tc .vmem S4x2x16x256 .f32} {h17 : a17.IsWhole} [Has c H a17]
  {a18 : Memref sig .tc .vmem S2x256x512 .f32} {h18 : a18.IsWhole} [Has c H a18]
  {a19 : Memref sig .tc .vmem S2x4x128x512 .bf16} {h19 : a19.IsWhole} [Has c H a19]
  {a20 : Memref sig .tc .vmem S2x256x512 .bf16} {h20 : a20.IsWhole} [Has c H a20]
  {a21 : Memref sig .tc .vmem S2x256x512 .bf16} {h21 : a21.IsWhole} [Has c H a21]
  {a22 : Memref sig .tc .vmem S2x32x512 .f32} {h22 : a22.IsWhole} [Has c H a22]
  {a23 : Memref sig .tc .vmem S4x128x128 .f32} {h23 : a23.IsWhole} [Has c H a23]

theorem p482 {x0 x1 x2 x3 x4 x5 x6 x7 x8 x9 x10 x11 x12 x13 x14 x15 x16} : Ok defs₀ 𝒱 c E H (k0_part482 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16) := by
  rw [k0_part482_eq_skeleton]
  unfold k0_part482_skel
  refine .dite (fun _ =>
    .bind (by rw [k0_part1_eq_skeleton]; exact sm fun _ => sm fun _ => sm fun _ => sm fun _ => sm fun _ => sm fun _ => sm fun _ => .pure _) fun ⟨_, _, _, _, _, _, _⟩ =>
    .bind (by rw [k0_part2_eq_skeleton]; exact sm fun _ => sm fun _ => sm fun _ => sm fun _ => sm fun _ => sm fun _ => sm fun _ => .pure _) fun ⟨_, _⟩ =>
    .bind (by rw [k0_part3_eq_skeleton]; exact sm fun _ => sm fun _ => sm fun _ => sm fun _ => sm fun _ => sm fun _ => sm fun _ => sm fun _ => .pure _) fun ⟨_, _, _⟩ =>
    .bind (by rw [k0_part4_eq_skeleton]; exact sm fun _ => sm fun _ => sm fun _ => sm fun _ => sm fun _ => sm fun _ => sm fun _ => .pure _) fun ⟨_, _⟩ =>
    .bind (by rw [k0_part5_eq_skeleton]; exact sm fun _ => sm fun _ => sm fun _ => ld fun _ => st fun _ => sm fun _ => sm fun _ => .pure _) fun ⟨_, _, _⟩ =>
    .bind (by rw [k0_part6_eq_skeleton]; exact sm fun _ => sm fun _ => sm fun _ => sm fun _ => sm fun _ => sm fun _ => sm fun _ => sm fun _ => .pure _) fun ⟨_, _⟩ =>
    .bind (by rw [k0_part7_eq_skeleton]; exact sm fun _ => sm fun _ => sm fun _ => sm fun _ => sm fun _ => sm fun _ => sm fun _ => .pure _) fun ⟨_, _⟩ =>
    .bind (by rw [k0_part8_eq_skeleton]; exact sm fun _ => sm fun _ => sm fun _ => sm fun _ => sm fun _ => sm fun _ => sm fun _ => sm fun _ => .pure _) fun ⟨_, _⟩ =>
    .bind (by rw [k0_part9_eq_skeleton]; exact sm fun _ => sm fun _ => sm fun _ => sm fun _ => sm fun _ => sm fun _ => sm fun _ => .pure _) fun _ =>
    .bind (by rw [k0_part10_eq_skeleton]; exact ld fun _ => st fun _ => sm fun _ => sm fun _ => sm fun _ => sm fun _ => sm fun _ => sm fun _ => .pure _) fun ⟨_, _, _, _⟩ =>
    .bind (by rw [k0_part11_eq_skeleton]; exact sm fun _ => sm fun _ => sm fun _ => sm fun _ => sm fun _ => sm fun _ => sm fun _ => sm fun _ => .pure _) fun ⟨_, _, _⟩ =>
    .bind (by rw [k0_part12_eq_skeleton]; exact sm fun _ => sm fun _ => sm fun _ => sm fun _ => sm fun _ => sm fun _ => sm fun _ => .pure _) fun ⟨_, _⟩ =>
    .bind (by rw [k0_part13_eq_skeleton]; exact sm fun _ => sm fun _ => sm fun _ => sm fun _ => sm fun _ => sm fun _ => sm fun _ => sm fun _ => .pure _) fun ⟨_, _, _⟩ =>
    .bind (by rw [k0_part14_eq_skeleton]; exact sm fun _ => sm fun _ => sm fun _ => ld fun _ => st fun _ => sm fun _ => sm fun _ => .pure _) fun ⟨_, _, _⟩ =>
    .bind (by rw [k0_part15_eq_skeleton]; exact sm fun _ => sm fun _ => sm fun _ => sm fun _ => sm fun _ => sm fun _ => sm fun _ => .pure _) fun ⟨_, _⟩ =>
    .bind (by rw [k0_part16_eq_skeleton]; exact sm fun _ => sm fun _ => sm fun _ => sm fun _ => sm fun _ => sm fun _ => sm fun _ => sm fun _ => .pure _) fun ⟨_, _⟩ =>
    .bind (by rw [k0_part17_eq_skeleton]; exact sm fun _ => sm fun _ => sm fun _ => sm fun _ => sm fun _ => sm fun _ => sm fun _ => .pure _) fun ⟨_, _⟩ =>
    .bind (by rw [k0_part18_eq_skeleton]; exact sm fun _ => sm fun _ => sm fun _ => sm fun _ => sm fun _ => sm fun _ => sm fun _ => sm fun _ => .pure _) fun ⟨_, _⟩ => ld fun _ => st fun _ => ?_) (fun _ => ?_)
  all_goals refine .dite (fun _ =>
    .bind p130 fun ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ =>
    .bind p131 fun _ => ld fun _ => st fun _ => ?_) (fun _ => ?_)
  all_goals exact .pure _

/-- The token mixers' body runs on the buffers it is given, at any step of the grid. -/
theorem body : Ok defs₀ 𝒱 c E H (cc0_token_mixers i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) := by
  rw [cc0_token_mixers_eq_skeleton]
  unfold cc0_token_mixers_skel
  refine .bind (by rw [k0_part475_eq_skeleton]; exact .pure _) fun ⟨_, _, _, _, _, _, _⟩ =>
    .bind (by rw [k0_part476_eq_skeleton]; exact .pure _) fun ⟨_, _, _, _, _, _⟩ =>
    .bind (by rw [k0_part477_eq_skeleton]; exact .pure _) fun ⟨_, _, _, _⟩ =>
    .bind (by rw [k0_part478_eq_skeleton]; exact .pure _) fun ⟨_, _, _, _⟩ =>
    .bind (by rw [k0_part479_eq_skeleton]; exact .pure _) fun ⟨_, _, _, _, _, _, _, _, _, _, _⟩ =>
    .bind (by rw [k0_part480_eq_skeleton]; exact .pure _) fun ⟨_, _, _⟩ =>
    .bind (by rw [k0_part481_eq_skeleton]; exact .pure _) fun ⟨_, _, _⟩ =>
    .bind p482 fun ⟨_, _, _, _, _, _, _, _⟩ => .dite (fun _ =>
    .bind p281 fun ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ =>
    .bind p282 fun ⟨_, _, _, _, _, _, _, _, _, _, _, _, _, _, _, _⟩ =>
    .bind p283 fun ⟨_, _, _, _⟩ => ld fun _ => st fun _ => ld fun _ => st fun _ => ld fun _ => st fun _ => ?_) (fun _ => ?_)
  all_goals refine .dite (fun _ =>
    .bind p433 fun ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ =>
    .bind p434 fun ⟨_, _, _, _, _, _, _, _, _, _, _, _, _, _, _, _, _, _⟩ =>
    .bind p435 fun ⟨_, _, _⟩ => ld fun _ => st fun _ => ld fun _ => st fun _ => ?_) (fun _ => ?_)
  all_goals refine .dite (fun _ =>
    .bind p474 fun ⟨_, _, _, _, _⟩ => ld fun _ => st fun _ => ld fun _ => st fun _ => ?_) (fun _ => ?_)
  all_goals exact .pure _

end Cert.Kernel2Ideal.Body

end
-- ==== Proof.MixersIdeal.lean ====
/-
  The token mixers' program (`Kernel2Ideal`) runs: at every step of its grid the body runs on the buffers it holds
  (`Body.body`), so the whole pipeline terminates, its argument arrays end as launched and every semaphore counter
  ends at zero. Nothing is said of what the body leaves in the buffers.
-/
module

public import proofs.«01_k».proof.Proof.Gen.Kernel2Ideal.Frame
public import proofs.«01_k».proof.Proof.BodyI

@[expose] public section

set_option maxRecDepth 65536

noncomputable section

namespace Cert.Kernel2Ideal.Body

open Cert.Kernel2Ideal Cert.Kernel2Ideal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

/-- The body on the twelve staging buffers and the eleven scratch buffers, each held at some contents. -/
theorem body_held {𝒱 : Variants} {c : Dev nD} {E : Set ℕ} {i : grid0.Coords}
    {a1 : Memref sig .tc .smem S8x32 .f32} {h1 : a1.IsWhole} {a2 : Memref sig .tc .vmem S1x2x128x256 .f32} {h2 : a2.IsWhole} {a3 : Memref sig .tc .vmem S1x2x128x256 .f32} {h3 : a3.IsWhole} {a4 : Memref sig .tc .vmem S1x2048x128 .bf16} {h4 : a4.IsWhole} {a5 : Memref sig .tc .vmem S4x8x128 .f32} {h5 : a5.IsWhole} {a6 : Memref sig .tc .vmem S1x8x2x80x256 .bf16} {h6 : a6.IsWhole} {a7 : Memref sig .tc .vmem S256x1536 .f32} {h7 : a7.IsWhole} {a8 : Memref sig .tc .vmem S256x128 .f32} {h8 : a8.IsWhole} {a9 : Memref sig .tc .vmem S256x512 .f32} {h9 : a9.IsWhole} {a10 : Memref sig .tc .vmem S1x512 .f32} {h10 : a10.IsWhole} {a11 : Memref sig .tc .vmem S1x4x128x256 .f32} {h11 : a11.IsWhole} {a12 : Memref sig .tc .vmem S256x512 .f32} {h12 : a12.IsWhole} {a13 : Memref sig .tc .vmem S2x2x256x256 .f32} {h13 : a13.IsWhole} {a14 : Memref sig .tc .vmem S2x2x16x256 .f32} {h14 : a14.IsWhole} {a15 : Memref sig .tc .vmem S2x2x2x128x256 .bf16} {h15 : a15.IsWhole} {a16 : Memref sig .tc .vmem S4x2x9x256x256 .f32} {h16 : a16.IsWhole} {a17 : Memref sig .tc .vmem S4x2x16x256 .f32} {h17 : a17.IsWhole} {a18 : Memref sig .tc .vmem S2x256x512 .f32} {h18 : a18.IsWhole} {a19 : Memref sig .tc .vmem S2x4x128x512 .bf16} {h19 : a19.IsWhole} {a20 : Memref sig .tc .vmem S2x256x512 .bf16} {h20 : a20.IsWhole} {a21 : Memref sig .tc .vmem S2x256x512 .bf16} {h21 : a21.IsWhole} {a22 : Memref sig .tc .vmem S2x32x512 .f32} {h22 : a22.IsWhole} {a23 : Memref sig .tc .vmem S4x128x128 .f32} {h23 : a23.IsWhole} :
    Ok defs₀ 𝒱 c E (iprop(held c a1 ∗ held c a2 ∗ held c a3 ∗ held c a4 ∗ held c a5 ∗ held c a6 ∗ held c a7 ∗ held c a8 ∗ held c a9 ∗ held c a10 ∗ held c a11 ∗ held c a12 ∗ held c a13 ∗ held c a14 ∗ held c a15 ∗ held c a16 ∗ held c a17 ∗ held c a18 ∗ held c a19 ∗ held c a20 ∗ held c a21 ∗ held c a22 ∗ held c a23) : Assn nD τ sig F) (cc0_token_mixers i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) :=
  body

variable (m : (ℓ : Loc nD τ sig) → Buf (Elt F) ℓ) (ρ : Dev nD → PrngReg)

/-- The pipeline's data: the arrays as the region finds them; of what the body leaves nothing is said; the scratch
    buffers and the generator register pass from step to step; nothing is owed. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem rdat_A (c : Dev nD) (w : Fin cfg0.W) : (rdat m c).A w = V m c (Pipeline.arrRef spec0 w) := by
  dsimp only [rdat]

/-- A scratch buffer whole at some contents is its memref held. -/
theorem held_whole (c : Dev nD) (b : Ref sig .tc) :
    (iprop(∃ f : Buf (Elt F) ((c : Thread nD τ).loc b), ((c : Thread nD τ).loc b) ↦{fullShare} f) : Assn nD τ sig F) = held c (Memref.whole b) := by
  unfold held
  simp only [owns_whole]

/-- A staging buffer at given contents is held. -/
theorem held_of {c : Dev nD} {sp : Space} {s : Shape} {e : EltTy} {mr : Memref sig .tc sp s e} (X) :
    (owns (c : Thread nD τ) mr fullShare X : Assn nD τ sig F) ⊢ held c mr := by
  unfold held
  iintro H; iexists X; iexact H

/-- and a held one is at some contents of which nothing is asked. -/
theorem of_held {c : Dev nD} {sp : Space} {s : Shape} {e : EltTy} {mr : Memref sig .tc sp s e} :
    (held c mr : Assn nD τ sig F) ⊢ iprop(∃ X, ⌜True⌝ ∗ owns (c : Thread nD τ) mr fullShare X) := by
  unfold held
  iintro ⟨%X, H⟩; iexists X
  isplitr; · ipureintro; trivial
  iexact H

/-- The scratch buffers, held. -/
theorem scratch_eq (c : Dev nD) : (Pipeline.scopedRest (Ix := Unit) (Name := ℕ) (U := UR sig nD τ) (Lvl := ℕ) (Val := Elt F) spec0 c : Assn nD τ sig F)
    = iprop(held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ held c (Memref.whole cc0_scratch9) ∗ held c (Memref.whole cc0_scratch10)) := by
  rw [scopedRest0_eq]
  simp only [held_whole]

/-- The body's call at point `t`. -/
theorem row (t : Fin cfg0.N) : defs₀ (F := F) .tc cfg0.body (cfg0.bodyArgs t (cfg0.slots t)) = bodyAt0 t := by
  unfold defs₀; rw [Defs.onTc_tc]

/-- The body at point `t`, from its staging buffers at any contents. -/
theorem step (c : Dev nD) (t : Fin cfg0.N) (Φ₁ : Assn nD τ sig F) :
    iprop((Pipeline.ΦA spec0 c) ∗ Φ₁ ∗ held c (st0_0 t) ∗ held c (st0_1 t) ∗ held c (st0_2 t) ∗ held c (st0_3 t) ∗ held c (st0_4 t) ∗ held c (st0_5 t) ∗ held c (st0_6 t) ∗ held c (st0_7 t) ∗ held c (st0_8 t) ∗ held c (st0_9 t) ∗ held c (st0_10 t) ∗ held c (st0_11 t))
      ⊢ wp frame (wpE (defs₀ (F := F)) Variants.none (c : Thread nD τ) none) Set.univ (bodyAt0 t)
        (fun _ => iprop((Pipeline.ΦA spec0 c) ∗ Φ₁ ∗ held c (st0_0 t) ∗ held c (st0_1 t) ∗ held c (st0_2 t) ∗ held c (st0_3 t) ∗ held c (st0_4 t) ∗ held c (st0_5 t) ∗ held c (st0_6 t) ∗ held c (st0_7 t) ∗ held c (st0_8 t) ∗ held c (st0_9 t) ∗ held c (st0_10 t) ∗ held c (st0_11 t))) := by
  unfold Pipeline.ΦA
  rw [scratch_eq]
  iintro ⟨⟨⟨S0, S1, S2, S3, S4, S5, S6, S7, S8, S9, S10⟩, Hg⟩, Ho, W0, W1, W2, W3, W4, W5, W6, W7, W8, W9, W10, W11⟩
  unfold bodyAt0
  iapply (body_held (F := F) (𝒱 := Variants.none) (c := c) (E := Set.univ) _)
  isplitl [W0 W1 W2 W3 W4 W5 W6 W7 W8 W9 W10 W11 S0 S1 S2 S3 S4 S5 S6 S7 S8 S9 S10]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro %_ ⟨W0, W1, W2, W3, W4, W5, W6, W7, W8, W9, W10, W11, S0, S1, S2, S3, S4, S5, S6, S7, S8, S9, S10⟩
  isplitl [S0 S1 S2 S3 S4 S5 S6 S7 S8 S9 S10 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The windows' staging buffers held, one by one. -/
theorem windows (c : Dev nD) (t : Fin cfg0.N) :
    (bigSep Finset.univ fun w : Fin cfg0.W => held c ((cfg0.win w).stage (cfg0.slots t w)) : Assn nD τ sig F)
      = iprop(held c (st0_0 t) ∗ held c (st0_1 t) ∗ held c (st0_2 t) ∗ held c (st0_3 t) ∗ held c (st0_4 t) ∗ held c (st0_5 t) ∗ held c (st0_6 t) ∗ held c (st0_7 t) ∗ held c (st0_8 t) ∗ held c (st0_9 t) ∗ held c (st0_10 t) ∗ held c (st0_11 t)) :=
  bigSep_W0 _

/-- The pipeline's body obligation. -/
theorem obligation (c : Dev nD) : (rdat (F := F) m c).BodyObligation defs₀ Variants.none () Set.univ := fun t Y _ => by
  rw [row]
  have h := step (F := F) c t ((rdat m c).owesAt () t.castSucc)
  rw [← windows] at h
  refine BIBase.Entails.trans ?_ (h.trans (wp_mono _ _ _ ?_))
  · exact sep_mono .rfl (sep_mono .rfl (bigSep_mono fun w _ => held_of _))
  · intro _
    exact sep_mono .rfl (sep_mono .rfl (bigSep_mono fun w _ => of_held))

set_option backward.isDefEq.respectTransparency.types false in
set_option maxHeartbeats 800000 in
/-- The launch: every array may end at what the data allow, every other buffer as found, every counter at zero. -/
theorem run : θ_run defs (onTc (τ := τ) (main (F := F))) (s₀ m ρ) (fun r => RDat.FramePost cfg0 (rdat m) (V m) r ∧ r.2.sem = fun _ => 0) :=
  Pipeline.RDat.θ_run_frame_track_shared cfgs (0 : Fin 1) launch₀0 defs₀ Variants.none (rdat m) m ρ main
    (hbody := obligation m) (hq := fun _ _ _ => rfl) (howed := fun _ _ => rfl) (V := V m) (hmain := hmain m Variants.none)
    (hA := rdat_A m) (hin := fun _ => .rfl) (hout := fun _ => .rfl) (Q' := _) (hQ' := fun _ h => h)

/-- The token mixers' program terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1.arr_in c 0 rfl).trans (V_main_arg0 m c),
    (h.1.arr_in c 2 rfl).trans (V_main_arg1 m c),
    ((h.1 c).2 main_arg2 (Pipeline.mem_restRefs_of main_arg2 (by decide) (by decide))).trans (V_main_arg2 m c),
    (h.1.arr_in c 4 rfl).trans (V_main_arg3 m c),
    (h.1.arr_in c 5 rfl).trans (V_main_arg4 m c),
    (h.1.arr_in c 6 rfl).trans (V_main_arg5 m c),
    (h.1.arr_in c 8 rfl).trans (V_main_arg6 m c),
    (h.1.arr_in c 7 rfl).trans (V_main_arg7 m c),
    ((h.1 c).2 main_arg8 (Pipeline.mem_restRefs_of main_arg8 (by decide) (by decide))).trans (V_main_arg8 m c)⟩, h.2⟩) (run m ρ)

end Cert.Kernel2Ideal.Body

end
-- ==== Proof.ProjRows.lean ====
/-
  The layer's input projection for one token, over the extended reals: the normed row's product with one column of the
  projection matrix; that it is a real number when the weights are; and the two spellings of SiLU, equal on real numbers.
-/
module

public import proofs.«01_k».proof.Proof.Rows

@[expose] public section

noncomputable section

namespace Cert.Proj

open Idealize.ShloMosaic Cert.Tail

/-- An extended real that is a real number. -/
def Fin' (y : EReal) : Prop := ∃ r : ℝ, y = r

/-- The normed row `x` times the column `w`. -/
def proj (x nw w : Fin 1024 → EReal) : EReal := ∑ e, normed x nw e * w e

/-- SiLU as the reference writes it. -/
def silu (z : EReal) : EReal := z * Ideal.div 1 (1 + Ideal.exp (-z))

/-- Half, as the kernel spells it. -/
abbrev half : EReal := Ideal.ofBits FTy.f32 0x3F000000#32

/-- SiLU as the kernel takes it, from half of its argument. -/
def siluH (h : EReal) : EReal := h + h * Ideal.tanh h

theorem width_eq : width = ((1024 : ℝ) : EReal) := by
  simp [width, Ideal.ofBits, Ideal.ieee, -EReal.coe_mul]
  norm_num

theorem eps_eq : ∃ r : ℝ, 0 < r ∧ eps = (r : EReal) := by
  refine ⟨8796093 * 2 ^ (-43 : ℤ), by positivity, ?_⟩
  simp [eps, Ideal.ofBits, Ideal.ieee, -EReal.coe_mul]

theorem half_eq : half = ((1 / 2 : ℝ) : EReal) := by
  simp [half, Ideal.ofBits, Ideal.ieee, -EReal.coe_mul]
  norm_num

theorem Fin'.mul {a b : EReal} (ha : Fin' a) (hb : Fin' b) : Fin' (a * b) := by
  obtain ⟨a, rfl⟩ := ha; obtain ⟨b, rfl⟩ := hb
  exact ⟨a * b, (EReal.coe_mul a b).symm⟩

theorem Fin'.add {a b : EReal} (ha : Fin' a) (hb : Fin' b) : Fin' (a + b) := by
  obtain ⟨a, rfl⟩ := ha; obtain ⟨b, rfl⟩ := hb
  exact ⟨a + b, (EReal.coe_add a b).symm⟩

theorem Fin'.zero : Fin' 0 := ⟨0, rfl⟩

theorem Fin'.sum {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- A sum of real numbers, taken among the extended reals. -/
theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg' (y : EReal) : 0 ≤ y * y := by
  induction y with
  | bot => simp
  | top => simp
  | coe r => exact_mod_cast mul_self_nonneg r

/-- A number whose absolute value lies below infinity is real. -/
theorem fin'_of_lt {y : EReal} (h : max y (-y) < ⊤) : Fin' y := by
  induction y with
  | bot => simp at h
  | top => simp at h
  | coe r => exact ⟨r, rfl⟩

/-- The normed row is real wherever its weights are, whatever the row holds: a row with an infinite entry has an infinite
    mean square, whose inverse root is zero. -/
theorem normed_fin (y w : Fin 1024 → EReal) (d : Fin 1024) (hw : Fin' (w d)) : Fin' (normed y w d) := by
  unfold normed
  refine Fin'.mul ?_ hw
  by_cases hy : ∀ e, Fin' (y e)
  · choose f hf using hy
    obtain ⟨r, hr, he⟩ := eps_eq
    have hs : (∑ x, y x * y x) = ((∑ x, f x * f x : ℝ) : EReal) := by
      rw [sum_coe]
      exact Finset.sum_congr rfl fun x _ => by rw [hf x, EReal.coe_mul]
    have h0 : 0 ≤ ∑ x, f x * f x := Finset.sum_nonneg fun x _ => mul_self_nonneg _
    rw [hs, width_eq, he, Ideal.div_coe (by norm_num), ← EReal.coe_mul, ← EReal.coe_add]
    have hp : 0 < (∑ x, f x * f x) * (1 / 1024) + r := by positivity
    rw [Ideal.rsqrt_coe, if_neg hp.le.not_gt, if_neg hp.ne', hf d]
    exact ⟨_, (EReal.coe_mul _ _).symm⟩
  · push Not at hy
    obtain ⟨e, he⟩ := hy
    have hsq : y e * y e = ⊤ := by
      generalize y e = z at he
      induction z with
      | bot => simp
      | top => simp
      | coe r => exact absurd ⟨r, rfl⟩ he
    have hs : (∑ x, y x * y x) = ⊤ :=
      top_le_iff.mp (hsq ▸ Finset.single_le_sum (f := fun x => y x * y x) (fun x _ => sq_nonneg' _) (Finset.mem_univ e))
    obtain ⟨r, hr, hr'⟩ := eps_eq
    rw [hs, width_eq, hr', Ideal.div_coe (by norm_num), EReal.top_mul_coe_of_pos (by norm_num), EReal.top_add_coe, Ideal.rsqrt_top, mul_zero]
    exact Fin'.zero

/-- A projected entry is real when the weights are. -/
theorem proj_fin (x nw w : Fin 1024 → EReal) (hn : ∀ e, Fin' (nw e)) (hw : ∀ e, Fin' (w e)) : Fin' (proj x nw w) :=
  Fin'.sum _ _ fun e _ => (normed_fin x nw e (hn e)).mul (hw e)

/-- The two spellings of SiLU agree on real numbers. -/
theorem siluH_half {z : EReal} (hz : Fin' z) : siluH (half * z) = silu z := by
  obtain ⟨z, rfl⟩ := hz
  have hE : (0 : ℝ) < 1 + Real.exp (-z) := by positivity
  have hd : Ideal.div 1 (1 + Ideal.exp (-(z : EReal))) = (((1 + Real.exp (-z))⁻¹ : ℝ) : EReal) :=
    Ideal.logistic_coe z
  unfold siluH silu
  rw [hd, half_eq, ← EReal.coe_mul, Ideal.tanh_coe, ← EReal.coe_mul, ← EReal.coe_add, ← EReal.coe_mul]
  congr 1
  have h1 : Real.exp (1 / 2 * z) ≠ 0 := (Real.exp_pos _).ne'
  have h2 : Real.exp (-z) = Real.exp (-(1 / 2 * z)) * Real.exp (-(1 / 2 * z)) := by rw [← Real.exp_add]; congr 1; ring
  rw [Real.tanh_eq_sinh_div_cosh, Real.sinh_eq, Real.cosh_eq]
  have h3 : Real.exp (1 / 2 * z) = (Real.exp (-(1 / 2 * z)))⁻¹ := by rw [← Real.exp_neg]; congr 1; ring
  rw [h2, h3]
  have hu := (Real.exp_pos (-(1 / 2 * z))).ne'
  have hu2 : 0 < Real.exp (-(1 / 2 * z)) := Real.exp_pos _
  generalize Real.exp (-(1 / 2 * z)) = u at hu hu2 ⊢
  have : 1 + u * u ≠ 0 := by positivity
  field_simp
  ring

end Cert.Proj

end
-- ==== Proof.ProjResult.lean ====
/-
  The five results of the input projection, index by index, as functions of the argument arrays: the queries and the values
  by blocks of 256 tokens with the tokens last, the values over a row of ones and fifteen rows of zeros, the keys, the output
  gate after SiLU, and the recurrence's columns after the causal convolution over four tokens and SiLU.
-/
module

public import proofs.«01_k».proof.Proof.ProjRows
public import Idealize.ShloMosaic.Lib.Pointwise

@[expose] public section

noncomputable section

namespace Cert.Proj

open Idealize.ShloMosaic Cert.Tail

variable (X : FVec Ideal ⟨3, ![16, 2048, 1024]⟩ .f32) (W : FVec Ideal ⟨3, ![1, 1024, 3600]⟩ .f32)
  (C : FVec Ideal ⟨3, ![1, 4, 1536]⟩ .f32) (N : FVec Ideal ⟨2, ![1, 1024]⟩ .f32)

/-- Token `s` of sequence `b`, projected on column `j`. -/
def entry (b : Fin 16) (s : Fin 2048) (j : Fin 3600) : EReal :=
  proj (fun e => X (ix3 b s e)) (fun e => N (ix2 0 e)) (fun e => W (ix3 0 e j))

/-- A result's index along one axis is below the axis's extent. -/
theorem lt_of_idx {n : Nat} {d : Fin n → Nat} (j : (⟨n, d⟩ : Shape).Idx) (a : Fin n) : (j a).val < d a := (j a).isLt

/-- The queries. -/
def queries : FVec Ideal ⟨4, ![16, 8, 512, 256]⟩ .f32 := fun j =>
  entry X W N (j 0) ⟨(j 1).val * 256 + (j 3).val, by have := lt_of_idx j 1; have := lt_of_idx j 3; simp at *; omega⟩
    ⟨(j 2).val, by have := lt_of_idx j 2; simp at *; omega⟩

/-- The keys. -/
def keys : FVec Ideal ⟨2, ![32768, 512]⟩ .bf16 := fun j =>
  entry X W N ⟨(j 0).val / 2048, by have := lt_of_idx j 0; simp at *; omega⟩ ⟨(j 0).val % 2048, by omega⟩
    ⟨512 + (j 1).val, by have := lt_of_idx j 1; simp at *; omega⟩

/-- One entry of the values of a head, over a row of ones and rows of zeros. -/
def valueAt (b : Fin 16) (q h : Fin 8) (z : Fin 80) (y : Fin 256) : EReal :=
  if hz : z.val < 64 then entry X W N b ⟨q.val * 256 + y.val, by omega⟩ ⟨1024 + h.val * 64 + z.val, by omega⟩
  else if z.val = 64 then 1 else 0

/-- The values. -/
def values : FVec Ideal ⟨5, ![16, 8, 8, 80, 256]⟩ .bf16 := fun j => valueAt X W N (j 0) (j 1) (j 2) (j 3) (j 4)

/-- The output gate. -/
def gate : FVec Ideal ⟨2, ![32768, 512]⟩ .f32 := fun j =>
  silu (entry X W N ⟨(j 0).val / 2048, by have := lt_of_idx j 0; simp at *; omega⟩ ⟨(j 0).val % 2048, by omega⟩
    ⟨3072 + (j 1).val, by have := lt_of_idx j 1; simp at *; omega⟩)

/-- The column `d` of the recurrence's part, `k` tokens before token `s`; zero before the sequence begins. -/
def before (b : Fin 16) (s : Fin 2048) (d : Fin 1536) (k : Nat) : EReal :=
  if k ≤ s.val then entry X W N b ⟨s.val - k, by omega⟩ ⟨1536 + d.val, by omega⟩ else 0

/-- The causal convolution at a token. -/
def conv (b : Fin 16) (s : Fin 2048) (d : Fin 1536) : EReal :=
  before X W N b s d 3 * C (ix3 0 0 d) + before X W N b s d 2 * C (ix3 0 1 d) + before X W N b s d 1 * C (ix3 0 2 d)
    + before X W N b s d 0 * C (ix3 0 3 d)

/-- The recurrence's columns. -/
def mixed : FVec Ideal ⟨2, ![32768, 1536]⟩ .f32 := fun j =>
  silu (conv X W C N ⟨(j 0).val / 2048, by have := lt_of_idx j 0; simp at *; omega⟩ ⟨(j 0).val % 2048, by omega⟩ (j 1))

/-- A projected entry is real when the weights are. -/
theorem entry_fin (hW : ∀ i, Fin' (W i)) (hN : ∀ i, Fin' (N i)) (b : Fin 16) (s : Fin 2048) (j : Fin 3600) :
    Fin' (entry X W N b s j) :=
  proj_fin _ _ _ (fun _ => hN _) fun _ => hW _

theorem before_fin (hW : ∀ i, Fin' (W i)) (hN : ∀ i, Fin' (N i)) (b : Fin 16) (s : Fin 2048) (d : Fin 1536) (k : Nat) :
    Fin' (before X W N b s d k) := by
  unfold before
  split
  · exact entry_fin X W N hW hN _ _ _
  · exact Fin'.zero

end Cert.Proj

end
-- ==== Proof.ProjRef.lean ====
/-
  What the reference of the input projection computes: each result, read at an index, is the result of Proof/ProjResult.lean.
  Its operations are grouped into the projection of every token, the convolution and SiLU.
-/
module

public import proofs.«01_k».proof.Proof.Gen.Reference3Ideal.Run
public import proofs.«01_k».proof.Proof.ProjResult

@[expose] public section

set_option maxRecDepth 16384

noncomputable section

namespace Cert.Proj.Ref

open Idealize.ShloMosaic Idealize.ShloMosaic.TcCoe Cert.Reference3Ideal Cert.Reference3Ideal.Gen Cert.Tail

/-- The reference's norm of every token's row. -/
def normA (y : FVec Ideal S16x2048x1024 .f32) (w : FVec Ideal S1x1024 .f32) : FVec Ideal S16x2048x1024 .f32 :=
  mulf (mulf y (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf y y) (constant S_ .f32 0x00000000#32)
      reducesTo_S16x2048x1024_S16x2048_d2 h_S_))
    (broadcastInDim S16x2048x1 ![] bcast_S_S16x2048x1 (constant S_ .f32 0x44800000#32)))
    (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 (shapeCast S1024 w shapeCasts_S1x1024_S1024)))

/-- The reference's projection of every token. -/
def dotA (X : FVec Ideal S16x2048x1024 .f32) (W : FVec Ideal S1x1024x3600 .f32) (N : FVec Ideal S1x1024 .f32) :
    FVec Ideal S16x2048x3600 .f32 :=
  Host.dotGeneral (F := Ideal) dot_S16x2048x1024_S1024x3600_S16x2048x3600_2_0_01_1_n_n none (normA X N)
    (shapeCast S1024x3600 W shapeCasts_S1x1024x3600_S1024x3600)

variable (X : FVec Ideal S16x2048x1024 .f32) (W : FVec Ideal S1x1024x3600 .f32) (C : FVec Ideal S1x4x1536 .f32)
  (N : FVec Ideal S1x1024 .f32)

theorem normA_apply (b : Fin 16) (s : Fin 2048) (d : Fin 1024) :
    normA X N (ix3 b s d) = normed (fun d => X (ix3 b s d)) (fun d => N (ix2 0 d)) d := by
  pointwise [normA]
  rfl

theorem dotA_apply (b : Fin 16) (s : Fin 2048) (j : Fin 3600) : dotA X W N (ix3 b s j) = entry X W N b s j := by
  pointwise [dotA]
  simp only [normA_apply]
  rfl

/-- The queries, their operations grouped. -/
theorem queries_eq : transpose S16x8x512x256 [0, 1, 3, 2] (shapeCast S16x8x256x512 (extractStridedSlice S16x2048x512 ![0, 0, 0]
    (dotA X W N) slices_S16x2048x3600_S16x2048x512_0_0_0) shapeCasts_S16x2048x512_S16x8x256x512)
    transposes_S16x8x256x512_S16x8x512x256_0_1_3_2 = queries X W N := by
  funext j
  obtain ⟨b, q, d, y, rfl⟩ : ∃ (b : Fin 16) (q : Fin 8) (d : Fin 512) (y : Fin 256), j = ix4 b q d y :=
    ⟨j 0, j 1, j 2, j 3, eq_ix4 j⟩
  pointwise
  rw [dotA_apply]
  rfl

/-- The keys. -/
theorem keys_eq : truncf (F := Ideal) .bf16 (shapeCast S32768x512 (extractStridedSlice S16x2048x512 ![0, 0, 512]
    (dotA X W N) slices_S16x2048x3600_S16x2048x512_0_0_512) shapeCasts_S16x2048x512_S32768x512 : FVec Ideal S32768x512 .f32)
    bitsLt_bf16_f32 = keys X W N := by
  funext j
  obtain ⟨i, d, rfl⟩ : ∃ (i : Fin 32768) (d : Fin 512), j = ix2 i d := ⟨j 0, j 1, eq_ix2 j⟩
  pointwise
  rw [dotA_apply]
  rfl

/-- The values. -/
theorem values_eq : truncf (F := Ideal) .bf16 (concatenate S16x8x8x80x256 3
      [⟨S16x8x8x64x256, transpose S16x8x8x64x256 [0, 1, 3, 4, 2] (shapeCast S16x8x256x8x64 (extractStridedSlice S16x2048x512 ![0, 0, 1024]
        (dotA X W N) slices_S16x2048x3600_S16x2048x512_0_0_1024) shapeCasts_S16x2048x512_S16x8x256x8x64)
        transposes_S16x8x256x8x64_S16x8x8x64x256_0_1_3_4_2⟩,
       ⟨S16x8x8x1x256, broadcastInDim S16x8x8x1x256 ![] bcast_S_S16x8x8x1x256 (constant (F := Ideal) S_ .f32 0x3F800000#32)⟩,
       ⟨S16x8x8x15x256, broadcastInDim S16x8x8x15x256 ![] bcast_S_S16x8x8x15x256 (constant (F := Ideal) S_ .f32 0x00000000#32)⟩]
      concatenates_S16x8x8x64x256_S16x8x8x1x256_S16x8x8x15x256_S16x8x8x80x256_d3 : FVec Ideal S16x8x8x80x256 .f32) bitsLt_bf16_f32
      = values X W N := by
  funext j
  obtain ⟨b, q, h, z, y, rfl⟩ : ∃ (b : Fin 16) (q h : Fin 8) (z : Fin 80) (y : Fin 256), j = ix5 b q h z y :=
    ⟨j 0, j 1, j 2, j 3, j 4, eq_ix5 j⟩
  pointwise
  show _ = valueAt X W N b q h z y
  unfold valueAt
  split
  · exact (dotA_apply X W N _ _ _).trans (congrArg (entry X W N b _) (Fin.ext (by show 1024 + (h.val * 64 + z.val) = 1024 + h.val * 64 + z.val; omega)))
  · rename_i hz
    by_cases h1 : z.val = 64
    · rw [if_pos h1]
      split
      · rfl
      · omega
    · rw [if_neg h1]
      split
      · omega
      · rfl

/-- The output gate. -/
def siluA (z : FVec Ideal S16x2048x512 .f32) : FVec Ideal S16x2048x512 .f32 :=
  mulf z (Host.divf (broadcastInDim S16x2048x512 ![] bcast_S_S16x2048x512 (constant S_ .f32 0x3F800000#32))
    (addf (broadcastInDim S16x2048x512 ![] bcast_S_S16x2048x512 (constant S_ .f32 0x3F800000#32)) (Host.exp (Host.negf z))))

theorem gate_eq : shapeCast S32768x512 (siluA (extractStridedSlice S16x2048x512 ![0, 0, 3072] (dotA X W N)
    slices_S16x2048x3600_S16x2048x512_0_0_3072)) shapeCasts_S16x2048x512_S32768x512 = gate X W N := by
  funext j
  obtain ⟨i, d, rfl⟩ : ∃ (i : Fin 32768) (d : Fin 512), j = ix2 i d := ⟨j 0, j 1, eq_ix2 j⟩
  pointwise [siluA]
  rw [dotA_apply]
  rfl

/-! ## The causal convolution -/

/-- The recurrence's columns with three tokens of zeros before each sequence. -/
def padA (p : FVec Ideal S16x2048x3600 .f32) : FVec Ideal S16x2051x1536 .f32 :=
  pad S16x2051x1536 ![0, 3, 0] ![0, 0, 0] ![0, 0, 0] (extractStridedSlice S16x2048x1536 ![0, 0, 1536] p
    slices_S16x2048x3600_S16x2048x1536_0_0_1536) (sitofp .f32 (constantI S_ 32 0#32)) pads_S16x2048x1536_S16x2051x1536_000_300_000 h_S_

/-- A row of convolution weights, for every token. -/
def tapA (w : FVec Ideal S1x1536 .f32) : FVec Ideal S16x2048x1536 .f32 :=
  broadcastInDim S16x2048x1536 ![0, 1, 2] bcast_S1x1x1536_S16x2048x1536_0_1_2
    (broadcastInDim S1x1x1536 ![2] bcast_S1536_S1x1x1536_2 (shapeCast S1536 w shapeCasts_S1x1536_S1536))

/-- The convolution as four shifted products, added up from zero. -/
def convA (q : FVec Ideal S16x2051x1536 .f32) (w : FVec Ideal S4x1536 .f32) : FVec Ideal S16x2048x1536 .f32 :=
  addf (addf (addf (addf (broadcastInDim S16x2048x1536 ![] bcast_S_S16x2048x1536 (constant S_ .f32 0x00000000#32))
    (mulf (extractStridedSlice S16x2048x1536 ![0, 0, 0] q slices_S16x2051x1536_S16x2048x1536_0_0_0)
      (tapA (extractStridedSlice S1x1536 ![0, 0] w slices_S4x1536_S1x1536_0_0))))
    (mulf (extractStridedSlice S16x2048x1536 ![0, 1, 0] q slices_S16x2051x1536_S16x2048x1536_0_1_0)
      (tapA (extractStridedSlice S1x1536 ![1, 0] w slices_S4x1536_S1x1536_1_0))))
    (mulf (extractStridedSlice S16x2048x1536 ![0, 2, 0] q slices_S16x2051x1536_S16x2048x1536_0_2_0)
      (tapA (extractStridedSlice S1x1536 ![2, 0] w slices_S4x1536_S1x1536_2_0))))
    (mulf (extractStridedSlice S16x2048x1536 ![0, 3, 0] q slices_S16x2051x1536_S16x2048x1536_0_3_0)
      (tapA (extractStridedSlice S1x1536 ![3, 0] w slices_S4x1536_S1x1536_3_0)))

/-- SiLU of the recurrence's columns. -/
def siluB (z : FVec Ideal S16x2048x1536 .f32) : FVec Ideal S16x2048x1536 .f32 :=
  mulf z (Host.divf (broadcastInDim S16x2048x1536 ![] bcast_S_S16x2048x1536 (constant S_ .f32 0x3F800000#32))
    (addf (broadcastInDim S16x2048x1536 ![] bcast_S_S16x2048x1536 (constant S_ .f32 0x3F800000#32)) (Host.exp (Host.negf z))))

theorem padA_apply (b : Fin 16) (s : Fin 2048) (d : Fin 1536) (k : Nat) (hk : k ≤ 3) (u : Fin 2051) (hu : u.val + k = s.val + 3) :
    padA (dotA X W N) (ix3 b u d) = before X W N b s d k := by
  pointwise [padA]
  unfold before
  split
  · rename_i h
    rw [if_pos (by omega)]
    exact (dotA_apply X W N _ _ _).trans (congrArg (fun s => entry X W N b s _) (Fin.ext (by show u.val - 3 = s.val - k; omega)))
  · rename_i h
    rw [if_neg (by omega)]
    show ((BitVec.toInt 0#32 : ℝ) : EReal) = 0
    simp

theorem tapA_apply (w : FVec Ideal S1x1536 .f32) (b : Fin 16) (s : Fin 2048) (d : Fin 1536) : tapA w (ix3 b s d) = w (ix2 0 d) := by
  pointwise [tapA]

theorem convA_apply (b : Fin 16) (s : Fin 2048) (d : Fin 1536) :
    convA (padA (dotA X W N)) (shapeCast S4x1536 C shapeCasts_S1x4x1536_S4x1536) (ix3 b s d) = conv X W C N b s d := by
  pointwise [convA]
  simp only [tapA_apply]
  pointwise
  rw [padA_apply X W N b s d 3 (by omega) _ rfl, padA_apply X W N b s d 2 (by omega) _ (by show 1 + s.val + 2 = _; omega),
    padA_apply X W N b s d 1 (by omega) _ (by show 2 + s.val + 1 = _; omega),
    padA_apply X W N b s d 0 (by omega) _ (by show 3 + s.val + 0 = _; omega)]
  rfl

theorem mixed_eq : shapeCast S32768x1536 (siluB (convA (padA (dotA X W N)) (shapeCast S4x1536 C shapeCasts_S1x4x1536_S4x1536)))
    shapeCasts_S16x2048x1536_S32768x1536 = mixed X W C N := by
  funext j
  obtain ⟨i, d, rfl⟩ : ∃ (i : Fin 32768) (d : Fin 1536), j = ix2 i d := ⟨j 0, j 1, eq_ix2 j⟩
  pointwise [siluB]
  rw [convA_apply]
  rfl

variable (m : (ℓ : Loc nD τ sig) → Buf (Elt Ideal) ℓ)

/-- The reference's result of the convolution, its operations grouped. -/
theorem res_mixed (c : Dev nD) : Cert.Reference3Ideal.Value.res_out4 m c
    = mixed (m ((c : Thread nD τ).loc main_arg0)) (m ((c : Thread nD τ).loc main_arg1)) (m ((c : Thread nD τ).loc main_arg2))
        (m ((c : Thread nD τ).loc main_arg5)) :=
  Eq.trans rfl (mixed_eq _ _ _ _)

end Cert.Proj.Ref

end
-- ==== Proof.ProjOut.lean ====
/-
  What the body leaves in the output buffers of the queries, the keys, the values and the gate, at a grid point: each an
  operation of the body on the point's input blocks. The queries are stored as two halves of 256 tokens, the values as
  sixteen heads' blocks of 64 rows, each with a block of sixteen rows (ones, then zeros) below it.
-/
module

public import proofs.«01_k».proof.Proof.Gen.Kernel3Ideal.Value
public import Idealize.ShloMosaic.Lib.Pipeline.ValueKit
public import Idealize.ShloMosaic.Lib.Pointwise

@[expose] public section

set_option maxRecDepth 16384
set_option maxHeartbeats 4000000

noncomputable section

namespace Cert.Proj.Out

open Idealize.ShloMosaic Idealize.ShloMosaic.TcCoe Cert.Kernel3Ideal Cert.Kernel3Ideal.Gen

variable (m : (ℓ : Loc nD τ sig) → Buf (Elt Ideal) ℓ) (c : Dev nD) (t : Fin cfg0.N)

/-- The point's normed rows. -/
abbrev rows : FVec Ideal S512x1024 .bf16 := k0_pay2 (iblk m c 0 t) (iblk m c 2 t)

theorem at2 {a b : Nat} {α : Type} (f : (⟨2, ![a, b]⟩ : Shape).Idx → α) (r r' : Fin a) (d d' : Fin b) (hr : r.val = r'.val)
    (hd : d.val = d'.val) : f (ix2 r d) = f (ix2 r' d') := by
  rw [Fin.ext hr, Fin.ext hd]

theorem select_zero (r : Fin 16) : (Scalar.select (IntOp.cmpi CmpIPredicate.eq (BitVec.ofNat 32 r.val) 0#32) 1 0 : EReal) = if r.val = 0 then 1 else 0 := by
  fin_cases r <;> rfl

theorem out17 : out0_A_17 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
    = k0_pay3 (iblk m c 0 t) (iblk m c 2 t) (iblk m c 7 t) := by
  frame_out

theorem out13 : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
    = k0_pay10 (rows m c t) (iblk m c 4 t) := by
  frame_out

theorem out12 (u : Fin 2) (d : Fin 512) (y : Fin 256) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
      (ix4 0 u d y) = k0_pay14 (rows m c t) (iblk m c 3 t) (ix2 d ⟨256 * u.val + y.val, by omega⟩) := by
  frame_out
  canon_tiles x h
  all_goals
    obtain ⟨x0, x1, x2, x3, rfl⟩ : ∃ x0 x1 x2 x3, x = ix4 x0 x1 x2 x3 := ⟨_, _, _, _, eq_ix4 x⟩
    have q1 : ((ix4 0 u d y : S1x2x512x256.Idx) 1).val = u.val := rfl
    have q2 : ((ix4 0 u d y : S1x2x512x256.Idx) 2).val = d.val := rfl
    have q3 : ((ix4 0 u d y : S1x2x512x256.Idx) 3).val = y.val := rfl
    have p1 : ((ix4 x0 x1 x2 x3 : S1x1x512x256.Idx) 1).val = x1.val := rfl
    have p2 : ((ix4 x0 x1 x2 x3 : S1x1x512x256.Idx) 2).val = x2.val := rfl
    have p3 : ((ix4 x0 x1 x2 x3 : S1x1x512x256.Idx) 3).val = x3.val := rfl
    pointwise [k0_pay34, k0_pay17]
    refine at2 _ _ _ _ _ ?_ ?_
    · omega
    · simp only
      omega

theorem out15 (u : Fin 2) (h : Fin 8) (z : Fin 80) (y : Fin 256) : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
      (ix5 0 u h z y)
    = if hz : z.val < 64 then k0_pay15 (rows m c t) (iblk m c 5 t) (ix2 ⟨64 * h.val + z.val, by omega⟩ ⟨256 * u.val + y.val, by omega⟩)
      else if z.val = 64 then 1 else 0 := by
  frame_out
  canon_tiles x h using View.cover_of_tiledBy _ ![1, 1, 1, 16, 256] (by sl_kernel_rfl) _
  all_goals
    have q1 : ((ix5 0 u h z y : S1x2x8x80x256.Idx) 1).val = u.val := rfl
    have q2 : ((ix5 0 u h z y : S1x2x8x80x256.Idx) 2).val = h.val := rfl
    have q3 : ((ix5 0 u h z y : S1x2x8x80x256.Idx) 3).val = z.val := rfl
    have q4 : ((ix5 0 u h z y : S1x2x8x80x256.Idx) 4).val = y.val := rfl
    obtain ⟨x0, x1, x2, x3, x4, rfl⟩ : ∃ x0 x1 x2 x3 x4, x = ix5 x0 x1 x2 x3 x4 := ⟨_, _, _, _, _, eq_ix5 x⟩
    first
    | have p3 : ((ix5 x0 x1 x2 x3 x4 : S1x1x1x16x256.Idx) 3).val = x3.val := rfl
      have p4 : ((ix5 x0 x1 x2 x3 x4 : S1x1x1x16x256.Idx) 4).val = x4.val := rfl
      rw [dif_neg (by omega)]
      pointwise [k0_pay50, k0_pay48, k0_pay46, k0_pay43, k0_pay41, k0_pay39, k0_pay36, k0_pay33, k0_pay31, k0_pay29, k0_pay27, k0_pay25,
        k0_pay23, k0_pay21, k0_pay19, k0_pay16]
      rw [select_zero x3]
      by_cases hx : x3.val = 0
      · rw [if_pos hx, if_pos (by omega)]
      · rw [if_neg hx, if_neg (by omega)]
    | have p3 : ((ix5 x0 x1 x2 x3 x4 : S1x1x1x64x256.Idx) 3).val = x3.val := rfl
      have p4 : ((ix5 x0 x1 x2 x3 x4 : S1x1x1x64x256.Idx) 4).val = x4.val := rfl
      rw [dif_pos (by omega)]
      pointwise [k0_pay51, k0_pay49, k0_pay47, k0_pay45, k0_pay44, k0_pay42, k0_pay40, k0_pay38, k0_pay37, k0_pay35, k0_pay32, k0_pay30,
        k0_pay28, k0_pay26, k0_pay24, k0_pay22, k0_pay20, k0_pay18]
      refine at2 _ _ _ _ _ ?_ ?_
      · simp only
        omega
      · simp only
        omega

end Cert.Proj.Out

end
-- ==== Proof.ProjEntry.lean ====
/-
  The operand arrays of the input projection's call as the host code before it leaves them, and its operand blocks, read at
  an index of the argument arrays; and where the blocks of the results lie.
-/
module

public import proofs.«01_k».proof.Proof.Gen.Kernel3Ideal.Frame.Runs
public import proofs.«01_k».proof.Proof.ProjResult
public import Idealize.ShloMosaic.Lib.Pipeline.ValueKit

@[expose] public section

set_option maxRecDepth 16384

noncomputable section

namespace Cert.Proj.Entry

open Idealize.ShloMosaic Idealize.ShloMosaic.TcCoe Cert.Kernel3Ideal Cert.Kernel3Ideal.Gen

variable (m : (ℓ : Loc nD τ sig) → Buf (Elt Ideal) ℓ) (c : Dev nD)

/-- The argument arrays. -/
abbrev argX : FVec Ideal S16x2048x1024 .f32 := m ((c : Thread nD τ).loc main_arg0)
abbrev argW : FVec Ideal S1x1024x3600 .f32 := m ((c : Thread nD τ).loc main_arg1)
abbrev argC : FVec Ideal S1x4x1536 .f32 := m ((c : Thread nD τ).loc main_arg2)
abbrev argN : FVec Ideal S1x1024 .f32 := m ((c : Thread nD τ).loc main_arg5)

/-! ## The operand arrays -/

/-- The projection matrix without its layer axis. -/
abbrev mat : FVec Ideal S1024x3600 .f32 := shapeCast S1024x3600 (argW m c) shapeCasts_S1x1024x3600_S1024x3600

theorem V0 : V m c main_v0 = shapeCast S32768x1024 (argX m c) shapeCasts_S16x2048x1024_S32768x1024 := rfl
theorem V18 : V m c main_v18 = broadcastInDim S1x1024 ![1] bcast_S1024_S1x1024_1 (shapeCast S1024 (argN m c) shapeCasts_S1x1024_S1024) := rfl
theorem V4 : V m c main_v4 = truncf (F := Ideal) .bf16 (transpose S512x1024 [1, 0] (extractStridedSlice S1024x512 ![0, 0] (mat m c) slices_S1024x3600_S1024x512_0_0)
      transposes_S1024x512_S512x1024_1_0 : FVec Ideal S512x1024 .f32) bitsLt_bf16_f32 := rfl
theorem V6 : V m c main_v6 = truncf (F := Ideal) .bf16 (extractStridedSlice S1024x512 ![0, 512] (mat m c) slices_S1024x3600_S1024x512_0_512 : FVec Ideal S1024x512 .f32)
      bitsLt_bf16_f32 := rfl
theorem V9 : V m c main_v9 = truncf (F := Ideal) .bf16 (transpose S512x1024 [1, 0] (extractStridedSlice S1024x512 ![0, 1024] (mat m c) slices_S1024x3600_S1024x512_0_1024)
      transposes_S1024x512_S512x1024_1_0 : FVec Ideal S512x1024 .f32) bitsLt_bf16_f32 := rfl
theorem V11 : V m c main_v11 = truncf (F := Ideal) .bf16 (extractStridedSlice S1024x1536 ![0, 1536] (mat m c) slices_S1024x3600_S1024x1536_0_1536 : FVec Ideal S1024x1536 .f32)
      bitsLt_bf16_f32 := rfl
theorem V13 : V m c main_v13 = truncf (F := Ideal) .bf16 (extractStridedSlice S1024x512 ![0, 3072] (mat m c) slices_S1024x3600_S1024x512_0_3072 : FVec Ideal S1024x512 .f32)
      bitsLt_bf16_f32 := rfl
theorem V19 : V m c main_v19 = shapeCast S4x1536 (argC m c) shapeCasts_S1x4x1536_S4x1536 := rfl

/-! ## Where the blocks lie -/

theorem idx2 : ∀ t : Fin cfg0.N, win0_2.index t = ![0, 0] :=
  (by decide +kernel : ∀ t : Fin grid0.N, win0_2.index t = _)
theorem idx3 : ∀ t : Fin cfg0.N, win0_3.index t = ![0, 0] :=
  (by decide +kernel : ∀ t : Fin grid0.N, win0_3.index t = _)
theorem idx4 : ∀ t : Fin cfg0.N, win0_4.index t = ![0, 0] :=
  (by decide +kernel : ∀ t : Fin grid0.N, win0_4.index t = _)
theorem idx5 : ∀ t : Fin cfg0.N, win0_5.index t = ![0, 0] :=
  (by decide +kernel : ∀ t : Fin grid0.N, win0_5.index t = _)
theorem idx6 : ∀ t : Fin cfg0.N, win0_6.index t = ![0, 0] :=
  (by decide +kernel : ∀ t : Fin grid0.N, win0_6.index t = _)
theorem idx7 : ∀ t : Fin cfg0.N, win0_7.index t = ![0, 0] :=
  (by decide +kernel : ∀ t : Fin grid0.N, win0_7.index t = _)
theorem idx9 : ∀ t : Fin cfg0.N, win0_9.index t = ![0, 0] :=
  (by decide +kernel : ∀ t : Fin grid0.N, win0_9.index t = _)
theorem idx0 : ∀ t : Fin cfg0.N, win0_0.index t = ![t.val, 0] :=
  (by decide +kernel : ∀ t : Fin grid0.N, win0_0.index t = _)
theorem idx13 : ∀ t : Fin cfg0.N, win0_13.index t = ![t.val, 0] :=
  (by decide +kernel : ∀ t : Fin grid0.N, win0_13.index t = _)
theorem idx16 : ∀ t : Fin cfg0.N, win0_16.index t = ![t.val, 0] :=
  (by decide +kernel : ∀ t : Fin grid0.N, win0_16.index t = _)
theorem idx17 : ∀ t : Fin cfg0.N, win0_17.index t = ![t.val, 0] :=
  (by decide +kernel : ∀ t : Fin grid0.N, win0_17.index t = _)
theorem idx1 : ∀ t : Fin cfg0.N, win0_1.index t = ![64 * t.val - 1, 0] :=
  (by decide +kernel : ∀ t : Fin grid0.N, win0_1.index t = _)
theorem idx12 : ∀ t : Fin cfg0.N, win0_12.index t = ![t.val / 4, t.val % 4, 0, 0] :=
  (by decide +kernel : ∀ t : Fin grid0.N, win0_12.index t = _)
theorem idx15 : ∀ t : Fin cfg0.N, win0_15.index t = ![t.val / 4, t.val % 4, 0, 0, 0] :=
  (by decide +kernel : ∀ t : Fin grid0.N, win0_15.index t = _)

/-! ## The operand blocks -/

variable (t : Fin cfg0.N)

theorem emb0 (r : Fin 512) (d : Fin 1024) (i : Fin 32768) (hi : i.val = t.val * 512 + r.val) : ((cfg0.win 0).blk t).view.emb (ix2 r d) = ix2 i d :=
  funext fun a => Fin.ext (match a with
    | ⟨0, _⟩ => (Pipeline.Window.rect_emb_val win0_0 t (ix2 r d) 0 rfl).trans (by
        rw [idx0]; show t.val * 512 + r.val = i.val; omega)
    | ⟨1, _⟩ => (Pipeline.Window.rect_emb_val win0_0 t (ix2 r d) 1 rfl).trans (by
        rw [idx0]; show 0 * 1024 + d.val = d.val; omega))

theorem emb1 (r : Fin 8) (d : Fin 1024) (i : Fin 32768) (hi : i.val = (64 * t.val - 1) * 8 + r.val) : ((cfg0.win 1).blk t).view.emb (ix2 r d) = ix2 i d :=
  funext fun a => Fin.ext (match a with
    | ⟨0, _⟩ => (Pipeline.Window.rect_emb_val win0_1 t (ix2 r d) 0 rfl).trans (by
        rw [idx1]; show (64 * t.val - 1) * 8 + r.val = i.val; omega)
    | ⟨1, _⟩ => (Pipeline.Window.rect_emb_val win0_1 t (ix2 r d) 1 rfl).trans (by
        rw [idx1]; show 0 * 1024 + d.val = d.val; omega))

theorem emb2 (r : Fin 1) (d : Fin 1024) : ((cfg0.win 2).blk t).view.emb (ix2 r d) = ix2 r d :=
  funext fun a => Fin.ext (match a with
    | ⟨0, _⟩ => (Pipeline.Window.rect_emb_val win0_2 t (ix2 r d) 0 rfl).trans (by
        rw [idx2]; show 0 * 1 + r.val = r.val; omega)
    | ⟨1, _⟩ => (Pipeline.Window.rect_emb_val win0_2 t (ix2 r d) 1 rfl).trans (by
        rw [idx2]; show 0 * 1024 + d.val = d.val; omega))

theorem emb3 (r : Fin 512) (d : Fin 1024) : ((cfg0.win 3).blk t).view.emb (ix2 r d) = ix2 r d :=
  funext fun a => Fin.ext (match a with
    | ⟨0, _⟩ => (Pipeline.Window.rect_emb_val win0_3 t (ix2 r d) 0 rfl).trans (by
        rw [idx3]; show 0 * 512 + r.val = r.val; omega)
    | ⟨1, _⟩ => (Pipeline.Window.rect_emb_val win0_3 t (ix2 r d) 1 rfl).trans (by
        rw [idx3]; show 0 * 1024 + d.val = d.val; omega))

theorem emb4 (r : Fin 1024) (d : Fin 512) : ((cfg0.win 4).blk t).view.emb (ix2 r d) = ix2 r d :=
  funext fun a => Fin.ext (match a with
    | ⟨0, _⟩ => (Pipeline.Window.rect_emb_val win0_4 t (ix2 r d) 0 rfl).trans (by
        rw [idx4]; show 0 * 1024 + r.val = r.val; omega)
    | ⟨1, _⟩ => (Pipeline.Window.rect_emb_val win0_4 t (ix2 r d) 1 rfl).trans (by
        rw [idx4]; show 0 * 512 + d.val = d.val; omega))

theorem emb5 (r : Fin 512) (d : Fin 1024) : ((cfg0.win 5).blk t).view.emb (ix2 r d) = ix2 r d :=
  funext fun a => Fin.ext (match a with
    | ⟨0, _⟩ => (Pipeline.Window.rect_emb_val win0_5 t (ix2 r d) 0 rfl).trans (by
        rw [idx5]; show 0 * 512 + r.val = r.val; omega)
    | ⟨1, _⟩ => (Pipeline.Window.rect_emb_val win0_5 t (ix2 r d) 1 rfl).trans (by
        rw [idx5]; show 0 * 1024 + d.val = d.val; omega))

theorem emb6 (r : Fin 1024) (d : Fin 1536) : ((cfg0.win 6).blk t).view.emb (ix2 r d) = ix2 r d :=
  funext fun a => Fin.ext (match a with
    | ⟨0, _⟩ => (Pipeline.Window.rect_emb_val win0_6 t (ix2 r d) 0 rfl).trans (by
        rw [idx6]; show 0 * 1024 + r.val = r.val; omega)
    | ⟨1, _⟩ => (Pipeline.Window.rect_emb_val win0_6 t (ix2 r d) 1 rfl).trans (by
        rw [idx6]; show 0 * 1536 + d.val = d.val; omega))

theorem emb7 (r : Fin 1024) (d : Fin 512) : ((cfg0.win 7).blk t).view.emb (ix2 r d) = ix2 r d :=
  funext fun a => Fin.ext (match a with
    | ⟨0, _⟩ => (Pipeline.Window.rect_emb_val win0_7 t (ix2 r d) 0 rfl).trans (by
        rw [idx7]; show 0 * 1024 + r.val = r.val; omega)
    | ⟨1, _⟩ => (Pipeline.Window.rect_emb_val win0_7 t (ix2 r d) 1 rfl).trans (by
        rw [idx7]; show 0 * 512 + d.val = d.val; omega))

theorem emb9 (r : Fin 4) (d : Fin 1536) : ((cfg0.win 9).blk t).view.emb (ix2 r d) = ix2 r d :=
  funext fun a => Fin.ext (match a with
    | ⟨0, _⟩ => (Pipeline.Window.rect_emb_val win0_9 t (ix2 r d) 0 rfl).trans (by
        rw [idx9]; show 0 * 4 + r.val = r.val; omega)
    | ⟨1, _⟩ => (Pipeline.Window.rect_emb_val win0_9 t (ix2 r d) 1 rfl).trans (by
        rw [idx9]; show 0 * 1536 + d.val = d.val; omega))

theorem emb13 (r : Fin 512) (d : Fin 512) (i : Fin 32768) (hi : i.val = t.val * 512 + r.val) : ((cfg0.win 13).blk t).view.emb (ix2 r d) = ix2 i d :=
  funext fun a => Fin.ext (match a with
    | ⟨0, _⟩ => (Pipeline.Window.rect_emb_val win0_13 t (ix2 r d) 0 rfl).trans (by
        rw [idx13]; show t.val * 512 + r.val = i.val; omega)
    | ⟨1, _⟩ => (Pipeline.Window.rect_emb_val win0_13 t (ix2 r d) 1 rfl).trans (by
        rw [idx13]; show 0 * 512 + d.val = d.val; omega))

theorem emb16 (r : Fin 512) (d : Fin 1536) (i : Fin 32768) (hi : i.val = t.val * 512 + r.val) : ((cfg0.win 16).blk t).view.emb (ix2 r d) = ix2 i d :=
  funext fun a => Fin.ext (match a with
    | ⟨0, _⟩ => (Pipeline.Window.rect_emb_val win0_16 t (ix2 r d) 0 rfl).trans (by
        rw [idx16]; show t.val * 512 + r.val = i.val; omega)
    | ⟨1, _⟩ => (Pipeline.Window.rect_emb_val win0_16 t (ix2 r d) 1 rfl).trans (by
        rw [idx16]; show 0 * 1536 + d.val = d.val; omega))

theorem emb17 (r : Fin 512) (d : Fin 512) (i : Fin 32768) (hi : i.val = t.val * 512 + r.val) : ((cfg0.win 17).blk t).view.emb (ix2 r d) = ix2 i d :=
  funext fun a => Fin.ext (match a with
    | ⟨0, _⟩ => (Pipeline.Window.rect_emb_val win0_17 t (ix2 r d) 0 rfl).trans (by
        rw [idx17]; show t.val * 512 + r.val = i.val; omega)
    | ⟨1, _⟩ => (Pipeline.Window.rect_emb_val win0_17 t (ix2 r d) 1 rfl).trans (by
        rw [idx17]; show 0 * 512 + d.val = d.val; omega))

theorem emb12 (u : Fin 2) (d : Fin 512) (y : Fin 256) (b : Fin 16) (q : Fin 8) (hb : b.val = t.val / 4) (hq : q.val = t.val % 4 * 2 + u.val) :
    ((cfg0.win 12).blk t).view.emb (ix4 0 u d y) = ix4 b q d y :=
  funext fun a => Fin.ext (match a with
    | ⟨0, _⟩ => (Pipeline.Window.rect_emb_val win0_12 t (ix4 0 u d y) 0 rfl).trans (by
        rw [idx12]; show t.val / 4 * 1 + 0 = b.val; omega)
    | ⟨1, _⟩ => (Pipeline.Window.rect_emb_val win0_12 t (ix4 0 u d y) 1 rfl).trans (by
        rw [idx12]; show t.val % 4 * 2 + u.val = q.val; omega)
    | ⟨2, _⟩ => (Pipeline.Window.rect_emb_val win0_12 t (ix4 0 u d y) 2 rfl).trans (by
        rw [idx12]; show 0 * 512 + d.val = d.val; omega)
    | ⟨3, _⟩ => (Pipeline.Window.rect_emb_val win0_12 t (ix4 0 u d y) 3 rfl).trans (by
        rw [idx12]; show 0 * 256 + y.val = y.val; omega))

theorem emb15 (u : Fin 2) (h : Fin 8) (z : Fin 80) (y : Fin 256) (b : Fin 16) (q : Fin 8) (hb : b.val = t.val / 4)
    (hq : q.val = t.val % 4 * 2 + u.val) : ((cfg0.win 15).blk t).view.emb (ix5 0 u h z y) = ix5 b q h z y :=
  funext fun a => Fin.ext (match a with
    | ⟨0, _⟩ => (Pipeline.Window.rect_emb_val win0_15 t (ix5 0 u h z y) 0 rfl).trans (by
        rw [idx15]; show t.val / 4 * 1 + 0 = b.val; omega)
    | ⟨1, _⟩ => (Pipeline.Window.rect_emb_val win0_15 t (ix5 0 u h z y) 1 rfl).trans (by
        rw [idx15]; show t.val % 4 * 2 + u.val = q.val; omega)
    | ⟨2, _⟩ => (Pipeline.Window.rect_emb_val win0_15 t (ix5 0 u h z y) 2 rfl).trans (by
        rw [idx15]; show 0 * 8 + h.val = h.val; omega)
    | ⟨3, _⟩ => (Pipeline.Window.rect_emb_val win0_15 t (ix5 0 u h z y) 3 rfl).trans (by
        rw [idx15]; show 0 * 80 + z.val = z.val; omega)
    | ⟨4, _⟩ => (Pipeline.Window.rect_emb_val win0_15 t (ix5 0 u h z y) 4 rfl).trans (by
        rw [idx15]; show 0 * 256 + y.val = y.val; omega))

theorem b0 (r : Fin 512) (d : Fin 1024) (i : Fin 32768) (hi : i.val = t.val * 512 + r.val) : iblk m c 0 t (ix2 r d) = argX m c (ix3 ⟨i.val / 2048, by omega⟩ ⟨i.val % 2048, by omega⟩ d) := by
  show V m c main_v0 (((cfg0.win 0).blk t).view.emb (ix2 r d)) = _
  rw [emb0 t r d i hi, V0]
  pointwise

theorem b1 (r : Fin 8) (d : Fin 1024) (i : Fin 32768) (hi : i.val = (64 * t.val - 1) * 8 + r.val) : iblk m c 1 t (ix2 r d) = argX m c (ix3 ⟨i.val / 2048, by omega⟩ ⟨i.val % 2048, by omega⟩ d) := by
  show V m c main_v0 (((cfg0.win 1).blk t).view.emb (ix2 r d)) = _
  rw [emb1 t r d i hi, V0]
  pointwise

theorem b2 (d : Fin 1024) : iblk m c 2 t (ix2 0 d) = argN m c (ix2 0 d) := by
  show V m c main_v18 (((cfg0.win 2).blk t).view.emb (ix2 0 d)) = _
  rw [emb2 t 0 d, V18]
  pointwise

theorem b3 (r : Fin 512) (d : Fin 1024) : iblk m c 3 t (ix2 r d) = argW m c (ix3 0 d ⟨r.val, by omega⟩) := by
  show V m c main_v4 (((cfg0.win 3).blk t).view.emb (ix2 r d)) = _
  rw [emb3 t r d, V4]
  pointwise

theorem b4 (r : Fin 1024) (d : Fin 512) : iblk m c 4 t (ix2 r d) = argW m c (ix3 0 r ⟨512 + d.val, by omega⟩) := by
  show V m c main_v6 (((cfg0.win 4).blk t).view.emb (ix2 r d)) = _
  rw [emb4 t r d, V6]
  pointwise

theorem b5 (r : Fin 512) (d : Fin 1024) : iblk m c 5 t (ix2 r d) = argW m c (ix3 0 d ⟨1024 + r.val, by omega⟩) := by
  show V m c main_v9 (((cfg0.win 5).blk t).view.emb (ix2 r d)) = _
  rw [emb5 t r d, V9]
  pointwise

theorem b6 (r : Fin 1024) (d : Fin 1536) : iblk m c 6 t (ix2 r d) = argW m c (ix3 0 r ⟨1536 + d.val, by omega⟩) := by
  show V m c main_v11 (((cfg0.win 6).blk t).view.emb (ix2 r d)) = _
  rw [emb6 t r d, V11]
  pointwise

theorem b7 (r : Fin 1024) (d : Fin 512) : iblk m c 7 t (ix2 r d) = argW m c (ix3 0 r ⟨3072 + d.val, by omega⟩) := by
  show V m c main_v13 (((cfg0.win 7).blk t).view.emb (ix2 r d)) = _
  rw [emb7 t r d, V13]
  pointwise

theorem b9 (r : Fin 4) (d : Fin 1536) : iblk m c 9 t (ix2 r d) = argC m c (ix3 0 r d) := by
  show V m c main_v19 (((cfg0.win 9).blk t).view.emb (ix2 r d)) = _
  rw [emb9 t r d, V19]
  pointwise

end Cert.Proj.Entry

end
-- ==== Proof.ProjBlock.lean ====
/-
  What the input projection's kernel computes for one block of 512 tokens, operation group by operation group, read at an
  index: the normed rows, their products with the columns of the projection matrix (queries and values transposed), and the
  output gate's SiLU.
-/
module

public import proofs.«01_k».proof.Proof.Gen.Kernel3Ideal.Skeleton
public import proofs.«01_k».proof.Proof.ProjRows
public import Idealize.ShloMosaic.Lib.Pointwise

@[expose] public section

set_option maxRecDepth 16384

noncomputable section

namespace Cert.Proj.Block

open Idealize.ShloMosaic Cert.Kernel3Ideal Cert.Kernel3Ideal.Gen Cert.Tail

variable (x : Vec Ideal S512x1024 .f32) (nw : Vec Ideal S1x1024 .f32)

/-- The normed row `r` of a block. -/
abbrev hrow (r : Fin 512) : Fin 1024 → EReal := normed (fun e => x (ix2 r e)) (fun e => nw (ix2 0 e))

theorem normed_apply (r : Fin 512) (e : Fin 1024) : k0_pay2 (F := Ideal) x nw (ix2 r e) = hrow x nw r e := by
  pointwise [k0_pay2, k0_pay1]
  rfl

/-- The keys. -/
theorem key_apply (h : FVec Ideal S512x1024 .bf16) (w : Vec Ideal S1024x512 .bf16) (r d : Fin 512) :
    k0_pay10 (F := Ideal) h w (ix2 r d) = ∑ e, h (ix2 r e) * w (ix2 e d) := by
  pointwise [k0_pay10, k0_pay9]

/-- The queries, transposed. -/
theorem query_apply (h : FVec Ideal S512x1024 .bf16) (w : Vec Ideal S512x1024 .bf16) (d r : Fin 512) :
    k0_pay14 (F := Ideal) h w (ix2 d r) = ∑ e, h (ix2 r e) * w (ix2 d e) := by
  pointwise [k0_pay14]
  exact Finset.sum_congr rfl fun e _ => mul_comm _ _

/-- The values, transposed. -/
theorem value_apply (h : FVec Ideal S512x1024 .bf16) (w : Vec Ideal S512x1024 .bf16) (d r : Fin 512) :
    k0_pay15 (F := Ideal) h w (ix2 d r) = ∑ e, h (ix2 r e) * w (ix2 d e) := by
  pointwise [k0_pay15]
  exact Finset.sum_congr rfl fun e _ => mul_comm _ _

/-- The output gate. -/
theorem gate_apply (w : Vec Ideal S1024x512 .bf16) (r d : Fin 512) :
    k0_pay3 (F := Ideal) x nw w (ix2 r d) = siluH (half * ∑ e, hrow x nw r e * w (ix2 e d)) := by
  pointwise [k0_pay3]
  simp only [normed_apply]
  rfl

end Cert.Proj.Block

end
-- ==== Proof.ProjWhole.lean ====
/-
  The result arrays of the queries, the keys, the values and the gate after the run, index by index, as the functions of the
  argument arrays that Proof/ProjResult.lean names.
-/
module

public import proofs.«01_k».proof.Proof.ProjOut
public import proofs.«01_k».proof.Proof.ProjEntry
public import proofs.«01_k».proof.Proof.ProjBlock
public import proofs.«01_k».proof.Proof.ProjResult

@[expose] public section

set_option maxRecDepth 16384
set_option maxHeartbeats 4000000

noncomputable section

namespace Cert.Proj.Whole

open Idealize.ShloMosaic Idealize.ShloMosaic.TcCoe Cert.Kernel3Ideal Cert.Kernel3Ideal.Gen Cert.Proj.Entry Cert.Tail

variable (m : (ℓ : Loc nD τ sig) → Buf (Elt Ideal) ℓ) (c : Dev nD) (t : Fin cfg0.N)

/-- A row of the point's normed rows times a column of weights is the projected entry. -/
theorem entry_of (r : Fin 512) (i : Fin 32768) (hi : i.val = t.val * 512 + r.val) (w : Fin 1024 → EReal) (j : Fin 3600)
    (hw : ∀ e, w e = argW m c (ix3 0 e j)) : ∑ e, Block.hrow (iblk m c 0 t) (iblk m c 2 t) r e * w e
      = entry (argX m c) (argW m c) (argN m c) ⟨i.val / 2048, by omega⟩ ⟨i.val % 2048, by omega⟩ j := by
  have e0 : (fun e => iblk m c 0 t (ix2 r e)) = fun e => argX m c (ix3 ⟨i.val / 2048, by omega⟩ ⟨i.val % 2048, by omega⟩ e) :=
    funext fun e => b0 m c t r e i hi
  have e2 : (fun e => iblk m c 2 t (ix2 0 e)) = fun e => argN m c (ix2 0 e) := funext fun e => b2 m c t e
  obtain rfl : w = fun e => argW m c (ix3 0 e j) := funext hw
  show ∑ e, normed (fun e => iblk m c 0 t (ix2 r e)) (fun e => iblk m c 2 t (ix2 0 e)) e * argW m c (ix3 0 e j) = _
  rw [e0, e2]
  rfl

theorem rows_apply (r : Fin 512) (e : Fin 1024) : Out.rows m c t (ix2 r e) = Block.hrow (iblk m c 0 t) (iblk m c 2 t) r e :=
  Block.normed_apply _ _ r e

theorem lt64 : t.val < 64 := Nat.lt_of_lt_of_eq t.isLt N_0

/-- The keys' array. -/
theorem final13 : (dats m 0 c).arrAt 13 cfg0.N = keys (argX m c) (argW m c) (argN m c) := by
  refine (dats m 0 c).arrAt_eq_of_covers 13 _ (by decide +kernel) fun t hf y => ?_
  have ht := lt64 t
  obtain ⟨r, d, rfl⟩ : ∃ (r d : Fin 512), y = ix2 r d := ⟨y 0, y 1, eq_ix2 y⟩
  rw [emb13 t r d ⟨t.val * 512 + r.val, by omega⟩ rfl]
  have hc : (dats m 0 c).flushed 13 t (ix2 r d) = k0_pay10 (Out.rows m c t) (iblk m c 4 t) (ix2 r d) := by
    rw [Cert.Kernel3Ideal.Value.flushed13_A, Out.out13]
    generalize k0_pay10 (Out.rows m c t) (iblk m c 4 t) = v
    rfl
  refine hc.trans ((Block.key_apply _ _ r d).trans ?_)
  simp only [rows_apply]
  exact entry_of m c t r _ rfl (fun e => iblk m c 4 t (ix2 e d)) _ fun e => b4 m c t e d

/-- The gate's array. -/
theorem final17 (hW : ∀ i, Fin' (argW m c i)) (hN : ∀ i, Fin' (argN m c i)) :
    (dats m 0 c).arrAt 17 cfg0.N = gate (argX m c) (argW m c) (argN m c) := by
  refine (dats m 0 c).arrAt_eq_of_covers 17 _ (by decide +kernel) fun t hf y => ?_
  have ht := lt64 t
  obtain ⟨r, d, rfl⟩ : ∃ (r d : Fin 512), y = ix2 r d := ⟨y 0, y 1, eq_ix2 y⟩
  rw [emb17 t r d ⟨t.val * 512 + r.val, by omega⟩ rfl]
  have hc : (dats m 0 c).flushed 17 t (ix2 r d) = k0_pay3 (iblk m c 0 t) (iblk m c 2 t) (iblk m c 7 t) (ix2 r d) := by
    rw [Cert.Kernel3Ideal.Value.flushed17_A, Out.out17]
    generalize k0_pay3 (iblk m c 0 t) (iblk m c 2 t) (iblk m c 7 t) = v
    rfl
  refine hc.trans ((Block.gate_apply _ _ _ r d).trans ?_)
  refine (congrArg (fun z => siluH (half * z))
    (entry_of m c t r ⟨t.val * 512 + r.val, by omega⟩ rfl (fun e => iblk m c 7 t (ix2 e d)) _ fun e => b7 m c t e d)).trans ?_
  exact siluH_half (entry_fin _ _ _ hW hN _ _ _)

/-- The queries' array. -/
theorem final12 : (dats m 0 c).arrAt 12 cfg0.N = queries (argX m c) (argW m c) (argN m c) := by
  refine (dats m 0 c).arrAt_eq_of_covers 12 _ (by decide +kernel) fun t hf y => ?_
  have ht := lt64 t
  obtain ⟨z, u, d, y, rfl⟩ : ∃ (z : Fin 1) (u : Fin 2) (d : Fin 512) (x : Fin 256), y = ix4 z u d x := ⟨y 0, y 1, y 2, y 3, eq_ix4 y⟩
  obtain rfl : z = 0 := Subsingleton.elim _ _
  rw [emb12 t u d y ⟨t.val / 4, by omega⟩ ⟨t.val % 4 * 2 + u.val, by omega⟩ rfl rfl]
  have hc : (dats m 0 c).flushed 12 t (ix4 0 u d y) = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) (ix4 0 u d y) := by
    rw [Cert.Kernel3Ideal.Value.flushed12_A]
    generalize (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) = v
    rfl
  refine (hc.trans (Out.out12 m c t u d y)).trans ((Block.query_apply _ _ d _).trans ?_)
  simp only [rows_apply]
  refine (entry_of m c t ⟨256 * u.val + y.val, by omega⟩ ⟨t.val * 512 + (256 * u.val + y.val), by omega⟩ rfl (fun e => iblk m c 3 t (ix2 d e)) _
    fun e => b3 m c t d e).trans ?_
  show entry _ _ _ _ _ _ = entry _ _ _ ⟨t.val / 4, _⟩ ⟨(t.val % 4 * 2 + u.val) * 256 + y.val, _⟩ ⟨d.val, _⟩
  congr 1 <;> exact Fin.ext (by simp only; omega)

/-- The values' array. -/
theorem final15 : (dats m 0 c).arrAt 15 cfg0.N = values (argX m c) (argW m c) (argN m c) := by
  refine (dats m 0 c).arrAt_eq_of_covers 15 _ (by decide +kernel) fun t hf y => ?_
  have ht := lt64 t
  obtain ⟨o, u, h, z, y, rfl⟩ : ∃ (o : Fin 1) (u : Fin 2) (h : Fin 8) (z : Fin 80) (x : Fin 256), y = ix5 o u h z x :=
    ⟨y 0, y 1, y 2, y 3, y 4, eq_ix5 y⟩
  obtain rfl : o = 0 := Subsingleton.elim _ _
  rw [emb15 t u h z y ⟨t.val / 4, by omega⟩ ⟨t.val % 4 * 2 + u.val, by omega⟩ rfl rfl]
  have hc : (dats m 0 c).flushed 15 t (ix5 0 u h z y) = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) (ix5 0 u h z y) := by
    rw [Cert.Kernel3Ideal.Value.flushed15_A]
    generalize (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) = v
    rfl
  refine (hc.trans (Out.out15 m c t u h z y)).trans ?_
  show _ = valueAt _ _ _ ⟨t.val / 4, _⟩ ⟨t.val % 4 * 2 + u.val, _⟩ h z y
  unfold valueAt
  split
  · refine (Block.value_apply _ _ _ _).trans ?_
    simp only [rows_apply]
    refine (entry_of m c t ⟨256 * u.val + y.val, by omega⟩ ⟨t.val * 512 + (256 * u.val + y.val), by omega⟩ rfl
      (fun e => iblk m c 5 t (ix2 ⟨64 * h.val + z.val, by omega⟩ e)) _ fun e => b5 m c t _ e).trans ?_
    congr 1 <;> exact Fin.ext (by simp only; omega)
  · rfl

end Cert.Proj.Whole

end
-- ==== Proof.ProjConv.lean ====
/-
  The causal convolution inside one block of 512 tokens. The kernel keeps the block's rows interleaved: its row `8 u + b` is
  the block's row `64 b + u`, so that a shift by one token is a shift by eight rows, except in the first rows, which come from
  the last rows of the run before (rolled by one) and, for the first run, from the eight tokens before the block.
-/
module

public import proofs.«01_k».proof.Proof.ProjBlock

@[expose] public section

set_option maxRecDepth 16384

noncomputable section

namespace Cert.Proj.Conv

open Idealize.ShloMosaic Cert.Kernel3Ideal Cert.Kernel3Ideal.Gen Cert.Tail

/-- Row `r - s` of a block, or, when that lies before the block, the row of the eight rows before it. -/
def shifted (P : Fin 512 → EReal) (Q : Fin 8 → EReal) (r : Fin 512) (s : Nat) (hs : s ≤ 3) : EReal :=
  if s ≤ r.val then P ⟨r.val - s, by omega⟩ else if h : r.val < s then Q ⟨8 + r.val - s, by omega⟩ else 0

/-- The convolution's four products, with halved weights, at row `r`. -/
def halved (P : Fin 512 → EReal) (Q : Fin 8 → EReal) (C : Fin 4 → EReal) (r : Fin 512) : EReal :=
  shifted P Q r 0 (by omega) * (half * C 3) + shifted P Q r 1 (by omega) * (half * C 2)
    + shifted P Q r 2 (by omega) * (half * C 1) + shifted P Q r 3 (by omega) * (half * C 0)

/-- The convolution's four products at row `r`, the oldest first. -/
def whole (P : Fin 512 → EReal) (Q : Fin 8 → EReal) (C : Fin 4 → EReal) (r : Fin 512) : EReal :=
  shifted P Q r 3 (by omega) * C 0 + shifted P Q r 2 (by omega) * C 1 + shifted P Q r 1 (by omega) * C 2
    + shifted P Q r 0 (by omega) * C 3

theorem shifted_fin {P : Fin 512 → EReal} {Q : Fin 8 → EReal} (hP : ∀ r, Fin' (P r)) (hQ : ∀ r, Fin' (Q r)) (r : Fin 512)
    (s : Nat) (hs : s ≤ 3) : Fin' (shifted P Q r s hs) := by
  unfold shifted
  split
  · exact hP _
  · split
    · exact hQ _
    · exact Fin'.zero

/-- Among real numbers the half comes out of the convolution. -/
theorem halved_eq {P : Fin 512 → EReal} {Q : Fin 8 → EReal} {C : Fin 4 → EReal} (hP : ∀ r, Fin' (P r)) (hQ : ∀ r, Fin' (Q r))
    (hC : ∀ j, Fin' (C j)) (r : Fin 512) : halved P Q C r = half * whole P Q C r := by
  unfold halved whole
  obtain ⟨a0, h0⟩ := shifted_fin hP hQ r 0 (by omega)
  obtain ⟨a1, h1⟩ := shifted_fin hP hQ r 1 (by omega)
  obtain ⟨a2, h2⟩ := shifted_fin hP hQ r 2 (by omega)
  obtain ⟨a3, h3⟩ := shifted_fin hP hQ r 3 (by omega)
  obtain ⟨c0, g0⟩ := hC 0
  obtain ⟨c1, g1⟩ := hC 1
  obtain ⟨c2, g2⟩ := hC 2
  obtain ⟨c3, g3⟩ := hC 3
  rw [h0, h1, h2, h3, g0, g1, g2, g3, half_eq]
  simp only [← EReal.coe_mul, ← EReal.coe_add]
  congr 1
  ring

theorem whole_fin {P : Fin 512 → EReal} {Q : Fin 8 → EReal} {C : Fin 4 → EReal} (hP : ∀ r, Fin' (P r)) (hQ : ∀ r, Fin' (Q r))
    (hC : ∀ j, Fin' (C j)) (r : Fin 512) : Fin' (whole P Q C r) :=
  ((((shifted_fin hP hQ r 3 (by omega)).mul (hC 0)).add ((shifted_fin hP hQ r 2 (by omega)).mul (hC 1))).add
    ((shifted_fin hP hQ r 1 (by omega)).mul (hC 2))).add ((shifted_fin hP hQ r 0 (by omega)).mul (hC 3))

/-! ## The kernel's operations -/

theorem cur_apply (h : FVec Ideal S512x1024 .bf16) (w : Vec Ideal S1024x512 .bf16) (p d : Fin 512) :
    k0_pay348 (F := Ideal) h w (ix2 p d) = ∑ e, h (ix2 p e) * w (ix2 e d) := by
  pointwise [k0_pay348]

/-- The normed rows of the eight tokens before the block. -/
theorem hp_apply (h : Vec Ideal S8x1024 .f32) (nw : Vec Ideal S1x1024 .f32) (p : Fin 8) (d : Fin 1024) :
    k0_pay346 (F := Ideal) h nw (ix2 p d) = normed (fun e => h (ix2 p e)) (fun e => nw (ix2 0 e)) d := by
  pointwise [k0_pay346]
  rfl

/-- Whether the block opens its sequence, from its number's remainder `j` by the count `i` of blocks in a sequence. -/
def opens (i j : BitVec 32) : BitVec 1 :=
  Scalar.cmpi .eq (Scalar.select (Scalar.andi (Scalar.xori (Scalar.cmpi .slt j 0#32) (Scalar.cmpi .slt i 0#32)) (Scalar.cmpi .ne j 0#32))
    (Scalar.addi j i) j) 0#32

theorem prev_apply (h : FVec Ideal S8x1024 .bf16) (i j : BitVec 32) (w : Vec Ideal S1024x512 .bf16) (p : Fin 8) (d : Fin 512) :
    k0_pay349 (F := Ideal) h i j w (ix2 p d) = Scalar.select (opens i j) 0 (∑ e, h (ix2 p e) * w (ix2 e d)) := by
  pointwise [k0_pay349]
  rfl

theorem wrap_select {α : Type} (b : Fin 8) (x y : α) :
    Scalar.select (IntOp.cmpi CmpIPredicate.eq (BitVec.ofNat 32 b.val) 0#32) x y = if b.val = 0 then x else y := by
  fin_cases b <;> rfl

section
variable (h : FVec Ideal S512x1024 .bf16) (g : FVec Ideal S8x1024 .bf16) (i j : BitVec 32) (w w' : Vec Ideal S1024x512 .bf16)
  (b : Fin 8) (d : Fin 512)

theorem wrap5_apply : k0_pay350 (F := Ideal) h g i j w w' (ix2 b d) = if b.val = 0 then k0_pay349 (F := Ideal) g i j w' (ix2 5 d)
      else k0_pay348 (F := Ideal) h w (ix2 ⟨488 + (b.val + 8 - 1) % 8, by omega⟩ d) := by
  pointwise [k0_pay350, k0_pay347]
  exact wrap_select b _ _

theorem wrap6_apply : k0_pay351 (F := Ideal) h g i j w w' (ix2 b d) = if b.val = 0 then k0_pay349 (F := Ideal) g i j w' (ix2 6 d)
      else k0_pay348 (F := Ideal) h w (ix2 ⟨496 + (b.val + 8 - 1) % 8, by omega⟩ d) := by
  pointwise [k0_pay351, k0_pay347]
  exact wrap_select b _ _

theorem wrap7_apply : k0_pay352 (F := Ideal) h g i j w w' (ix2 b d) = if b.val = 0 then k0_pay349 (F := Ideal) g i j w' (ix2 7 d)
      else k0_pay348 (F := Ideal) h w (ix2 ⟨504 + (b.val + 8 - 1) % 8, by omega⟩ d) := by
  pointwise [k0_pay352, k0_pay347]
  exact wrap_select b _ _
end

theorem taps_apply (v : Vec Ideal S4x512 .f32) (r : Fin 4) (d : Fin 512) : k0_pay353 (F := Ideal) v (ix2 r d) = half * v (ix2 r d) := by
  pointwise [k0_pay353]

theorem tap3_apply (v : Vec Ideal S4x512 .f32) (d : Fin 512) : k0_pay354 (F := Ideal) v (ix2 0 d) = half * v (ix2 3 d) := by
  pointwise [k0_pay354]
  exact taps_apply v 3 d

/-- The rows of an interleaved block that come out of the run before. -/
theorem chunk_apply (cur : FVec Ideal S512x512 .f32) (w5 w6 w7 : FVec Ideal S8x512 .f32) (cw : FVec Ideal S4x512 .f32)
    (c3 : FVec Ideal S1x512 .f32) (d : Fin 512) (P : Fin 512 → EReal) (Q : Fin 8 → EReal) (C : Fin 4 → EReal)
    (hcur : ∀ (p r : Fin 512), r.val = 64 * (p.val % 8) + p.val / 8 → cur (ix2 p d) = P r)
    (h5 : ∀ b : Fin 8, w5 (ix2 b d) = if b.val = 0 then Q 5 else cur (ix2 ⟨488 + (b.val + 8 - 1) % 8, by omega⟩ d))
    (h6 : ∀ b : Fin 8, w6 (ix2 b d) = if b.val = 0 then Q 6 else cur (ix2 ⟨496 + (b.val + 8 - 1) % 8, by omega⟩ d))
    (h7 : ∀ b : Fin 8, w7 (ix2 b d) = if b.val = 0 then Q 7 else cur (ix2 ⟨504 + (b.val + 8 - 1) % 8, by omega⟩ d))
    (hcw : ∀ j : Fin 4, cw (ix2 j d) = half * C j) (hc3 : c3 (ix2 0 d) = half * C 3)
    (p r : Fin 512) (hr : r.val = 64 * (p.val % 8) + p.val / 8) :
    k0_pay355 (F := Ideal) cur w5 w6 w7 cw c3 (ix2 p d) = siluH (halved P Q C r) := by
  have g : ∀ (k o s : Nat) (hs : s ≤ 3) (w : FVec Ideal S8x512 .f32) (q : Fin 8) (hk : k < 8) (ho : o + 8 ≤ 512),
      (∀ b : Fin 8, w (ix2 b d) = if b.val = 0 then Q q else cur (ix2 ⟨o + (b.val + 8 - 1) % 8, by omega⟩ d)) →
      k = p.val % 8 → o = 8 * (64 + p.val / 8 - s) → q.val + s = 8 + p.val / 8 → p.val / 8 < s →
      w (ix2 ⟨k, hk⟩ d) = shifted P Q r s hs := by
    intro k o s hs w q hk ho hw hk' ho' hq hlt
    subst hk'
    rw [hw]
    unfold shifted
    by_cases hb : p.val % 8 = 0
    · rw [if_pos hb, if_neg (by omega), dif_pos (by omega)]
      exact congrArg Q (Fin.ext (by show q.val = 8 + r.val - s; omega))
    · rw [if_neg hb, if_pos (by omega)]
      refine hcur _ _ ?_
      show r.val - s = 64 * ((o + (p.val % 8 + 8 - 1) % 8) % 8) + (o + (p.val % 8 + 8 - 1) % 8) / 8
      have y : (p.val % 8 + 8 - 1) % 8 = p.val % 8 - 1 := by omega
      rw [y]
      omega
  have f : ∀ (k s : Nat) (hs : s ≤ 3) (hk : k < 512), k + 8 * s = p.val → cur (ix2 ⟨k, hk⟩ d) = shifted P Q r s hs := by
    intro k s hs hk hks
    unfold shifted
    rw [if_pos (by omega)]
    exact hcur _ _ (by show r.val - s = 64 * (k % 8) + k / 8; omega)
  have e0 : cur (ix2 p d) = shifted P Q r 0 (by omega) := f p.val 0 (by omega) p.isLt rfl
  pointwise [k0_pay355]
  have e1 : (if h : p.val < 8 then w7 (ix2 ⟨p.val, h⟩ d) else cur (ix2 ⟨p.val - 8, by omega⟩ d)) = shifted P Q r 1 (by omega) := by
    split
    · exact g _ 504 1 _ w7 7 _ (by omega) h7 (by omega) (by omega) (by show 7 + 1 = _; omega) (by omega)
    · exact f _ 1 _ _ (by omega)
  have e2 : (if h : p.val < 8 then w6 (ix2 ⟨p.val, h⟩ d) else if h : p.val - 8 < 8 then w7 (ix2 ⟨p.val - 8, h⟩ d)
      else cur (ix2 ⟨p.val - 8 - 8, by omega⟩ d)) = shifted P Q r 2 (by omega) := by
    split
    · exact g _ 496 2 _ w6 6 _ (by omega) h6 (by omega) (by omega) (by show 6 + 2 = _; omega) (by omega)
    · split
      · exact g _ 504 2 _ w7 7 _ (by omega) h7 (by omega) (by omega) (by show 7 + 2 = _; omega) (by omega)
      · exact f _ 2 _ _ (by omega)
  have e3 : (if h : p.val < 8 then w5 (ix2 ⟨p.val, h⟩ d) else if h : p.val - 8 < 8 then w6 (ix2 ⟨p.val - 8, h⟩ d)
      else if h : p.val - 8 - 8 < 8 then w7 (ix2 ⟨p.val - 8 - 8, h⟩ d) else cur (ix2 ⟨p.val - 8 - 8 - 8, by omega⟩ d))
      = shifted P Q r 3 (by omega) := by
    split
    · exact g _ 488 3 _ w5 5 _ (by omega) h5 (by omega) (by omega) (by show 5 + 3 = _; omega) (by omega)
    · split
      · exact g _ 496 3 _ w6 6 _ (by omega) h6 (by omega) (by omega) (by show 6 + 3 = _; omega) (by omega)
      · split
        · exact g _ 504 3 _ w7 7 _ (by omega) h7 (by omega) (by omega) (by show 7 + 3 = _; omega) (by omega)
        · exact f _ 3 _ _ (by omega)
  rw [e1, e2, e3, e0, hcw, hcw, hcw, hc3]
  rfl

end Cert.Proj.Conv

end
-- ==== Proof.ProjPlane.lean ====
/-
  The two scratch planes of the input projection's body, as arrays. The first holds the normed rows, in strips of 64 rows
  and 128 columns, 72 rows apart; it is read by rows 72 apart, so that row 8·u + b of what comes out is row 64·b + u of the
  block. The second holds the convolved rows of each third of the columns, stored the way the first is read and read the way
  the first is stored.
-/
module

public import proofs.«01_k».proof.Proof.ProjConv
public import Idealize.ShloMosaic.Lib.Pipeline.Value

@[expose] public section

set_option maxRecDepth 16384

noncomputable section

namespace Cert.Proj.Plane

open Idealize.ShloMosaic Cert.Kernel3Ideal Cert.Kernel3Ideal.Gen Cert.Tail

/-! ## The normed rows -/

/-- The rectangle of strip `k`: column group `k / 8`, rows from 72·(k % 8). -/
def stripRect (k : Fin 64) : Rect S8x576x128 :=
  Rect.unit ![k.val / 8, 72 * (k.val % 8), 0] S1x64x128.size fun a => by
    match a with
    | ⟨0, _⟩ => show k.val / 8 + 1 ≤ 8; omega
    | ⟨1, _⟩ => show 72 * (k.val % 8) + 64 ≤ 576; omega
    | ⟨2, _⟩ => show 0 + 128 ≤ 128; omega

/-- Strip `k` of the block `R`: rows from 64·(k % 8), columns from 128·(k / 8). -/
def stripOf (R : FVec Ideal S512x1024 .f32) (k : Fin 64) : FVec Ideal S1x64x128 .f32 :=
  shapeCast S1x64x128 (extractStridedSlice S64x128 ![64 * (k.val % 8), 128 * (k.val / 8)] R ⟨rfl, fun a => by
    match a with
    | ⟨0, _⟩ => show 64 * (k.val % 8) + 64 ≤ 512; omega
    | ⟨1, _⟩ => show 128 * (k.val / 8) + 128 ≤ 1024; omega⟩) shapeCasts_S64x128_S1x64x128

/-- The 64 strips, the last stored first. -/
def strips (R : FVec Ideal S512x1024 .f32) : List (View.Piece (Elt Ideal) S8x576x128 .f32) :=
  (List.finRange 64).reverse.map fun k => ⟨stripRect k, stripOf R k⟩

/-- What the strips leave at an index of the plane. -/
def stripAt (R : FVec Ideal S512x1024 .f32) (y : S8x576x128.Idx) : EReal :=
  R (ix2 ⟨(64 * ((y 1).val / 72) + (y 1).val % 72) % 512, by omega⟩ ⟨(128 * (y 0).val + (y 2).val) % 1024, by omega⟩)

theorem strips_at (R : FVec Ideal S512x1024 .f32) : ∀ p ∈ strips R, ∀ x : p.1.shape.Idx, p.2 x = stripAt R (p.1.emb x) := by
  intro p hp
  obtain ⟨k, _, rfl⟩ := List.mem_map.mp hp
  intro x
  obtain ⟨o, s, d, rfl⟩ : ∃ (o : Fin 1) (s : Fin 64) (d : Fin 128), x = ix3 o s d := ⟨x 0, x 1, x 2, eq_ix3 x⟩
  have e0 : ((stripRect k).emb (ix3 o s d) 0).val = k.val / 8 + 1 * o.val := rfl
  have e1 : ((stripRect k).emb (ix3 o s d) 1).val = 72 * (k.val % 8) + 1 * s.val := rfl
  have e2 : ((stripRect k).emb (ix3 o s d) 2).val = 0 + 1 * d.val := rfl
  show stripOf R k (ix3 o s d) = stripAt R ((stripRect k).emb (ix3 o s d))
  unfold stripAt
  pointwise [stripOf]
  refine congrArg R (congrArg₂ ix2 (Fin.ext ?_) (Fin.ext ?_))
  · show 64 * (k.val % 8) + s.val = (64 * (((stripRect k).emb (ix3 o s d) 1).val / 72) + ((stripRect k).emb (ix3 o s d) 1).val % 72) % 512
    rw [e1]; omega
  · show 128 * (k.val / 8) + d.val = (128 * ((stripRect k).emb (ix3 o s d) 0).val + ((stripRect k).emb (ix3 o s d) 2).val) % 1024
    rw [e0, e2]; omega

/-- Eight rows of the plane, 72 apart, from row `u` of column group `j`. -/
def rowsRect (j : Fin 8) (u : Fin 64) : LoadRect S8x576x128 where
  off := ![j.val, u.val, 0]
  size := S1x8x128.size
  stride := ![1, 72, 1]
  inb a := by
    match a with
    | ⟨0, _⟩ => exact Or.inr (show j.val + 1 * (1 - 1) < 8 by omega)
    | ⟨1, _⟩ => exact Or.inr (show u.val + 72 * (8 - 1) < 576 by omega)
    | ⟨2, _⟩ => exact Or.inr (show 0 + 1 * (128 - 1) < 128 by omega)

theorem rows_read (v : View sig .tc .vmem S8x576x128 .f32) (R : FVec Ideal S512x1024 .f32) (j : Fin 8) (u : Fin 64) (b : Fin 8)
    (d : Fin 128) : (v.readCov (strips R) (rowsRect j u) : FVec Ideal S1x8x128 .f32) (ix3 0 b d)
      = R (ix2 ⟨64 * b.val + u.val, by omega⟩ ⟨128 * j.val + d.val, by omega⟩) := by
  rw [View.readCov_eq_canon']
  have e0 : ((rowsRect j u).idx (ix3 0 b d) 0).val = j.val + 1 * 0 := rfl
  have e1 : ((rowsRect j u).idx (ix3 0 b d) 1).val = u.val + 72 * b.val := rfl
  have e2 : ((rowsRect j u).idx (ix3 0 b d) 2).val = 0 + 1 * d.val := rfl
  refine (View.canon_apply_of_pieces (stripAt R) _ (strips_at R) _ ⟨_, List.mem_map_of_mem (List.mem_reverse.mpr
    (List.mem_finRange (⟨8 * j.val + b.val, by omega⟩ : Fin 64))), ?_⟩).trans ?_
  · show _ ∈ (stripRect _).set
    rw [stripRect, Rect.mem_set_unit]
    intro a
    match a with
    | ⟨0, _⟩ => show (8 * j.val + b.val) / 8 ≤ j.val + 1 * 0 ∧ j.val + 1 * 0 < (8 * j.val + b.val) / 8 + 1; omega
    | ⟨1, _⟩ => show 72 * ((8 * j.val + b.val) % 8) ≤ u.val + 72 * b.val ∧ u.val + 72 * b.val < 72 * ((8 * j.val + b.val) % 8) + 64; omega
    | ⟨2, _⟩ => show 0 ≤ 0 + 1 * d.val ∧ 0 + 1 * d.val < 0 + 128; omega
  · unfold stripAt
    refine congrArg R (congrArg₂ ix2 (Fin.ext ?_) (Fin.ext ?_))
    · show (64 * (((rowsRect j u).idx (ix3 0 b d) 1).val / 72) + ((rowsRect j u).idx (ix3 0 b d) 1).val % 72) % 512 = 64 * b.val + u.val
      rw [e1]; omega
    · show (128 * ((rowsRect j u).idx (ix3 0 b d) 0).val + ((rowsRect j u).idx (ix3 0 b d) 2).val) % 1024 = 128 * j.val + d.val
      rw [e0, e2]; omega

theorem cast8 (x : FVec Ideal S1x8x128 .f32) (b : Fin 8) (d : Fin 128) :
    shapeCast S8x128 x shapeCasts_S1x8x128_S8x128 (ix2 b d) = x (ix3 0 b d) := by
  pointwise

theorem cast64 (x : FVec Ideal S1x1x64x128 .f32) (b : Fin 64) (d : Fin 128) :
    shapeCast S64x128 x shapeCasts_S1x1x64x128_S64x128 (ix2 b d) = x (ix4 0 0 b d) := by
  pointwise

/-- The block read back with its rows permuted. -/
def permuted (v : View sig .tc .vmem S8x576x128 .f32) (R : FVec Ideal S512x1024 .f32)
    (h1 : ∀ u : Fin 64, Shape.Concatenates ((List.ofFn fun j : Fin 8 => (⟨S8x128, shapeCast S8x128 (v.readCov (strips R) (rowsRect j u))
      shapeCasts_S1x8x128_S8x128⟩ : (s : Shape) × (s.Idx → EReal))).map (·.1)) S8x1024 1)
    (h2 : Shape.Concatenates ((List.ofFn fun u : Fin 64 => (⟨S8x1024, concatenate S8x1024 1 (List.ofFn fun j : Fin 8 =>
      (⟨S8x128, shapeCast S8x128 (v.readCov (strips R) (rowsRect j u)) shapeCasts_S1x8x128_S8x128⟩ : (s : Shape) × (s.Idx → EReal))) (h1 u)⟩ :
        (s : Shape) × (s.Idx → EReal))).map (·.1)) S512x1024 0) : S512x1024.Idx → EReal :=
  concatenate S512x1024 0 (List.ofFn fun u : Fin 64 => (⟨S8x1024, concatenate S8x1024 1 (List.ofFn fun j : Fin 8 =>
      (⟨S8x128, shapeCast S8x128 (v.readCov (strips R) (rowsRect j u)) shapeCasts_S1x8x128_S8x128⟩ : (s : Shape) × (s.Idx → EReal))) (h1 u)⟩ :
        (s : Shape) × (s.Idx → EReal))) h2

theorem permuted_apply (v : View sig .tc .vmem S8x576x128 .f32) (R : FVec Ideal S512x1024 .f32) (h1 h2) (p : Fin 512) (e : Fin 1024) :
    permuted v R h1 h2 (ix2 p e) = R (ix2 ⟨64 * (p.val % 8) + p.val / 8, by omega⟩ e) := by
  unfold permuted
  refine (concatenate_ofFn_apply 0 _ h2 rfl 8 rfl (ix2 p e) ⟨p.val / 8, by omega⟩ rfl (ix2 ⟨p.val % 8, by omega⟩ e) rfl ?_).trans ?_
  · intro b hb
    match b with
    | ⟨0, _⟩ => exact absurd rfl hb
    | ⟨1, _⟩ => rfl
  refine (concatenate_ofFn_apply 1 _ (h1 _) rfl 128 rfl (ix2 (⟨p.val % 8, by omega⟩ : Fin 8) e) ⟨e.val / 128, by omega⟩ rfl
    (ix2 ⟨p.val % 8, by omega⟩ ⟨e.val % 128, by omega⟩) rfl ?_).trans ?_
  · intro b hb
    match b with
    | ⟨1, _⟩ => exact absurd rfl hb
    | ⟨0, _⟩ => rfl
  refine (cast8 _ _ _).trans ?_
  refine (rows_read v R _ _ _ _).trans (congrArg R (congrArg₂ ix2 (Fin.ext rfl) (Fin.ext ?_)))
  show 128 * (e.val / 128) + e.val % 128 = e.val
  omega

/-! ## The convolved rows -/

/-- The rectangle of piece `k` of third `c`: column group `k / 64`, eight rows 72 apart from row `k % 64`. -/
def pieceRect (c : Fin 3) (k : Fin 256) : Rect S3x4x576x128 where
  off := ![c.val, k.val / 64, k.val % 64, 0]
  size := S1x1x8x128.size
  stride := ![1, 1, 72, 1]
  inb a := by
    match a with
    | ⟨0, _⟩ => exact Or.inr (show c.val + 1 * (1 - 1) < 3 by omega)
    | ⟨1, _⟩ => exact Or.inr (show k.val / 64 + 1 * (1 - 1) < 4 by omega)
    | ⟨2, _⟩ => exact Or.inr (show k.val % 64 + 72 * (8 - 1) < 576 by omega)
    | ⟨3, _⟩ => exact Or.inr (show 0 + 1 * (128 - 1) < 128 by omega)
  stride_pos a := by
    match a with
    | ⟨0, _⟩ => exact Nat.one_pos
    | ⟨1, _⟩ => exact Nat.one_pos
    | ⟨2, _⟩ => exact (show 0 < 72 by omega)
    | ⟨3, _⟩ => exact Nat.one_pos

/-- Piece `k` of the block `Y`: rows from 8·(k % 64), columns from 128·(k / 64). -/
def pieceOf (Y : FVec Ideal S512x512 .f32) (k : Fin 256) : FVec Ideal S1x1x8x128 .f32 :=
  shapeCast S1x1x8x128 (extractStridedSlice S8x128 ![8 * (k.val % 64), 128 * (k.val / 64)] Y ⟨rfl, fun a => by
    match a with
    | ⟨0, _⟩ => show 8 * (k.val % 64) + 8 ≤ 512; omega
    | ⟨1, _⟩ => show 128 * (k.val / 64) + 128 ≤ 512; omega⟩) shapeCasts_S8x128_S1x1x8x128

/-- The 256 pieces of third `c`, the last stored first. -/
def pieces (c : Fin 3) (Y : FVec Ideal S512x512 .f32) : List (View.Piece (Elt Ideal) S3x4x576x128 .f32) :=
  (List.finRange 256).reverse.map fun k => ⟨pieceRect c k, pieceOf Y k⟩

/-- What the pieces of the three thirds leave at an index of the plane. -/
def pieceAt (Y : Fin 3 → FVec Ideal S512x512 .f32) (y : S3x4x576x128.Idx) : EReal :=
  Y (y 0) (ix2 ⟨(8 * ((y 2).val % 72) + (y 2).val / 72) % 512, by omega⟩ ⟨(128 * (y 1).val + (y 3).val) % 512, by omega⟩)

theorem pieces_at (Y : Fin 3 → FVec Ideal S512x512 .f32) (c : Fin 3) : ∀ p ∈ pieces c (Y c), ∀ x : p.1.shape.Idx,
    p.2 x = pieceAt Y (p.1.emb x) := by
  intro p hp
  obtain ⟨k, _, rfl⟩ := List.mem_map.mp hp
  intro x
  obtain ⟨o, o', s, d, rfl⟩ : ∃ (o o' : Fin 1) (s : Fin 8) (d : Fin 128), x = ix4 o o' s d := ⟨x 0, x 1, x 2, x 3, eq_ix4 x⟩
  have e0 : (pieceRect c k).emb (ix4 o o' s d) 0 = c := Fin.ext (by show c.val + 1 * o.val = c.val; omega)
  have e1 : ((pieceRect c k).emb (ix4 o o' s d) 1).val = k.val / 64 + 1 * o'.val := rfl
  have e2 : ((pieceRect c k).emb (ix4 o o' s d) 2).val = k.val % 64 + 72 * s.val := rfl
  have e3 : ((pieceRect c k).emb (ix4 o o' s d) 3).val = 0 + 1 * d.val := rfl
  show pieceOf (Y c) k (ix4 o o' s d) = pieceAt Y ((pieceRect c k).emb (ix4 o o' s d))
  unfold pieceAt
  rw [e0]
  pointwise [pieceOf]
  refine congrArg (Y c) (congrArg₂ ix2 (Fin.ext ?_) (Fin.ext ?_))
  · show 8 * (k.val % 64) + s.val = (8 * (((pieceRect c k).emb (ix4 o o' s d) 2).val % 72) + ((pieceRect c k).emb (ix4 o o' s d) 2).val / 72) % 512
    have q1 : (k.val % 64 + 72 * s.val) % 72 = k.val % 64 := by omega
    have q2 : (k.val % 64 + 72 * s.val) / 72 = s.val := by omega
    rw [e2, q1, q2]; omega
  · show 128 * (k.val / 64) + d.val = (128 * ((pieceRect c k).emb (ix4 o o' s d) 1).val + ((pieceRect c k).emb (ix4 o o' s d) 3).val) % 512
    rw [e1, e3]; omega

/-- Sixty-four rows of the plane from row 72·b, in column group `j` of third `c`. -/
def tileRect (c : Fin 3) (j : Fin 4) (b : Fin 8) : LoadRect S3x4x576x128 :=
  (Rect.unit (s := S3x4x576x128) ![c.val, j.val, 72 * b.val, 0] S1x1x64x128.size fun a => by
    match a with
    | ⟨0, _⟩ => show c.val + 1 ≤ 3; omega
    | ⟨1, _⟩ => show j.val + 1 ≤ 4; omega
    | ⟨2, _⟩ => show 72 * b.val + 64 ≤ 576; omega
    | ⟨3, _⟩ => show 0 + 128 ≤ 128; omega).toLoadRect

theorem tile_read (v : View sig .tc .vmem S3x4x576x128 .f32) (Y : Fin 3 → FVec Ideal S512x512 .f32)
    (L : List (View.Piece (Elt Ideal) S3x4x576x128 .f32)) (hL : ∀ p ∈ L, ∀ x : p.1.shape.Idx, p.2 x = pieceAt Y (p.1.emb x))
    (c : Fin 3) (hc : ∀ p ∈ pieces c (Y c), p ∈ L) (j : Fin 4) (b : Fin 8) (u : Fin 64) (d : Fin 128) :
    (v.readCov L (tileRect c j b) : FVec Ideal S1x1x64x128 .f32) (ix4 0 0 u d)
      = Y c (ix2 ⟨8 * u.val + b.val, by omega⟩ ⟨128 * j.val + d.val, by omega⟩) := by
  rw [View.readCov_eq_canon']
  have e0 : (tileRect c j b).idx (ix4 0 0 u d) 0 = c := Fin.ext (by show c.val + 1 * 0 = c.val; omega)
  have e1 : ((tileRect c j b).idx (ix4 0 0 u d) 1).val = j.val + 1 * 0 := rfl
  have e2 : ((tileRect c j b).idx (ix4 0 0 u d) 2).val = 72 * b.val + 1 * u.val := rfl
  have e3 : ((tileRect c j b).idx (ix4 0 0 u d) 3).val = 0 + 1 * d.val := rfl
  refine (View.canon_apply_of_pieces (pieceAt Y) _ hL _ ⟨_, hc _ (List.mem_map_of_mem (List.mem_reverse.mpr
    (List.mem_finRange (⟨64 * j.val + u.val, by omega⟩ : Fin 256)))), ?_⟩).trans ?_
  · show _ ∈ (pieceRect c _).set
    rw [LoadRect.mem_set]
    intro a
    match a with
    | ⟨0, _⟩ => exact ⟨0, Nat.one_pos, (show c.val + 1 * 0 = c.val + 1 * 0 from rfl)⟩
    | ⟨1, _⟩ => exact ⟨0, Nat.one_pos, (show j.val + 1 * 0 = (64 * j.val + u.val) / 64 + 1 * 0 by omega)⟩
    | ⟨2, _⟩ => exact ⟨b.val, b.isLt, (show 72 * b.val + 1 * u.val = (64 * j.val + u.val) % 64 + 72 * b.val by omega)⟩
    | ⟨3, _⟩ => exact ⟨d.val, d.isLt, (show 0 + 1 * d.val = 0 + 1 * d.val from rfl)⟩
  · unfold pieceAt
    rw [e0]
    refine congrArg (Y c) (congrArg₂ ix2 (Fin.ext ?_) (Fin.ext ?_))
    · show (8 * (((tileRect c j b).idx (ix4 0 0 u d) 2).val % 72) + ((tileRect c j b).idx (ix4 0 0 u d) 2).val / 72) % 512 = 8 * u.val + b.val
      have q1 : (72 * b.val + 1 * u.val) % 72 = u.val := by omega
      have q2 : (72 * b.val + 1 * u.val) / 72 = b.val := by omega
      rw [e2, q1, q2]; omega
    · show (128 * ((tileRect c j b).idx (ix4 0 0 u d) 1).val + ((tileRect c j b).idx (ix4 0 0 u d) 3).val) % 512 = 128 * j.val + d.val
      rw [e1, e3]; omega

/-- A third read back, its rows in the block's order. -/
def restored (v : View sig .tc .vmem S3x4x576x128 .f32) (L : List (View.Piece (Elt Ideal) S3x4x576x128 .f32)) (c : Fin 3)
    (h1 : ∀ j : Fin 4, Shape.Concatenates ((List.ofFn fun b : Fin 8 => (⟨S64x128, shapeCast S64x128 (v.readCov L (tileRect c j b))
      shapeCasts_S1x1x64x128_S64x128⟩ : (s : Shape) × (s.Idx → EReal))).map (·.1)) S512x128 0)
    (h2 : Shape.Concatenates ((List.ofFn fun j : Fin 4 => (⟨S512x128, concatenate S512x128 0 (List.ofFn fun b : Fin 8 =>
      (⟨S64x128, shapeCast S64x128 (v.readCov L (tileRect c j b)) shapeCasts_S1x1x64x128_S64x128⟩ : (s : Shape) × (s.Idx → EReal))) (h1 j)⟩ :
        (s : Shape) × (s.Idx → EReal))).map (·.1)) S512x512 1) : S512x512.Idx → EReal :=
  concatenate S512x512 1 (List.ofFn fun j : Fin 4 => (⟨S512x128, concatenate S512x128 0 (List.ofFn fun b : Fin 8 =>
      (⟨S64x128, shapeCast S64x128 (v.readCov L (tileRect c j b)) shapeCasts_S1x1x64x128_S64x128⟩ : (s : Shape) × (s.Idx → EReal))) (h1 j)⟩ :
        (s : Shape) × (s.Idx → EReal))) h2

theorem restored_apply (v : View sig .tc .vmem S3x4x576x128 .f32) (Y : Fin 3 → FVec Ideal S512x512 .f32)
    (L : List (View.Piece (Elt Ideal) S3x4x576x128 .f32)) (hL : ∀ p ∈ L, ∀ x : p.1.shape.Idx, p.2 x = pieceAt Y (p.1.emb x))
    (c : Fin 3) (hc : ∀ p ∈ pieces c (Y c), p ∈ L) (h1 h2) (r e : Fin 512) :
    restored v L c h1 h2 (ix2 r e) = Y c (ix2 ⟨8 * (r.val % 64) + r.val / 64, by omega⟩ e) := by
  unfold restored
  refine (concatenate_ofFn_apply 1 _ h2 rfl 128 rfl (ix2 r e) ⟨e.val / 128, by omega⟩ rfl (ix2 r ⟨e.val % 128, by omega⟩) rfl ?_).trans ?_
  · intro b hb
    match b with
    | ⟨1, _⟩ => exact absurd rfl hb
    | ⟨0, _⟩ => rfl
  refine (concatenate_ofFn_apply 0 _ (h1 _) rfl 64 rfl (ix2 r (⟨e.val % 128, by omega⟩ : Fin 128)) ⟨r.val / 64, by omega⟩ rfl
    (ix2 ⟨r.val % 64, by omega⟩ ⟨e.val % 128, by omega⟩) rfl ?_).trans ?_
  · intro b hb
    match b with
    | ⟨0, _⟩ => exact absurd rfl hb
    | ⟨1, _⟩ => rfl
  refine (cast64 _ _ _).trans ?_
  refine (tile_read v Y L hL c hc _ _ _ _).trans (congrArg (Y c) (congrArg₂ ix2 (Fin.ext rfl) (Fin.ext ?_)))
  show 128 * (e.val / 128) + e.val % 128 = e.val
  omega

end Cert.Proj.Plane

end
-- ==== Proof.ProjScratch.lean ====
/-
  The input projection's body writes and reads its two scratch planes as Proof/ProjPlane.lean has them: its lists of stores
  are the strips of the normed rows and the pieces of the convolved thirds, and what it reads back is the permuted block and
  the restored thirds.
-/
module

public import proofs.«01_k».proof.Proof.ProjPlane
public import proofs.«01_k».proof.Proof.Gen.Kernel3Ideal.Frame

@[expose] public section

set_option maxRecDepth 65536
set_option maxHeartbeats 4000000

noncomputable section

namespace Cert.Proj.Scratch

open Idealize.ShloMosaic Cert.Kernel3Ideal Cert.Kernel3Ideal.Gen Cert.Tail Cert.Proj.Plane

variable (c : Dev nD) (i : grid0.Coords) (arg1 : Memref sig .tc .vmem S512x1024 .f32) (harg1 : arg1.IsWhole)
  (arg2 : Memref sig .tc .vmem S8x1024 .f32) (harg2 : arg2.IsWhole) (arg3 : Memref sig .tc .vmem S1x1024 .f32) (harg3 : arg3.IsWhole)
  (arg7 : Memref sig .tc .vmem S1024x1536 .bf16) (harg7 : arg7.IsWhole) (arg10 : Memref sig .tc .vmem S4x1536 .f32) (harg10 : arg10.IsWhole)
  (arg20 : Memref sig .tc .vmem S8x576x128 .f32) (arg21 : Memref sig .tc .vmem S3x4x576x128 .f32)
  (x0 : Vec Ideal S512x1024 .f32) (x1 : Vec Ideal S8x1024 .f32) (x2 : Vec Ideal S1x1024 .f32) (x6 : Vec Ideal S1024x1536 .bf16)
  (x9 : Vec Ideal S4x1536 .f32)

theorem strips_eq : kernelRun0_A.sl.HS0_64 (F := Ideal) c arg1 harg1 arg3 harg3 x0 x2
    = strips (kernelRun0_A.sl.r (F := Ideal) c arg1 harg1 arg3 harg3 x0 x2) := by
  sl_kernel_rfl

theorem pieces0_eq : kernelRun0_A.sl.HS1_256 (F := Ideal) c i arg1 harg1 arg2 harg2 arg3 harg3 arg7 harg7 arg10 harg10 arg20 x0 x1 x2 x6 x9
    = pieces 0 (kernelRun0_A.sl.r_20 (F := Ideal) c i arg1 harg1 arg2 harg2 arg3 harg3 arg7 harg7 arg10 harg10 arg20 x0 x1 x2 x6 x9) := by
  sl_kernel_rfl

theorem pieces1_eq : kernelRun0_A.sl.HS1_512 (F := Ideal) c i arg1 harg1 arg2 harg2 arg3 harg3 arg7 harg7 arg10 harg10 arg20 x0 x1 x2 x6 x9
    = pieces 1 (kernelRun0_A.sl.r_28 (F := Ideal) c i arg1 harg1 arg2 harg2 arg3 harg3 arg7 harg7 arg10 harg10 arg20 x0 x1 x2 x6 x9)
      ++ kernelRun0_A.sl.HS1_256 (F := Ideal) c i arg1 harg1 arg2 harg2 arg3 harg3 arg7 harg7 arg10 harg10 arg20 x0 x1 x2 x6 x9 := by
  sl_kernel_rfl

theorem pieces2_eq : kernelRun0_A.sl.HS1_768 (F := Ideal) c i arg1 harg1 arg2 harg2 arg3 harg3 arg7 harg7 arg10 harg10 arg20 x0 x1 x2 x6 x9
    = pieces 2 (kernelRun0_A.sl.r_32 (F := Ideal) c i arg1 harg1 arg2 harg2 arg3 harg3 arg7 harg7 arg10 harg10 arg20 x0 x1 x2 x6 x9)
      ++ kernelRun0_A.sl.HS1_512 (F := Ideal) c i arg1 harg1 arg2 harg2 arg3 harg3 arg7 harg7 arg10 harg10 arg20 x0 x1 x2 x6 x9 := by
  sl_kernel_rfl

/-! ## The shapes of what is put together -/

theorem ones8 (f : Fin 8 → (S8x128.Idx → EReal)) :
    Shape.Concatenates ((List.ofFn fun j : Fin 8 => (⟨S8x128, f j⟩ : (s : Shape) × (s.Idx → EReal))).map (·.1)) S8x1024 1 := by
  rw [List.map_ofFn]
  exact (by decide : Shape.Concatenates [S8x128, S8x128, S8x128, S8x128, S8x128, S8x128, S8x128, S8x128] S8x1024 1)

theorem ones64 (f : Fin 64 → (S8x1024.Idx → EReal)) :
    Shape.Concatenates ((List.ofFn fun j : Fin 64 => (⟨S8x1024, f j⟩ : (s : Shape) × (s.Idx → EReal))).map (·.1)) S512x1024 0 := by
  rw [List.map_ofFn]
  exact (by decide : Shape.Concatenates (List.replicate 64 S8x1024) S512x1024 0)

theorem tiles8 (f : Fin 8 → (S64x128.Idx → EReal)) :
    Shape.Concatenates ((List.ofFn fun j : Fin 8 => (⟨S64x128, f j⟩ : (s : Shape) × (s.Idx → EReal))).map (·.1)) S512x128 0 := by
  rw [List.map_ofFn]
  exact (by decide : Shape.Concatenates [S64x128, S64x128, S64x128, S64x128, S64x128, S64x128, S64x128, S64x128] S512x128 0)

theorem tiles4 (f : Fin 4 → (S512x128.Idx → EReal)) :
    Shape.Concatenates ((List.ofFn fun j : Fin 4 => (⟨S512x128, f j⟩ : (s : Shape) × (s.Idx → EReal))).map (·.1)) S512x512 1 := by
  rw [List.map_ofFn]
  exact (by decide : Shape.Concatenates [S512x128, S512x128, S512x128, S512x128] S512x512 1)

/-! ## What is read back -/

/-- The normed rows, permuted. -/
theorem permuted_eq : kernelRun0_A.sl.r_12 (F := Ideal) c arg1 harg1 arg3 harg3 arg20 x0 x2
    = truncf (F := Ideal) .bf16 (permuted arg20.view (kernelRun0_A.sl.r (F := Ideal) c arg1 harg1 arg3 harg3 x0 x2)
        (fun _ => ones8 _) (ones64 _) : FVec Ideal S512x1024 .f32) bitsLt_bf16_f32 := by
  sl_kernel_rfl

/-- The convolved thirds, in the order of their columns. -/
def thirds : Fin 3 → FVec Ideal S512x512 .f32 :=
  ![kernelRun0_A.sl.r_20 (F := Ideal) c i arg1 harg1 arg2 harg2 arg3 harg3 arg7 harg7 arg10 harg10 arg20 x0 x1 x2 x6 x9,
    kernelRun0_A.sl.r_28 (F := Ideal) c i arg1 harg1 arg2 harg2 arg3 harg3 arg7 harg7 arg10 harg10 arg20 x0 x1 x2 x6 x9,
    kernelRun0_A.sl.r_32 (F := Ideal) c i arg1 harg1 arg2 harg2 arg3 harg3 arg7 harg7 arg10 harg10 arg20 x0 x1 x2 x6 x9]

theorem at0 : ∀ p ∈ kernelRun0_A.sl.HS1_256 (F := Ideal) c i arg1 harg1 arg2 harg2 arg3 harg3 arg7 harg7 arg10 harg10 arg20 x0 x1 x2 x6 x9,
    ∀ x : p.1.shape.Idx, p.2 x = pieceAt (thirds c i arg1 harg1 arg2 harg2 arg3 harg3 arg7 harg7 arg10 harg10 arg20 x0 x1 x2 x6 x9) (p.1.emb x) := by
  rw [pieces0_eq]
  exact pieces_at (thirds c i arg1 harg1 arg2 harg2 arg3 harg3 arg7 harg7 arg10 harg10 arg20 x0 x1 x2 x6 x9) 0

theorem at1 : ∀ p ∈ kernelRun0_A.sl.HS1_512 (F := Ideal) c i arg1 harg1 arg2 harg2 arg3 harg3 arg7 harg7 arg10 harg10 arg20 x0 x1 x2 x6 x9,
    ∀ x : p.1.shape.Idx, p.2 x = pieceAt (thirds c i arg1 harg1 arg2 harg2 arg3 harg3 arg7 harg7 arg10 harg10 arg20 x0 x1 x2 x6 x9) (p.1.emb x) := by
  rw [pieces1_eq]
  intro p hp
  rcases List.mem_append.mp hp with h | h
  · exact pieces_at (thirds c i arg1 harg1 arg2 harg2 arg3 harg3 arg7 harg7 arg10 harg10 arg20 x0 x1 x2 x6 x9) 1 p h
  · exact at0 c i arg1 harg1 arg2 harg2 arg3 harg3 arg7 harg7 arg10 harg10 arg20 x0 x1 x2 x6 x9 p h

theorem at2 : ∀ p ∈ kernelRun0_A.sl.HS1_768 (F := Ideal) c i arg1 harg1 arg2 harg2 arg3 harg3 arg7 harg7 arg10 harg10 arg20 x0 x1 x2 x6 x9,
    ∀ x : p.1.shape.Idx, p.2 x = pieceAt (thirds c i arg1 harg1 arg2 harg2 arg3 harg3 arg7 harg7 arg10 harg10 arg20 x0 x1 x2 x6 x9) (p.1.emb x) := by
  rw [pieces2_eq]
  intro p hp
  rcases List.mem_append.mp hp with h | h
  · exact pieces_at (thirds c i arg1 harg1 arg2 harg2 arg3 harg3 arg7 harg7 arg10 harg10 arg20 x0 x1 x2 x6 x9) 2 p h
  · exact at1 c i arg1 harg1 arg2 harg2 arg3 harg3 arg7 harg7 arg10 harg10 arg20 x0 x1 x2 x6 x9 p h

theorem restored0_eq : k0_pay671 (F := Ideal)
      (kernelRun0_A.sl.v2699 (F := Ideal) c i arg1 harg1 arg2 harg2 arg3 harg3 arg7 harg7 arg10 harg10 arg20 arg21 x0 x1 x2 x6 x9)
      (kernelRun0_A.sl.v2716 (F := Ideal) c i arg1 harg1 arg2 harg2 arg3 harg3 arg7 harg7 arg10 harg10 arg20 arg21 x0 x1 x2 x6 x9)
      (kernelRun0_A.sl.v2733 (F := Ideal) c i arg1 harg1 arg2 harg2 arg3 harg3 arg7 harg7 arg10 harg10 arg20 arg21 x0 x1 x2 x6 x9)
      (kernelRun0_A.sl.v2735 (F := Ideal) c i arg1 harg1 arg2 harg2 arg3 harg3 arg7 harg7 arg10 harg10 arg20 arg21 x0 x1 x2 x6 x9)
      (kernelRun0_A.sl.v2737 (F := Ideal) c i arg1 harg1 arg2 harg2 arg3 harg3 arg7 harg7 arg10 harg10 arg20 arg21 x0 x1 x2 x6 x9)
      (kernelRun0_A.sl.v2739 (F := Ideal) c i arg1 harg1 arg2 harg2 arg3 harg3 arg7 harg7 arg10 harg10 arg20 arg21 x0 x1 x2 x6 x9)
      (kernelRun0_A.sl.v2741 (F := Ideal) c i arg1 harg1 arg2 harg2 arg3 harg3 arg7 harg7 arg10 harg10 arg20 arg21 x0 x1 x2 x6 x9)
      (kernelRun0_A.sl.v2743 (F := Ideal) c i arg1 harg1 arg2 harg2 arg3 harg3 arg7 harg7 arg10 harg10 arg20 arg21 x0 x1 x2 x6 x9)
      (kernelRun0_A.sl.v2745 (F := Ideal) c i arg1 harg1 arg2 harg2 arg3 harg3 arg7 harg7 arg10 harg10 arg20 arg21 x0 x1 x2 x6 x9)
      (kernelRun0_A.sl.v2747 (F := Ideal) c i arg1 harg1 arg2 harg2 arg3 harg3 arg7 harg7 arg10 harg10 arg20 arg21 x0 x1 x2 x6 x9)
      (kernelRun0_A.sl.v2748 (F := Ideal) c i arg1 harg1 arg2 harg2 arg3 harg3 arg7 harg7 arg10 harg10 arg20 arg21 x0 x1 x2 x6 x9)
    = restored arg21.view (kernelRun0_A.sl.HS1_256 (F := Ideal) c i arg1 harg1 arg2 harg2 arg3 harg3 arg7 harg7 arg10 harg10 arg20 x0 x1 x2 x6 x9) 0
        (fun _ => tiles8 _) (tiles4 _) := by
  sl_kernel_rfl

theorem third0_apply (r e : Fin 512) : (k0_pay671 (F := Ideal)
      (kernelRun0_A.sl.v2699 (F := Ideal) c i arg1 harg1 arg2 harg2 arg3 harg3 arg7 harg7 arg10 harg10 arg20 arg21 x0 x1 x2 x6 x9)
      (kernelRun0_A.sl.v2716 (F := Ideal) c i arg1 harg1 arg2 harg2 arg3 harg3 arg7 harg7 arg10 harg10 arg20 arg21 x0 x1 x2 x6 x9)
      (kernelRun0_A.sl.v2733 (F := Ideal) c i arg1 harg1 arg2 harg2 arg3 harg3 arg7 harg7 arg10 harg10 arg20 arg21 x0 x1 x2 x6 x9)
      (kernelRun0_A.sl.v2735 (F := Ideal) c i arg1 harg1 arg2 harg2 arg3 harg3 arg7 harg7 arg10 harg10 arg20 arg21 x0 x1 x2 x6 x9)
      (kernelRun0_A.sl.v2737 (F := Ideal) c i arg1 harg1 arg2 harg2 arg3 harg3 arg7 harg7 arg10 harg10 arg20 arg21 x0 x1 x2 x6 x9)
      (kernelRun0_A.sl.v2739 (F := Ideal) c i arg1 harg1 arg2 harg2 arg3 harg3 arg7 harg7 arg10 harg10 arg20 arg21 x0 x1 x2 x6 x9)
      (kernelRun0_A.sl.v2741 (F := Ideal) c i arg1 harg1 arg2 harg2 arg3 harg3 arg7 harg7 arg10 harg10 arg20 arg21 x0 x1 x2 x6 x9)
      (kernelRun0_A.sl.v2743 (F := Ideal) c i arg1 harg1 arg2 harg2 arg3 harg3 arg7 harg7 arg10 harg10 arg20 arg21 x0 x1 x2 x6 x9)
      (kernelRun0_A.sl.v2745 (F := Ideal) c i arg1 harg1 arg2 harg2 arg3 harg3 arg7 harg7 arg10 harg10 arg20 arg21 x0 x1 x2 x6 x9)
      (kernelRun0_A.sl.v2747 (F := Ideal) c i arg1 harg1 arg2 harg2 arg3 harg3 arg7 harg7 arg10 harg10 arg20 arg21 x0 x1 x2 x6 x9)
      (kernelRun0_A.sl.v2748 (F := Ideal) c i arg1 harg1 arg2 harg2 arg3 harg3 arg7 harg7 arg10 harg10 arg20 arg21 x0 x1 x2 x6 x9) :
      FVec Ideal S512x512 .f32) (ix2 r e)
    = kernelRun0_A.sl.r_20 (F := Ideal) c i arg1 harg1 arg2 harg2 arg3 harg3 arg7 harg7 arg10 harg10 arg20 x0 x1 x2 x6 x9
        (ix2 ⟨8 * (r.val % 64) + r.val / 64, by omega⟩ e) := by
  rw [restored0_eq]
  exact restored_apply _ (thirds c i arg1 harg1 arg2 harg2 arg3 harg3 arg7 harg7 arg10 harg10 arg20 x0 x1 x2 x6 x9) _ (at0 c i arg1 harg1 arg2 harg2 arg3 harg3 arg7 harg7 arg10 harg10 arg20 x0 x1 x2 x6 x9) 0
    (by rw [pieces0_eq]; exact fun p hp => hp) _ _ r e

theorem restored1_eq : kernelRun0_A.sl.v3899 (F := Ideal) c i arg1 harg1 arg2 harg2 arg3 harg3 arg7 harg7 arg10 harg10 arg20 arg21 x0 x1 x2 x6 x9
    = restored arg21.view (kernelRun0_A.sl.HS1_512 (F := Ideal) c i arg1 harg1 arg2 harg2 arg3 harg3 arg7 harg7 arg10 harg10 arg20 x0 x1 x2 x6 x9) 1
        (fun _ => tiles8 _) (tiles4 _) := by
  sl_kernel_rfl

theorem third1_apply (r e : Fin 512) : (kernelRun0_A.sl.v3899 (F := Ideal) c i arg1 harg1 arg2 harg2 arg3 harg3 arg7 harg7 arg10 harg10 arg20 arg21 x0 x1 x2 x6 x9 :
      FVec Ideal S512x512 .f32) (ix2 r e)
    = kernelRun0_A.sl.r_28 (F := Ideal) c i arg1 harg1 arg2 harg2 arg3 harg3 arg7 harg7 arg10 harg10 arg20 x0 x1 x2 x6 x9
        (ix2 ⟨8 * (r.val % 64) + r.val / 64, by omega⟩ e) := by
  rw [restored1_eq]
  exact restored_apply _ (thirds c i arg1 harg1 arg2 harg2 arg3 harg3 arg7 harg7 arg10 harg10 arg20 x0 x1 x2 x6 x9) _ (at1 c i arg1 harg1 arg2 harg2 arg3 harg3 arg7 harg7 arg10 harg10 arg20 x0 x1 x2 x6 x9) 1
    (by rw [pieces1_eq]; exact fun p hp => List.mem_append_left _ hp) _ _ r e

theorem restored2_eq : kernelRun0_A.sl.r_34 (F := Ideal) c i arg1 harg1 arg2 harg2 arg3 harg3 arg7 harg7 arg10 harg10 arg20 arg21 x0 x1 x2 x6 x9
    = restored arg21.view (kernelRun0_A.sl.HS1_768 (F := Ideal) c i arg1 harg1 arg2 harg2 arg3 harg3 arg7 harg7 arg10 harg10 arg20 x0 x1 x2 x6 x9) 2
        (fun _ => tiles8 _) (tiles4 _) := by
  sl_kernel_rfl

theorem third2_apply (r e : Fin 512) : (kernelRun0_A.sl.r_34 (F := Ideal) c i arg1 harg1 arg2 harg2 arg3 harg3 arg7 harg7 arg10 harg10 arg20 arg21 x0 x1 x2 x6 x9 :
      FVec Ideal S512x512 .f32) (ix2 r e)
    = kernelRun0_A.sl.r_32 (F := Ideal) c i arg1 harg1 arg2 harg2 arg3 harg3 arg7 harg7 arg10 harg10 arg20 x0 x1 x2 x6 x9
        (ix2 ⟨8 * (r.val % 64) + r.val / 64, by omega⟩ e) := by
  rw [restored2_eq]
  exact restored_apply _ (thirds c i arg1 harg1 arg2 harg2 arg3 harg3 arg7 harg7 arg10 harg10 arg20 x0 x1 x2 x6 x9) _ (at2 c i arg1 harg1 arg2 harg2 arg3 harg3 arg7 harg7 arg10 harg10 arg20 x0 x1 x2 x6 x9) 2
    (by rw [pieces2_eq]; exact fun p hp => List.mem_append_left _ hp) _ _ r e

end Cert.Proj.Scratch

end
-- ==== Proof.ProjThird.lean ====
/-
  The three thirds of the columns that the input projection's body convolves, in the interleaved row order it computes them
  in: each is the causal convolution of Proof/ProjConv.lean of the point's projected rows, of the eight projected rows before
  them, and of the weights of the convolution, on the third's 512 columns.
-/
module

public import proofs.«01_k».proof.Proof.ProjScratch
public import proofs.«01_k».proof.Proof.ProjConv
public import Idealize.ShloMosaic.Lib.Pipeline.ValueKit

@[expose] public section

set_option maxRecDepth 65536
set_option maxHeartbeats 4000000

noncomputable section

namespace Cert.Proj.Third

open Idealize.ShloMosaic Cert.Kernel3Ideal Cert.Kernel3Ideal.Gen Cert.Tail Cert.Proj.Plane Cert.Proj.Conv

/-- One third as the body computes it, from the interleaved normed rows, the eight normed rows before them, the number of the
    block in its sequence, and the third's columns of the two weights. -/
def chunk (h : FVec Ideal S512x1024 .bf16) (g : FVec Ideal S8x1024 .bf16) (j : BitVec 32) (w : Vec Ideal S1024x512 .bf16)
    (cw : Vec Ideal S4x512 .f32) : FVec Ideal S512x512 .f32 :=
  k0_pay355 (k0_pay348 h w) (k0_pay350 h g 4#32 j w w) (k0_pay351 h g 4#32 j w w) (k0_pay352 h g 4#32 j w w) (k0_pay353 cw)
    (k0_pay354 cw)

/-- The projected rows of the point on column `d` of the recurrence's part. -/
def cols (x0 : Vec Ideal S512x1024 .f32) (x2 : Vec Ideal S1x1024 .f32) (x6 : Vec Ideal S1024x1536 .bf16) (d : Fin 1536)
    (r : Fin 512) : EReal := ∑ e, Block.hrow x0 x2 r e * x6 (ix2 e d)

/-- The eight projected rows before the point on column `d`, zeros where block `j` opens its sequence. -/
def tail (j : BitVec 32) (x1 : Vec Ideal S8x1024 .f32) (x2 : Vec Ideal S1x1024 .f32) (x6 : Vec Ideal S1024x1536 .bf16) (d : Fin 1536)
    (q : Fin 8) : EReal :=
  Scalar.select (opens 4#32 j) 0 (∑ e, normed (fun e => x1 (ix2 q e)) (fun e => x2 (ix2 0 e)) e * x6 (ix2 e d))

theorem chunk_at (h : FVec Ideal S512x1024 .bf16) (g : FVec Ideal S8x1024 .bf16) (j : BitVec 32) (w : Vec Ideal S1024x512 .bf16)
    (cw : Vec Ideal S4x512 .f32) (x0 : Vec Ideal S512x1024 .f32) (x1 : Vec Ideal S8x1024 .f32) (x2 : Vec Ideal S1x1024 .f32)
    (x6 : Vec Ideal S1024x1536 .bf16) (x9 : Vec Ideal S4x1536 .f32) (d : Fin 512) (D : Fin 1536)
    (hh : ∀ (p : Fin 512) (e : Fin 1024), h (ix2 p e) = Block.hrow x0 x2 ⟨64 * (p.val % 8) + p.val / 8, by omega⟩ e)
    (hg : ∀ (q : Fin 8) (e : Fin 1024), g (ix2 q e) = normed (fun e => x1 (ix2 q e)) (fun e => x2 (ix2 0 e)) e)
    (hw : ∀ e : Fin 1024, w (ix2 e d) = x6 (ix2 e D)) (hcw : ∀ k : Fin 4, cw (ix2 k d) = x9 (ix2 k D))
    (p r : Fin 512) (hr : r.val = 64 * (p.val % 8) + p.val / 8) :
    chunk h g j w cw (ix2 p d) = siluH (halved (cols x0 x2 x6 D) (tail j x1 x2 x6 D) (fun k => x9 (ix2 k D)) r) := by
  have ht : ∀ q : Fin 8, k0_pay349 (F := Ideal) g 4#32 j w (ix2 q d) = tail j x1 x2 x6 D q := by
    intro q
    rw [prev_apply]
    simp only [hg, hw]
    rfl
  refine chunk_apply _ _ _ _ _ _ d _ _ _ ?_ ?_ ?_ ?_ ?_ ?_ p r hr
  · intro p r hr
    rw [cur_apply]
    simp only [hh, hw]
    exact congrArg (cols x0 x2 x6 D) (Fin.ext hr.symm)
  · intro b
    rw [wrap5_apply, ht]
  · intro b
    rw [wrap6_apply, ht]
  · intro b
    rw [wrap7_apply, ht]
  · intro k
    rw [taps_apply, hcw]
  · rw [tap3_apply, hcw]

variable (c : Dev nD) (i : grid0.Coords) (arg1 : Memref sig .tc .vmem S512x1024 .f32) (harg1 : arg1.IsWhole)
  (arg2 : Memref sig .tc .vmem S8x1024 .f32) (harg2 : arg2.IsWhole) (arg3 : Memref sig .tc .vmem S1x1024 .f32) (harg3 : arg3.IsWhole)
  (arg7 : Memref sig .tc .vmem S1024x1536 .bf16) (harg7 : arg7.IsWhole) (arg10 : Memref sig .tc .vmem S4x1536 .f32) (harg10 : arg10.IsWhole)
  (arg20 : Memref sig .tc .vmem S8x576x128 .f32)
  (x0 : Vec Ideal S512x1024 .f32) (x1 : Vec Ideal S8x1024 .f32) (x2 : Vec Ideal S1x1024 .f32) (x6 : Vec Ideal S1024x1536 .bf16)
  (x9 : Vec Ideal S4x1536 .f32)

theorem rows_eq : kernelRun0_A.sl.r (F := Ideal) c arg1 harg1 arg3 harg3 x0 x2 = k0_pay1 x0 x2 := by
  have e : kernelRun0_A.sl.r (F := Ideal) c arg1 harg1 arg3 harg3 x0 x2
      = k0_pay1 (View.ld (arg1.view.read (Elt Ideal) (harg1.unread x0)) (Rect.unit ![0, 0] S512x1024.size inb_S512x1024_S512x1024_0_0))
          (View.ld (arg3.view.read (Elt Ideal) (harg3.unread x2)) (Rect.unit ![0, 0] S1x1024.size inb_S1x1024_S1x1024_0_0)) := rfl
  rw [e, harg1.read_unread, harg3.read_unread, View.ld_unit_lit' _ _ (by decide), View.ld_unit_lit' _ _ (by decide)]

theorem before_eq : kernelRun0_A.sl.r_13 (F := Ideal) c arg2 harg2 arg3 harg3 x1 x2 = k0_pay346 x1 x2 := by
  have e : kernelRun0_A.sl.r_13 (F := Ideal) c arg2 harg2 arg3 harg3 x1 x2
      = k0_pay346 (View.ld (arg2.view.read (Elt Ideal) (harg2.unread x1)) (Rect.unit ![0, 0] S8x1024.size inb_S8x1024_S8x1024_0_0))
          (View.ld (arg3.view.read (Elt Ideal) (harg3.unread x2)) (Rect.unit ![0, 0] S1x1024.size inb_S1x1024_S1x1024_0_0)) := rfl
  rw [e, harg2.read_unread, harg3.read_unread, View.ld_unit_lit' _ _ (by decide), View.ld_unit_lit' _ _ (by decide)]

/-- The interleaved normed rows. -/
theorem inter_apply (p : Fin 512) (e : Fin 1024) : kernelRun0_A.sl.r_12 (F := Ideal) c arg1 harg1 arg3 harg3 arg20 x0 x2 (ix2 p e)
    = Block.hrow x0 x2 ⟨64 * (p.val % 8) + p.val / 8, by omega⟩ e := by
  rw [Scratch.permuted_eq]
  refine (permuted_apply _ _ (fun _ => Scratch.ones8 _) (Scratch.ones64 _) p e).trans ?_
  rw [rows_eq]
  exact Block.normed_apply x0 x2 _ e

/-- The eight normed rows before the block. -/
theorem before_apply (q : Fin 8) (e : Fin 1024) : kernelRun0_A.sl.r_13 (F := Ideal) c arg2 harg2 arg3 harg3 x1 x2 (ix2 q e)
    = normed (fun e => x1 (ix2 q e)) (fun e => x2 (ix2 0 e)) e := by
  rw [before_eq]
  exact hp_apply x1 x2 q e

theorem third0_eq : kernelRun0_A.sl.r_20 (F := Ideal) c i arg1 harg1 arg2 harg2 arg3 harg3 arg7 harg7 arg10 harg10 arg20 x0 x1 x2 x6 x9
    = chunk (kernelRun0_A.sl.r_12 (F := Ideal) c arg1 harg1 arg3 harg3 arg20 x0 x2) (kernelRun0_A.sl.r_13 (F := Ideal) c arg2 harg2 arg3 harg3 x1 x2)
        (Scalar.remsi (BitVec.ofNat 32 (i 0)) 4#32)
        (View.readAt (Elt Ideal) arg7.view (Rect.unit (s := S1024x1536) ![0, 0] S1024x512.size inb_S1024x1536_S1024x512_0_0).toLoadRect (harg7.unread x6))
        (View.readAt (Elt Ideal) arg10.view (Rect.unit (s := S4x1536) ![0, 0] S4x512.size inb_S4x1536_S4x512_0_0).toLoadRect (harg10.unread x9)) := by
  sl_kernel_rfl

theorem third0_at (d : Fin 512) (p r : Fin 512) (hr : r.val = 64 * (p.val % 8) + p.val / 8) :
    kernelRun0_A.sl.r_20 (F := Ideal) c i arg1 harg1 arg2 harg2 arg3 harg3 arg7 harg7 arg10 harg10 arg20 x0 x1 x2 x6 x9 (ix2 p d)
    = siluH (halved (cols x0 x2 x6 ⟨0 + d.val, by omega⟩) (tail (Scalar.remsi (BitVec.ofNat 32 (i 0)) 4#32) x1 x2 x6 ⟨0 + d.val, by omega⟩)
        (fun k => x9 (ix2 k ⟨0 + d.val, by omega⟩)) r) := by
  rw [third0_eq]
  refine chunk_at _ _ _ _ _ x0 x1 x2 x6 x9 d ⟨0 + d.val, by omega⟩ (inter_apply c arg1 harg1 arg3 harg3 arg20 x0 x2)
    (before_apply c arg2 harg2 arg3 harg3 x1 x2) (fun e => ?_) (fun k => ?_) p r hr
  · refine (View.ld_unit_apply_of _ _ _ _ (ix2 e d) (ix2 e ⟨0 + d.val, by omega⟩) fun a => ?_).trans (congrFun (harg7.read_unread x6) _)
    match a with
    | ⟨0, _⟩ => exact (Nat.zero_add _).symm
    | ⟨1, _⟩ => rfl
  · refine (View.ld_unit_apply_of _ _ _ _ (ix2 k d) (ix2 k ⟨0 + d.val, by omega⟩) fun a => ?_).trans (congrFun (harg10.read_unread x9) _)
    match a with
    | ⟨0, _⟩ => exact (Nat.zero_add _).symm
    | ⟨1, _⟩ => rfl

theorem third1_eq : kernelRun0_A.sl.r_28 (F := Ideal) c i arg1 harg1 arg2 harg2 arg3 harg3 arg7 harg7 arg10 harg10 arg20 x0 x1 x2 x6 x9
    = chunk (kernelRun0_A.sl.r_12 (F := Ideal) c arg1 harg1 arg3 harg3 arg20 x0 x2) (kernelRun0_A.sl.r_13 (F := Ideal) c arg2 harg2 arg3 harg3 x1 x2)
        (Scalar.remsi (BitVec.ofNat 32 (i 0)) 4#32)
        (View.readAt (Elt Ideal) arg7.view (Rect.unit (s := S1024x1536) ![0, 512] S1024x512.size inb_S1024x1536_S1024x512_0_512).toLoadRect (harg7.unread x6))
        (View.readAt (Elt Ideal) arg10.view (Rect.unit (s := S4x1536) ![0, 512] S4x512.size inb_S4x1536_S4x512_0_512).toLoadRect (harg10.unread x9)) := by
  sl_kernel_rfl

theorem third1_at (d : Fin 512) (p r : Fin 512) (hr : r.val = 64 * (p.val % 8) + p.val / 8) :
    kernelRun0_A.sl.r_28 (F := Ideal) c i arg1 harg1 arg2 harg2 arg3 harg3 arg7 harg7 arg10 harg10 arg20 x0 x1 x2 x6 x9 (ix2 p d)
    = siluH (halved (cols x0 x2 x6 ⟨512 + d.val, by omega⟩) (tail (Scalar.remsi (BitVec.ofNat 32 (i 0)) 4#32) x1 x2 x6 ⟨512 + d.val, by omega⟩)
        (fun k => x9 (ix2 k ⟨512 + d.val, by omega⟩)) r) := by
  rw [third1_eq]
  refine chunk_at _ _ _ _ _ x0 x1 x2 x6 x9 d ⟨512 + d.val, by omega⟩ (inter_apply c arg1 harg1 arg3 harg3 arg20 x0 x2)
    (before_apply c arg2 harg2 arg3 harg3 x1 x2) (fun e => ?_) (fun k => ?_) p r hr
  · refine (View.ld_unit_apply_of _ _ _ _ (ix2 e d) (ix2 e ⟨512 + d.val, by omega⟩) fun a => ?_).trans (congrFun (harg7.read_unread x6) _)
    match a with
    | ⟨0, _⟩ => exact (Nat.zero_add _).symm
    | ⟨1, _⟩ => rfl
  · refine (View.ld_unit_apply_of _ _ _ _ (ix2 k d) (ix2 k ⟨512 + d.val, by omega⟩) fun a => ?_).trans (congrFun (harg10.read_unread x9) _)
    match a with
    | ⟨0, _⟩ => exact (Nat.zero_add _).symm
    | ⟨1, _⟩ => rfl

theorem third2_eq : kernelRun0_A.sl.r_32 (F := Ideal) c i arg1 harg1 arg2 harg2 arg3 harg3 arg7 harg7 arg10 harg10 arg20 x0 x1 x2 x6 x9
    = chunk (kernelRun0_A.sl.r_12 (F := Ideal) c arg1 harg1 arg3 harg3 arg20 x0 x2) (kernelRun0_A.sl.r_13 (F := Ideal) c arg2 harg2 arg3 harg3 x1 x2)
        (Scalar.remsi (BitVec.ofNat 32 (i 0)) 4#32)
        (View.readAt (Elt Ideal) arg7.view (Rect.unit (s := S1024x1536) ![0, 1024] S1024x512.size inb_S1024x1536_S1024x512_0_1024).toLoadRect (harg7.unread x6))
        (View.readAt (Elt Ideal) arg10.view (Rect.unit (s := S4x1536) ![0, 1024] S4x512.size inb_S4x1536_S4x512_0_1024).toLoadRect (harg10.unread x9)) := by
  sl_kernel_rfl

theorem third2_at (d : Fin 512) (p r : Fin 512) (hr : r.val = 64 * (p.val % 8) + p.val / 8) :
    kernelRun0_A.sl.r_32 (F := Ideal) c i arg1 harg1 arg2 harg2 arg3 harg3 arg7 harg7 arg10 harg10 arg20 x0 x1 x2 x6 x9 (ix2 p d)
    = siluH (halved (cols x0 x2 x6 ⟨1024 + d.val, by omega⟩) (tail (Scalar.remsi (BitVec.ofNat 32 (i 0)) 4#32) x1 x2 x6 ⟨1024 + d.val, by omega⟩)
        (fun k => x9 (ix2 k ⟨1024 + d.val, by omega⟩)) r) := by
  rw [third2_eq]
  refine chunk_at _ _ _ _ _ x0 x1 x2 x6 x9 d ⟨1024 + d.val, by omega⟩ (inter_apply c arg1 harg1 arg3 harg3 arg20 x0 x2)
    (before_apply c arg2 harg2 arg3 harg3 x1 x2) (fun e => ?_) (fun k => ?_) p r hr
  · refine (View.ld_unit_apply_of _ _ _ _ (ix2 e d) (ix2 e ⟨1024 + d.val, by omega⟩) fun a => ?_).trans (congrFun (harg7.read_unread x6) _)
    match a with
    | ⟨0, _⟩ => exact (Nat.zero_add _).symm
    | ⟨1, _⟩ => rfl
  · refine (View.ld_unit_apply_of _ _ _ _ (ix2 k d) (ix2 k ⟨1024 + d.val, by omega⟩) fun a => ?_).trans (congrFun (harg10.read_unread x9) _)
    match a with
    | ⟨0, _⟩ => exact (Nat.zero_add _).symm
    | ⟨1, _⟩ => rfl

end Cert.Proj.Third

end
-- ==== Proof.ProjStored.lean ====
/-
  What the body leaves in the output buffer of the recurrence's columns: three stores of 512 columns each, put together into
  the causal convolution of all 1536 columns in the order of the tokens.
-/
module

public import proofs.«01_k».proof.Proof.ProjThird

@[expose] public section

set_option maxRecDepth 65536
set_option maxHeartbeats 4000000

noncomputable section

namespace Cert.Proj.Stored

open Idealize.ShloMosaic Cert.Kernel3Ideal Cert.Kernel3Ideal.Gen Cert.Tail Cert.Proj.Conv Cert.Proj.Third

variable (c : Dev nD) (i : grid0.Coords) (arg1 : Memref sig .tc .vmem S512x1024 .f32) (harg1 : arg1.IsWhole) (arg2 : Memref sig .tc .vmem S8x1024
  .f32) (harg2 : arg2.IsWhole) (arg3 : Memref sig .tc .vmem S1x1024 .f32) (harg3 : arg3.IsWhole) (arg4 : Memref sig .tc .vmem S512x1024 .bf16)
  (harg4 : arg4.IsWhole) (arg5 : Memref sig .tc .vmem S1024x512 .bf16) (harg5 : arg5.IsWhole) (arg6 : Memref sig .tc .vmem S512x1024 .bf16)
  (harg6 : arg6.IsWhole) (arg7 : Memref sig .tc .vmem S1024x1536 .bf16) (harg7 : arg7.IsWhole) (arg8 : Memref sig .tc .vmem S1024x512 .bf16)
  (harg8 : arg8.IsWhole) (arg9 : Memref sig .tc .vmem S1024x128 .bf16) (harg9 : arg9.IsWhole) (arg10 : Memref sig .tc .vmem S4x1536 .f32)
  (harg10 : arg10.IsWhole) (arg11 : Memref sig .tc .vmem S1x128 .f32) (harg11 : arg11.IsWhole) (arg12 : Memref sig .tc .vmem S1x128 .f32)
  (harg12 : arg12.IsWhole) (arg13 : Memref sig .tc .vmem S1x2x512x256 .f32) (harg13 : arg13.IsWhole) (arg14 : Memref sig .tc .vmem S512x512
  .bf16) (harg14 : arg14.IsWhole) (arg15 : Memref sig .tc .vmem S1x8x512 .f32) (harg15 : arg15.IsWhole) (arg16 : Memref sig .tc .vmem
  S1x2x8x80x256 .bf16) (harg16 : arg16.IsWhole) (arg17 : Memref sig .tc .vmem S512x1536 .f32) (harg17 : arg17.IsWhole) (arg18 : Memref sig .tc
  .vmem S512x512 .f32) (harg18 : arg18.IsWhole) (arg19 : Memref sig .tc .vmem S512x128 .f32) (harg19 : arg19.IsWhole) (arg20 : Memref sig .tc
  .vmem S8x576x128 .f32) (harg20 : arg20.IsWhole) (arg21 : Memref sig .tc .vmem S3x4x576x128 .f32) (harg21 : arg21.IsWhole)
  (x0 : Vec Ideal S512x1024 .f32) (x1 : Vec Ideal S8x1024 .f32) (x2 : Vec Ideal S1x1024 .f32) (x3 : Vec Ideal S512x1024 .bf16) (x4 : Vec Ideal
  S1024x512 .bf16) (x5 : Vec Ideal S512x1024 .bf16) (x6 : Vec Ideal S1024x1536 .bf16) (x7 : Vec Ideal S1024x512 .bf16) (x8 : Vec Ideal
  S1024x128 .bf16) (x9 : Vec Ideal S4x1536 .f32) (x10 : Vec Ideal S1x128 .f32) (x11 : Vec Ideal S1x128 .f32)

/-- The three stores. -/
theorem stores : out0_A_16 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20 arg21
      harg21 x0 x1 x2 x3 x4 x5 x6 x7 x8 x9 x10 x11
    = View.canon [(⟨Rect.unit (s := S512x1536) ![0, 1024] S512x512.size inb_S512x1536_S512x512_0_1024,
          kernelRun0_A.sl.r_34 (F := Ideal) c i arg1 harg1 arg2 harg2 arg3 harg3 arg7 harg7 arg10 harg10 arg20 arg21 x0 x1 x2 x6 x9⟩ : View.Piece (Elt Ideal) S512x1536 .f32),
        ⟨Rect.unit (s := S512x1536) ![0, 512] S512x512.size inb_S512x1536_S512x512_0_512,
          kernelRun0_A.sl.v3899 (F := Ideal) c i arg1 harg1 arg2 harg2 arg3 harg3 arg7 harg7 arg10 harg10 arg20 arg21 x0 x1 x2 x6 x9⟩,
        ⟨Rect.unit (s := S512x1536) ![0, 0] S512x512.size inb_S512x1536_S512x512_0_0,
          k0_pay671 (F := Ideal)
      (kernelRun0_A.sl.v2699 (F := Ideal) c i arg1 harg1 arg2 harg2 arg3 harg3 arg7 harg7 arg10 harg10 arg20 arg21 x0 x1 x2 x6 x9)
      (kernelRun0_A.sl.v2716 (F := Ideal) c i arg1 harg1 arg2 harg2 arg3 harg3 arg7 harg7 arg10 harg10 arg20 arg21 x0 x1 x2 x6 x9)
      (kernelRun0_A.sl.v2733 (F := Ideal) c i arg1 harg1 arg2 harg2 arg3 harg3 arg7 harg7 arg10 harg10 arg20 arg21 x0 x1 x2 x6 x9)
      (kernelRun0_A.sl.v2735 (F := Ideal) c i arg1 harg1 arg2 harg2 arg3 harg3 arg7 harg7 arg10 harg10 arg20 arg21 x0 x1 x2 x6 x9)
      (kernelRun0_A.sl.v2737 (F := Ideal) c i arg1 harg1 arg2 harg2 arg3 harg3 arg7 harg7 arg10 harg10 arg20 arg21 x0 x1 x2 x6 x9)
      (kernelRun0_A.sl.v2739 (F := Ideal) c i arg1 harg1 arg2 harg2 arg3 harg3 arg7 harg7 arg10 harg10 arg20 arg21 x0 x1 x2 x6 x9)
      (kernelRun0_A.sl.v2741 (F := Ideal) c i arg1 harg1 arg2 harg2 arg3 harg3 arg7 harg7 arg10 harg10 arg20 arg21 x0 x1 x2 x6 x9)
      (kernelRun0_A.sl.v2743 (F := Ideal) c i arg1 harg1 arg2 harg2 arg3 harg3 arg7 harg7 arg10 harg10 arg20 arg21 x0 x1 x2 x6 x9)
      (kernelRun0_A.sl.v2745 (F := Ideal) c i arg1 harg1 arg2 harg2 arg3 harg3 arg7 harg7 arg10 harg10 arg20 arg21 x0 x1 x2 x6 x9)
      (kernelRun0_A.sl.v2747 (F := Ideal) c i arg1 harg1 arg2 harg2 arg3 harg3 arg7 harg7 arg10 harg10 arg20 arg21 x0 x1 x2 x6 x9)
      (kernelRun0_A.sl.v2748 (F := Ideal) c i arg1 harg1 arg2 harg2 arg3 harg3 arg7 harg7 arg10 harg10 arg20 arg21 x0 x1 x2 x6 x9)⟩] :=
  (View.read_writes_junk_eq_canon _ _).trans (congrArg View.canon (by sl_kernel_rfl))

/-- The stored block at a row and a column. -/
theorem stored_apply (r : Fin 512) (d : Fin 1536) : out0_A_16 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20 arg21
      harg21 x0 x1 x2 x3 x4 x5 x6 x7 x8 x9 x10 x11 (ix2 r d)
    = siluH (halved (cols x0 x2 x6 d) (tail (Scalar.remsi (BitVec.ofNat 32 (i 0)) 4#32) x1 x2 x6 d) (fun k => x9 (ix2 k d)) r) := by
  rw [stores]
  canon_tiles x h
  all_goals
    obtain ⟨r', e, rfl⟩ : ∃ (r' e : Fin 512), x = ix2 r' e := ⟨_, _, eq_ix2 x⟩
    have hr : r.val = r'.val := h0
    obtain rfl : r = r' := Fin.ext hr
    have hp : r.val = 64 * ((8 * (r.val % 64) + r.val / 64) % 8) + (8 * (r.val % 64) + r.val / 64) / 8 := by omega
  · have hd : d = ⟨1024 + e.val, by omega⟩ := Fin.ext h1
    rw [hd]
    exact (Scratch.third2_apply c i arg1 harg1 arg2 harg2 arg3 harg3 arg7 harg7 arg10 harg10 arg20 arg21 x0 x1 x2 x6 x9 r e).trans
      (third2_at c i arg1 harg1 arg2 harg2 arg3 harg3 arg7 harg7 arg10 harg10 arg20 x0 x1 x2 x6 x9 e _ r hp)
  · have hd : d = ⟨512 + e.val, by omega⟩ := Fin.ext h1
    rw [hd]
    exact (Scratch.third1_apply c i arg1 harg1 arg2 harg2 arg3 harg3 arg7 harg7 arg10 harg10 arg20 arg21 x0 x1 x2 x6 x9 r e).trans
      (third1_at c i arg1 harg1 arg2 harg2 arg3 harg3 arg7 harg7 arg10 harg10 arg20 x0 x1 x2 x6 x9 e _ r hp)
  · have hd : d = ⟨0 + e.val, by omega⟩ := Fin.ext (h1.trans (Nat.zero_add _).symm)
    rw [hd]
    exact (Scratch.third0_apply c i arg1 harg1 arg2 harg2 arg3 harg3 arg7 harg7 arg10 harg10 arg20 arg21 x0 x1 x2 x6 x9 r e).trans
      (third0_at c i arg1 harg1 arg2 harg2 arg3 harg3 arg7 harg7 arg10 harg10 arg20 x0 x1 x2 x6 x9 e _ r hp)

end Cert.Proj.Stored

end
-- ==== Proof.ProjMixed.lean ====
/-
  The result array of the recurrence's columns after the run, index by index: the causal convolution along the tokens of a
  sequence, then the activation. A block of 512 tokens lies in one sequence, and the eight tokens before it belong to the same
  sequence unless the block opens it.
-/
module

public import proofs.«01_k».proof.Proof.ProjWhole
public import proofs.«01_k».proof.Proof.ProjStored

@[expose] public section

set_option maxRecDepth 16384
set_option maxHeartbeats 4000000

noncomputable section

namespace Cert.Proj.Mixed

open Idealize.ShloMosaic Idealize.ShloMosaic.TcCoe Cert.Kernel3Ideal Cert.Kernel3Ideal.Gen Cert.Kernel3Ideal.Value Cert.Proj.Entry Cert.Tail Cert.Proj.Conv
  Cert.Proj.Third

/-- Block `n` opens its sequence when four divides `n`. -/
theorem opens_eq : ∀ n : Fin 64, opens 4#32 (Scalar.remsi (BitVec.ofNat 32 n.val) 4#32) = if n.val % 4 = 0 then 1#1 else 0#1 := by
  decide +kernel

variable (m : (ℓ : Loc nD τ sig) → Buf (Elt Ideal) ℓ) (c : Dev nD) (t : Fin cfg0.N)

theorem coord_val : (grid0.coords t 0).val = t.val := by
  have h : ∀ t : Fin cfg0.N, (grid0.coords t 0).val = t.val := by decide +kernel
  exact h t

/-- The projected rows of the point are entries of the projection. -/
theorem cols_eq (d : Fin 1536) (r : Fin 512) (i : Fin 32768) (hi : i.val = t.val * 512 + r.val) :
    cols (iblk m c 0 t) (iblk m c 2 t) (iblk m c 6 t) d r
    = entry (argX m c) (argW m c) (argN m c) ⟨i.val / 2048, by omega⟩ ⟨i.val % 2048, by omega⟩ ⟨1536 + d.val, by omega⟩ :=
  Whole.entry_of m c t r i hi (fun e => iblk m c 6 t (ix2 e d)) _ fun e => b6 m c t e d

/-- The projected rows before the point: zeros at a sequence's start. -/
theorem tail_zero (d : Fin 1536) (q : Fin 8) (ht : t.val % 4 = 0) :
    Third.tail (Scalar.remsi (BitVec.ofNat 32 (grid0.coords t 0).val) 4#32) (iblk m c 1 t) (iblk m c 2 t) (iblk m c 6 t) d q = 0 := by
  unfold Third.tail
  rw [coord_val, opens_eq ⟨t.val, Whole.lt64 t⟩, if_pos ht]
  rfl

/-- The projected rows before the point: entries of the projection past a sequence's start. -/
theorem tail_eq (d : Fin 1536) (q : Fin 8) (ht : t.val % 4 ≠ 0) (i : Fin 32768) (hi : i.val = (64 * t.val - 1) * 8 + q.val) :
    Third.tail (Scalar.remsi (BitVec.ofNat 32 (grid0.coords t 0).val) 4#32) (iblk m c 1 t) (iblk m c 2 t) (iblk m c 6 t) d q
    = entry (argX m c) (argW m c) (argN m c) ⟨i.val / 2048, by omega⟩ ⟨i.val % 2048, by omega⟩ ⟨1536 + d.val, by omega⟩ := by
  have e1 : (fun e => iblk m c 1 t (ix2 q e)) = fun e => argX m c (ix3 ⟨i.val / 2048, by omega⟩ ⟨i.val % 2048, by omega⟩ e) :=
    funext fun e => b1 m c t q e i hi
  have e2 : (fun e => iblk m c 2 t (ix2 0 e)) = fun e => argN m c (ix2 0 e) := funext fun e => b2 m c t e
  have e6 : (fun e => iblk m c 6 t (ix2 e d)) = fun e => argW m c (ix3 0 e ⟨1536 + d.val, by omega⟩) := funext fun e => b6 m c t e d
  unfold Third.tail
  rw [coord_val, opens_eq ⟨t.val, Whole.lt64 t⟩, if_neg ht]
  show ∑ e, normed (fun e => iblk m c 1 t (ix2 q e)) (fun e => iblk m c 2 t (ix2 0 e)) e * (fun e => iblk m c 6 t (ix2 e d)) e = _
  rw [e1, e2, e6]
  rfl

theorem entry_congr (X : FVec Ideal ⟨3, ![16, 2048, 1024]⟩ .f32) (W : FVec Ideal ⟨3, ![1, 1024, 3600]⟩ .f32) (N : FVec Ideal ⟨2, ![1, 1024]⟩ .f32)
    {b b' : Fin 16} {s s' : Fin 2048} (hb : b.val = b'.val) (hs : s.val = s'.val) (j : Fin 3600) :
    entry X W N b s j = entry X W N b' s' j := by
  rw [Fin.ext hb, Fin.ext hs]

/-- A shift by `s` rows is a look `s` tokens back. -/
theorem shifted_eq (d : Fin 1536) (r : Fin 512) (s : Nat) (hs : s ≤ 3) (i : Fin 32768) (hi : i.val = t.val * 512 + r.val) :
    shifted (cols (iblk m c 0 t) (iblk m c 2 t) (iblk m c 6 t) d)
      (Third.tail (Scalar.remsi (BitVec.ofNat 32 (grid0.coords t 0).val) 4#32) (iblk m c 1 t) (iblk m c 2 t) (iblk m c 6 t) d) r s hs
    = before (argX m c) (argW m c) (argN m c) ⟨i.val / 2048, by omega⟩ ⟨i.val % 2048, by omega⟩ d s := by
  have ht := Whole.lt64 t
  unfold shifted before
  by_cases h : s ≤ r.val
  · rw [if_pos h, if_pos (by show s ≤ i.val % 2048; omega), cols_eq m c t d ⟨r.val - s, by omega⟩ ⟨i.val - s, by omega⟩ (by show i.val - s = t.val * 512 + (r.val - s); omega)]
    refine entry_congr _ _ _ ?_ ?_ _
    · show (i.val - s) / 2048 = i.val / 2048
      omega
    · show (i.val - s) % 2048 = i.val % 2048 - s
      omega
  · rw [if_neg h, dif_pos (by omega)]
    by_cases h4 : t.val % 4 = 0
    · rw [tail_zero m c t d _ h4, if_neg (by show ¬ s ≤ i.val % 2048; omega)]
    · rw [tail_eq m c t d _ h4 ⟨i.val - s, by omega⟩ (by show i.val - s = (64 * t.val - 1) * 8 + (8 + r.val - s); omega),
        if_pos (by show s ≤ i.val % 2048; omega)]
      refine entry_congr _ _ _ ?_ ?_ _
      · show (i.val - s) / 2048 = i.val / 2048
        omega
      · show (i.val - s) % 2048 = i.val % 2048 - s
        omega

/-- The recurrence's columns' array. -/
theorem final16 (hW : ∀ i, Fin' (argW m c i)) (hC : ∀ i, Fin' (argC m c i)) (hN : ∀ i, Fin' (argN m c i)) :
    (dats m 0 c).arrAt 16 cfg0.N = mixed (argX m c) (argW m c) (argC m c) (argN m c) := by
  refine (dats m 0 c).arrAt_eq_of_covers 16 _ (by decide +kernel) fun t hf y => ?_
  have ht := Whole.lt64 t
  obtain ⟨r, d, rfl⟩ : ∃ (r : Fin 512) (d : Fin 1536), y = ix2 r d := ⟨y 0, y 1, eq_ix2 y⟩
  rw [emb16 t r d ⟨t.val * 512 + r.val, by omega⟩ rfl]
  have hc : (dats m 0 c).flushed 16 t (ix2 r d)
      = siluH (halved (cols (iblk m c 0 t) (iblk m c 2 t) (iblk m c 6 t) d)
          (Third.tail (Scalar.remsi (BitVec.ofNat 32 (grid0.coords t 0).val) 4#32) (iblk m c 1 t) (iblk m c 2 t) (iblk m c 6 t) d)
          (fun k => iblk m c 9 t (ix2 k d)) r) := by
    rw [← Stored.stored_apply c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) r d,
      Cert.Kernel3Ideal.Value.flushed16_A]
    generalize out0_A_16 c (grid0.coords t) (ms0_0 t) _ _ _ _ _ _ _ _ _ _ _ _ _ _ _ _ _ _ _ _ _ _ _ _ _ _ _ _ _ _ _ _ _ _ _ _ _ _ _ _ _
      (iblk m c 0 t) _ _ _ _ _ _ _ _ _ _ _ = v
    rfl
  have e9 : (fun k => iblk m c 9 t (ix2 k d)) = fun k => argC m c (ix3 0 k d) := funext fun k => b9 m c t k d
  have hP : ∀ r', Fin' (cols (iblk m c 0 t) (iblk m c 2 t) (iblk m c 6 t) d r') := fun r' => by
    rw [cols_eq m c t d r' ⟨t.val * 512 + r'.val, by omega⟩ rfl]
    exact entry_fin _ _ _ hW hN _ _ _
  have hQ : ∀ q, Fin' (Third.tail (Scalar.remsi (BitVec.ofNat 32 (grid0.coords t 0).val) 4#32) (iblk m c 1 t) (iblk m c 2 t) (iblk m c 6 t) d q) := fun q => by
    by_cases h4 : t.val % 4 = 0
    · rw [tail_zero m c t d q h4]
      exact Fin'.zero
    · rw [tail_eq m c t d q h4 ⟨(64 * t.val - 1) * 8 + q.val, by omega⟩ rfl]
      exact entry_fin _ _ _ hW hN _ _ _
  refine hc.trans ?_
  rw [e9, halved_eq hP hQ (fun k => hC _) r, siluH_half (whole_fin hP hQ (fun k => hC _) r)]
  unfold whole
  simp only [shifted_eq m c t d r _ _ ⟨t.val * 512 + r.val, by omega⟩ rfl]
  rfl

end Cert.Proj.Mixed

end
-- ==== Proof.ProjFurther.lean ====
/-
  Two further results of the input projection, index by index: the sums of the keys over blocks of 256 tokens, and the gates
  of the recurrence (eight columns of log decays, eight of write strengths, then constant columns).
-/
module

public import proofs.«01_k».proof.Proof.ProjResult

@[expose] public section

noncomputable section

namespace Cert.Proj

open Idealize.ShloMosaic Cert.Tail

/-- The log decay of a head with rate `a`, at the argument `s`: the rate's exponential times softplus, negated. -/
def decay (a s : EReal) : EReal := -(Ideal.exp a) * (max s 0 + Ideal.log1p (Ideal.exp (-(max s (-s)))))

/-- The logistic function as the reference writes it. -/
def sigmoid (z : EReal) : EReal := Ideal.div 1 (1 + Ideal.exp (-z))

/-- The logistic function as the kernel takes it. -/
def sigmoidH (z : EReal) : EReal := half * Ideal.tanh (half * z) + half

/-- The two spellings of the logistic function agree on real numbers. -/
theorem sigmoidH_eq {z : EReal} (hz : Fin' z) : sigmoidH z = sigmoid z := by
  obtain ⟨z, rfl⟩ := hz
  have hd : Ideal.div 1 (1 + Ideal.exp (-(z : EReal))) = (((1 + Real.exp (-z))⁻¹ : ℝ) : EReal) :=
    Ideal.logistic_coe z
  unfold sigmoidH sigmoid
  rw [hd, half_eq, ← EReal.coe_mul, Ideal.tanh_coe, ← EReal.coe_mul, ← EReal.coe_add]
  congr 1
  have h2 : Real.exp (-z) = Real.exp (-(1 / 2 * z)) * Real.exp (-(1 / 2 * z)) := by rw [← Real.exp_add]; congr 1; ring
  rw [Real.tanh_eq_sinh_div_cosh, Real.sinh_eq, Real.cosh_eq]
  have h3 : Real.exp (1 / 2 * z) = (Real.exp (-(1 / 2 * z)))⁻¹ := by rw [← Real.exp_neg]; congr 1; ring
  rw [h2, h3]
  have hu2 : 0 < Real.exp (-(1 / 2 * z)) := Real.exp_pos _
  generalize Real.exp (-(1 / 2 * z)) = u at hu2 ⊢
  have hu := hu2.ne'
  have : 1 + u * u ≠ 0 := by positivity
  field_simp
  ring

/-- Away from the gates' columns the kernel takes the logistic function of nothing. -/
theorem sigmoidH_zero : sigmoidH 0 = half := by
  unfold sigmoidH
  rw [mul_zero]
  show half * Ideal.tanh ((0 : ℝ) : EReal) + half = half
  rw [Ideal.tanh_coe, Real.tanh_zero, EReal.coe_zero, mul_zero, zero_add]

variable (X : FVec Ideal ⟨3, ![16, 2048, 1024]⟩ .f32) (W : FVec Ideal ⟨3, ![1, 1024, 3600]⟩ .f32)
  (A D : FVec Ideal ⟨2, ![1, 8]⟩ .f32) (N : FVec Ideal ⟨2, ![1, 1024]⟩ .f32)

/-- The sum of the keys of block `r` of the tokens of grid point `t`; zeros in the rows past the two blocks. -/
def keySumAt (t : Fin 64) (r : Fin 8) (d : Fin 512) : EReal :=
  if hr : r.val < 2 then ∑ y : Fin 256, entry X W N ⟨t.val / 4, by omega⟩ ⟨t.val % 4 * 512 + r.val * 256 + y.val, by omega⟩
    ⟨512 + d.val, by omega⟩
  else 0

/-- The keys' sums. -/
def keySums : FVec Ideal ⟨3, ![64, 8, 512]⟩ .f32 := fun j => keySumAt X W N (j 0) (j 1) (j 2)

/-- One entry of the gates. -/
def gatesAt (i : Fin 32768) (d : Fin 128) : EReal :=
  if h8 : d.val < 8 then decay (A (ix2 0 ⟨d.val, h8⟩))
    (entry X W N ⟨i.val / 2048, by omega⟩ ⟨i.val % 2048, by omega⟩ ⟨3584 + d.val, by omega⟩ + D (ix2 0 ⟨d.val, h8⟩))
  else if h16 : d.val < 16 then
    sigmoid (entry X W N ⟨i.val / 2048, by omega⟩ ⟨i.val % 2048, by omega⟩ ⟨3584 + d.val, by omega⟩)
  else half

/-- The gates. -/
def gates : FVec Ideal ⟨2, ![32768, 128]⟩ .f32 := fun j => gatesAt X W A D N (j 0) (j 1)

end Cert.Proj

end
-- ==== Proof.ProjSums.lean ====
/-
  The keys' sums after the run: the body zeroes the buffer of eight rows, then stores the sums of the two blocks of 256
  tokens in its first two rows.
-/
module

public import proofs.«01_k».proof.Proof.ProjWhole
public import proofs.«01_k».proof.Proof.ProjFurther

@[expose] public section

set_option maxRecDepth 16384
set_option maxHeartbeats 4000000

noncomputable section

namespace Cert.Proj.Sums

open Idealize.ShloMosaic Idealize.ShloMosaic.TcCoe Cert.Kernel3Ideal Cert.Kernel3Ideal.Gen Cert.Proj.Entry Cert.Tail

variable (m : (ℓ : Loc nD τ sig) → Buf (Elt Ideal) ℓ) (c : Dev nD) (t : Fin cfg0.N)

theorem idx14 : ∀ t : Fin cfg0.N, win0_14.index t = ![t.val, 0, 0] :=
  (by decide +kernel : ∀ t : Fin grid0.N, win0_14.index t = _)

theorem emb14 (r : Fin 8) (d : Fin 512) (i : Fin 64) (hi : i.val = t.val) : ((cfg0.win 14).blk t).view.emb (ix3 0 r d) = ix3 i r d :=
  funext fun a => Fin.ext (match a with
    | ⟨0, _⟩ => (Pipeline.Window.rect_emb_val win0_14 t (ix3 0 r d) 0 rfl).trans (by
        rw [idx14]; show t.val * 1 + 0 = i.val; omega)
    | ⟨1, _⟩ => (Pipeline.Window.rect_emb_val win0_14 t (ix3 0 r d) 1 rfl).trans (by
        rw [idx14]; show 0 * 8 + r.val = r.val; omega)
    | ⟨2, _⟩ => (Pipeline.Window.rect_emb_val win0_14 t (ix3 0 r d) 2 rfl).trans (by
        rw [idx14]; show 0 * 512 + d.val = d.val; omega))

theorem first_apply (h : FVec Ideal S512x1024 .bf16) (w : Vec Ideal S1024x512 .bf16) (d : Fin 512) :
    k0_pay12 (F := Ideal) h w (ix3 0 0 d) = ∑ y : Fin 256, k0_pay10 (F := Ideal) h w (ix2 ⟨y.val, by omega⟩ d) := by
  pointwise [k0_pay12, k0_pay10]

theorem second_apply (h : FVec Ideal S512x1024 .bf16) (w : Vec Ideal S1024x512 .bf16) (d : Fin 512) :
    k0_pay13 (F := Ideal) (k0_pay9 h w) (ix3 0 0 d) = ∑ y : Fin 256, k0_pay10 (F := Ideal) h w (ix2 ⟨256 + y.val, by omega⟩ d) := by
  pointwise [k0_pay13, k0_pay10]

section Pieces

variable {s : Shape}

theorem not_mem {off size : Fin s.rank → Nat} {inb : ∀ a, off a + size a ≤ s.size a} (y : s.Idx) (a : Fin s.rank)
    (h : ¬ (off a ≤ (y a).val ∧ (y a).val < off a + size a)) : y ∉ (Rect.unit off size inb).set :=
  fun hm => h (Rect.mem_set_unit.mp hm a)

theorem canon_on (R : Rect s) (w : R.shape.Idx → Elt Ideal .f32) (L : List (View.Piece (Elt Ideal) s .f32)) (y : s.Idx) (x : R.shape.Idx)
    (h : y = R.emb x) : View.canon (⟨R, w⟩ :: L) y = w x := by
  subst h
  exact View.canon_cons_emb R w L x

theorem canon_off (R : Rect s) (w : R.shape.Idx → Elt Ideal .f32) (L : List (View.Piece (Elt Ideal) s .f32)) (y : s.Idx)
    (h : y ∉ R.set) : View.canon (⟨R, w⟩ :: L) y = View.canon L y :=
  View.canon_cons_of_not_mem ⟨R, w⟩ L h

end Pieces

/-- Row `k` of the buffer, as a rectangle. -/
abbrev rowRect (k : Nat) (inb : ∀ a, (![0, k, 0] : Fin 3 → Nat) a + (![1, 1, 512] : Fin 3 → Nat) a ≤ S1x8x512.size a) : Rect S1x8x512 :=
  Rect.unit (s := S1x8x512) ![0, k, 0] ![1, 1, 512] inb

theorem off_row (k : Nat) (inb) (r : Fin 8) (d : Fin 512) (hk : r.val ≠ k) : (ix3 0 r d : S1x8x512.Idx) ∉ (rowRect k inb).set := by
  refine not_mem (s := S1x8x512) (off := ![0, k, 0]) (size := ![1, 1, 512]) (inb := inb) (ix3 0 r d) (1 : Fin 3) ?_
  show ¬ (k ≤ r.val ∧ r.val < k + 1)
  omega

theorem on_row (k : Nat) (inb) (r : Fin 8) (d : Fin 512) (hk : r.val = k) : (ix3 0 r d : S1x8x512.Idx) = (rowRect k inb).emb (ix3 0 0 d) :=
  funext fun a => Fin.ext (match a with
    | ⟨0, _⟩ => by show 0 = 0 + 1 * 0; omega
    | ⟨1, _⟩ => by show r.val = k + 1 * 0; omega
    | ⟨2, _⟩ => by show d.val = 0 + 1 * d.val; omega)

/-- Two rows stored over a whole buffer. -/
theorem stored_rows (inb1 inb0 inb) (v w : FVec Ideal S1x1x512 .f32) (z : FVec Ideal S1x8x512 .f32) (r : Fin 8) (d : Fin 512) :
    View.canon (Val := Elt Ideal) (s := S1x8x512) (e := .f32) [⟨Rect.unit ![0, 1, 0] ![1, 1, 512] inb1, v⟩, ⟨Rect.unit ![0, 0, 0] ![1, 1, 512] inb0, w⟩,
      ⟨Rect.unit ![0, 0, 0] ![1, 8, 512] inb, z⟩] (ix3 0 r d)
    = if r.val = 1 then v (ix3 0 0 d) else if r.val = 0 then w (ix3 0 0 d) else z (ix3 0 r d) := by
  by_cases h1 : r.val = 1
  · rw [if_pos h1]
    exact canon_on (rowRect 1 inb1) v _ (ix3 0 r d) (ix3 0 0 d) (on_row 1 inb1 r d h1)
  rw [if_neg h1]
  refine (canon_off (rowRect 1 inb1) v _ (ix3 0 r d) (off_row 1 inb1 r d h1)).trans ?_
  by_cases h0 : r.val = 0
  · rw [if_pos h0]
    exact canon_on (rowRect 0 inb0) w _ (ix3 0 r d) (ix3 0 0 d) (on_row 0 inb0 r d h0)
  rw [if_neg h0]
  refine (canon_off (rowRect 0 inb0) w _ (ix3 0 r d) (off_row 0 inb0 r d h0)).trans ?_
  exact congrFun (View.canon_cons_unit_lit' (S := S1x8x512) (Val := Elt Ideal) (e := .f32) (off := ![0, 0, 0]) inb z [] (by decide)) _

theorem out14 (r : Fin 8) (d : Fin 512) : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
      (ix3 0 r d) = if hr : r.val < 2 then ∑ y : Fin 256, k0_pay10 (Out.rows m c t) (iblk m c 4 t) (ix2 ⟨256 * r.val + y.val, by omega⟩ d) else 0 := by
  frame_out
  rw [stored_rows]
  by_cases h1 : r.val = 1
  · rw [if_pos h1, second_apply, dif_pos (by omega)]
    exact Finset.sum_congr rfl fun y _ => congrArg (fun i => k0_pay10 (Out.rows m c t) (iblk m c 4 t) (ix2 i d)) (Fin.ext (by simp only; omega))
  rw [if_neg h1]
  by_cases h0 : r.val = 0
  · rw [if_pos h0, first_apply, dif_pos (by omega)]
    exact Finset.sum_congr rfl fun y _ => congrArg (fun i => k0_pay10 (Out.rows m c t) (iblk m c 4 t) (ix2 i d)) (Fin.ext (by simp only; omega))
  rw [if_neg h0, dif_neg (by omega)]
  pointwise [k0_pay11]

/-- The sums' array. -/
theorem final14 : (dats m 0 c).arrAt 14 cfg0.N = keySums (argX m c) (argW m c) (argN m c) := by
  refine (dats m 0 c).arrAt_eq_of_covers 14 _ (by decide +kernel) fun t hf y => ?_
  have ht := Whole.lt64 t
  obtain ⟨z, r, d, rfl⟩ : ∃ (z : Fin 1) (r : Fin 8) (d : Fin 512), y = ix3 z r d := ⟨y 0, y 1, y 2, eq_ix3 y⟩
  obtain rfl : z = 0 := Subsingleton.elim _ _
  rw [emb14 t r d ⟨t.val, ht⟩ rfl]
  have hc : (dats m 0 c).flushed 14 t (ix3 0 r d) = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) (ix3 0 r d) := by
    rw [Cert.Kernel3Ideal.Value.flushed14_A]
    generalize (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) = v
    rfl
  refine (hc.trans (out14 m c t r d)).trans ?_
  show _ = keySumAt _ _ _ ⟨t.val, _⟩ r d
  unfold keySumAt
  split
  · refine Finset.sum_congr rfl fun y _ => (Block.key_apply _ _ _ d).trans ?_
    simp only [Whole.rows_apply]
    refine (Whole.entry_of m c t ⟨256 * r.val + y.val, by omega⟩ ⟨t.val * 512 + (256 * r.val + y.val), by omega⟩ rfl
      (fun e => iblk m c 4 t (ix2 e d)) _ fun e => b4 m c t e d).trans ?_
    congr 1 <;> exact Fin.ext (by simp only; omega)
  · rfl

end Cert.Proj.Sums

end
-- ==== Proof.ProjGates.lean ====
/-
  The gates' array after the run. Its weight columns and head parameters lie in padded arrays: past the sixteen gate columns
  the weights are zeros, so the projected entry is zero and the stored column is one half.
-/
module

public import proofs.«01_k».proof.Proof.ProjWhole
public import proofs.«01_k».proof.Proof.ProjFurther

@[expose] public section

set_option maxRecDepth 16384
set_option maxHeartbeats 4000000

noncomputable section

namespace Cert.Proj.Gates

open Idealize.ShloMosaic Idealize.ShloMosaic.TcCoe Cert.Kernel3Ideal Cert.Kernel3Ideal.Gen Cert.Proj.Entry Cert.Tail

variable (m : (ℓ : Loc nD τ sig) → Buf (Elt Ideal) ℓ) (c : Dev nD) (t : Fin cfg0.N)

/-- The head parameters: rates and offsets of the decays. -/
abbrev argA : FVec Ideal S1x8 .f32 := m ((c : Thread nD τ).loc main_arg3)
abbrev argD : FVec Ideal S1x8 .f32 := m ((c : Thread nD τ).loc main_arg4)

/-- What the host code pads with. -/
abbrev nought : FVec Ideal S_ .f32 := sitofp .f32 (constantI S_ 32 0#32)

theorem V16 : V m c main_v16 = truncf (F := Ideal) .bf16 (pad S1024x128 ![0, 0] ![0, 112] ![0, 0]
      (extractStridedSlice S1024x16 ![0, 3584] (mat m c) slices_S1024x3600_S1024x16_0_3584) nought
      pads_S1024x16_S1024x128_000_01120 h_S_ : FVec Ideal S1024x128 .f32) bitsLt_bf16_f32 := rfl
theorem V22 : V m c main_v22 = broadcastInDim S1x128 ![1] bcast_S128_S1x128_1 (pad S128 ![0] ![120] ![0]
      (shapeCast S8 (argA m c) shapeCasts_S1x8_S8) nought pads_S8_S128_01200 h_S_) := rfl
theorem V25 : V m c main_v25 = broadcastInDim S1x128 ![1] bcast_S128_S1x128_1 (pad S128 ![0] ![120] ![0]
      (shapeCast S8 (argD m c) shapeCasts_S1x8_S8) nought pads_S8_S128_01200 h_S_) := rfl

theorem idx8 : ∀ t : Fin cfg0.N, win0_8.index t = ![0, 0] :=
  (by decide +kernel : ∀ t : Fin grid0.N, win0_8.index t = _)
theorem idx10 : ∀ t : Fin cfg0.N, win0_10.index t = ![0, 0] :=
  (by decide +kernel : ∀ t : Fin grid0.N, win0_10.index t = _)
theorem idx11 : ∀ t : Fin cfg0.N, win0_11.index t = ![0, 0] :=
  (by decide +kernel : ∀ t : Fin grid0.N, win0_11.index t = _)
theorem idx18 : ∀ t : Fin cfg0.N, win0_18.index t = ![t.val, 0] :=
  (by decide +kernel : ∀ t : Fin grid0.N, win0_18.index t = _)

theorem emb8 (r : Fin 1024) (d : Fin 128) : ((cfg0.win 8).blk t).view.emb (ix2 r d) = ix2 r d :=
  funext fun a => Fin.ext (match a with
    | ⟨0, _⟩ => (Pipeline.Window.rect_emb_val win0_8 t (ix2 r d) 0 rfl).trans (by
        rw [idx8]; show 0 * 1024 + r.val = r.val; omega)
    | ⟨1, _⟩ => (Pipeline.Window.rect_emb_val win0_8 t (ix2 r d) 1 rfl).trans (by
        rw [idx8]; show 0 * 128 + d.val = d.val; omega))

theorem emb10 (d : Fin 128) : ((cfg0.win 10).blk t).view.emb (ix2 0 d) = ix2 0 d :=
  funext fun a => Fin.ext (match a with
    | ⟨0, _⟩ => (Pipeline.Window.rect_emb_val win0_10 t (ix2 0 d) 0 rfl).trans (by
        rw [idx10]; rfl)
    | ⟨1, _⟩ => (Pipeline.Window.rect_emb_val win0_10 t (ix2 0 d) 1 rfl).trans (by
        rw [idx10]; show 0 * 128 + d.val = d.val; omega))

theorem emb11 (d : Fin 128) : ((cfg0.win 11).blk t).view.emb (ix2 0 d) = ix2 0 d :=
  funext fun a => Fin.ext (match a with
    | ⟨0, _⟩ => (Pipeline.Window.rect_emb_val win0_11 t (ix2 0 d) 0 rfl).trans (by
        rw [idx11]; rfl)
    | ⟨1, _⟩ => (Pipeline.Window.rect_emb_val win0_11 t (ix2 0 d) 1 rfl).trans (by
        rw [idx11]; show 0 * 128 + d.val = d.val; omega))

theorem emb18 (r : Fin 512) (d : Fin 128) (i : Fin 32768) (hi : i.val = t.val * 512 + r.val) : ((cfg0.win 18).blk t).view.emb (ix2 r d) = ix2 i d :=
  funext fun a => Fin.ext (match a with
    | ⟨0, _⟩ => (Pipeline.Window.rect_emb_val win0_18 t (ix2 r d) 0 rfl).trans (by
        rw [idx18]; show t.val * 512 + r.val = i.val; omega)
    | ⟨1, _⟩ => (Pipeline.Window.rect_emb_val win0_18 t (ix2 r d) 1 rfl).trans (by
        rw [idx18]; show 0 * 128 + d.val = d.val; omega))

theorem b8 (r : Fin 1024) (d : Fin 128) (hd : d.val < 16) : iblk m c 8 t (ix2 r d) = argW m c (ix3 0 r ⟨3584 + d.val, by omega⟩) := by
  show V m c main_v16 (((cfg0.win 8).blk t).view.emb (ix2 r d)) = _
  rw [emb8 t r d, V16]
  pointwise
  rw [dif_pos (by omega)]

theorem b8_zero (r : Fin 1024) (d : Fin 128) (hd : 16 ≤ d.val) : iblk m c 8 t (ix2 r d) = (0 : EReal) := by
  show V m c main_v16 (((cfg0.win 8).blk t).view.emb (ix2 r d)) = _
  rw [emb8 t r d, V16]
  pointwise
  rw [dif_neg (by omega)]
  show ((BitVec.toInt 0#32 : ℝ) : EReal) = 0
  simp

theorem b10 (d : Fin 128) (hd : d.val < 8) : iblk m c 10 t (ix2 0 d) = argA m c (ix2 0 ⟨d.val, hd⟩) := by
  show V m c main_v22 (((cfg0.win 10).blk t).view.emb (ix2 0 d)) = _
  rw [emb10 t d, V22]
  pointwise
  rw [dif_pos (by omega)]

theorem b11 (d : Fin 128) (hd : d.val < 8) : iblk m c 11 t (ix2 0 d) = argD m c (ix2 0 ⟨d.val, hd⟩) := by
  show V m c main_v25 (((cfg0.win 11).blk t).view.emb (ix2 0 d)) = _
  rw [emb11 t d, V25]
  pointwise
  rw [dif_pos (by omega)]

/-- What the body stores. -/
abbrev stored : FVec Ideal S512x128 .f32 := k0_pay8 (k0_pay4 (iblk m c 0 t) (iblk m c 2 t) (iblk m c 8 t))
  (k0_pay5 (iblk m c 0 t) (iblk m c 2 t) (iblk m c 8 t) (iblk m c 11 t)) (k0_pay6 (iblk m c 10 t)) k0_pay7

theorem out18 : out0_A_18 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (ms0_13 t) (hs0_13 t) (ms0_14 t) (hs0_14 t) (ms0_15 t) (hs0_15 t) (ms0_16 t) (hs0_16 t) (ms0_17 t) (hs0_17 t) (ms0_18 t) (hs0_18 t) scM0_0
      (Memref.isWhole_whole _) scM0_1 (Memref.isWhole_whole _) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
    = stored m c t := by
  frame_out

/-- The columns of the decays are the first eight. -/
theorem select_first (d : Fin 128) (x y : EReal) :
    (Scalar.select (IntOp.cmpi CmpIPredicate.slt (BitVec.ofNat 32 d.val) 8#32) x y : EReal) = if d.val < 8 then x else y := by
  have : ∀ d : Fin 128, IntOp.cmpi CmpIPredicate.slt (BitVec.ofNat 32 d.val) 8#32 = if d.val < 8 then 1#1 else 0#1 := by decide
  rw [this d]
  split <;> rfl

/-- The stored block, read at an index. -/
theorem stored_apply (r : Fin 512) (d : Fin 128) : stored m c t (ix2 r d)
    = if d.val < 8 then decay (iblk m c 10 t (ix2 0 d)) ((∑ e, Block.hrow (iblk m c 0 t) (iblk m c 2 t) r e * iblk m c 8 t (ix2 e d))
        + iblk m c 11 t (ix2 0 d))
      else sigmoidH (∑ e, Block.hrow (iblk m c 0 t) (iblk m c 2 t) r e * iblk m c 8 t (ix2 e d)) := by
  pointwise [stored, k0_pay8, k0_pay4, k0_pay5, k0_pay6, k0_pay7]
  simp only [Block.normed_apply]
  rw [select_first]
  split
  · unfold decay
    rw [zero_sub, zero_sub]
    rfl
  · rfl

/-- The gates' array. -/
theorem final18 (hW : ∀ i, Fin' (argW m c i)) (hN : ∀ i, Fin' (argN m c i)) :
    (dats m 0 c).arrAt 18 cfg0.N = gates (argX m c) (argW m c) (argA m c) (argD m c) (argN m c) := by
  refine (dats m 0 c).arrAt_eq_of_covers 18 _ (by decide +kernel) fun t hf y => ?_
  have ht := Whole.lt64 t
  obtain ⟨r, d, rfl⟩ : ∃ (r : Fin 512) (d : Fin 128), y = ix2 r d := ⟨y 0, y 1, eq_ix2 y⟩
  rw [emb18 t r d ⟨t.val * 512 + r.val, by omega⟩ rfl]
  have hc : (dats m 0 c).flushed 18 t (ix2 r d) = stored m c t (ix2 r d) := by
    rw [Cert.Kernel3Ideal.Value.flushed18_A, out18]
    generalize stored m c t = v
    rfl
  refine hc.trans ((stored_apply m c t r d).trans ?_)
  show _ = gatesAt _ _ _ _ _ ⟨t.val * 512 + r.val, _⟩ d
  unfold gatesAt
  by_cases h8 : d.val < 8
  · rw [if_pos h8, dif_pos h8, b10 m c t d h8, b11 m c t d h8,
      Whole.entry_of m c t r ⟨t.val * 512 + r.val, by omega⟩ rfl (fun e => iblk m c 8 t (ix2 e d)) _ fun e => b8 m c t e d (by omega)]
  · rw [if_neg h8, dif_neg h8]
    by_cases h16 : d.val < 16
    · rw [dif_pos h16,
        Whole.entry_of m c t r ⟨t.val * 512 + r.val, by omega⟩ rfl (fun e => iblk m c 8 t (ix2 e d)) _ fun e => b8 m c t e d h16]
      exact sigmoidH_eq (entry_fin _ _ _ hW hN _ _ _)
    · rw [dif_neg h16, Finset.sum_eq_zero fun e _ => by rw [b8_zero m c t e d (by omega), mul_zero]]
      exact sigmoidH_zero

end Cert.Proj.Gates

end
-- ==== Proof.ProjRefGates.lean ====
/-
  What the reference of the input projection computes for the keys' sums and the gates: each, read at an index, is the result
  of Proof/ProjFurther.lean. Softplus is written there with a branch for an argument that differs from itself, which is never
  taken.
-/
module

public import proofs.«01_k».proof.Proof.ProjRef
public import proofs.«01_k».proof.Proof.ProjFurther

@[expose] public section

set_option maxRecDepth 16384

noncomputable section

namespace Cert.Proj.Ref

open Idealize.ShloMosaic Idealize.ShloMosaic.TcCoe Cert.Reference3Ideal Cert.Reference3Ideal.Gen Cert.Tail

variable (X : FVec Ideal S16x2048x1024 .f32) (W : FVec Ideal S1x1024x3600 .f32) (A D : FVec Ideal S1x8 .f32)
  (N : FVec Ideal S1x1024 .f32)

/-! ## The keys' sums -/

/-- The reference's sums of a projection's key columns over blocks of 256 tokens. -/
def sumsA (p : FVec Ideal S16x2048x3600 .f32) : FVec Ideal S64x2x512 .f32 :=
  Host.reduceAdd (shapeCast S64x2x256x512 (extractStridedSlice S16x2048x512 ![0, 0, 512] p slices_S16x2048x3600_S16x2048x512_0_0_512)
    shapeCasts_S16x2048x512_S64x2x256x512) (constant S_ .f32 0x00000000#32) reducesTo_S64x2x256x512_S64x2x512_d2 h_S_

theorem sumsA_apply (t : Fin 64) (r : Fin 2) (d : Fin 512) : sumsA (dotA X W N) (ix3 t r d)
    = ∑ y : Fin 256, entry X W N ⟨t.val / 4, by omega⟩ ⟨t.val % 4 * 512 + r.val * 256 + y.val, by omega⟩ ⟨512 + d.val, by omega⟩ := by
  pointwise [sumsA]
  refine Finset.sum_congr rfl fun y _ => (dotA_apply X W N _ _ _).trans ?_
  congr 1 <;> exact Fin.ext (by simp only; omega)

theorem keySums_eq : concatenate S64x8x512 1 [⟨S64x2x512, sumsA (dotA X W N)⟩,
    ⟨S64x6x512, broadcastInDim S64x6x512 ![] bcast_S_S64x6x512 (constant (F := Ideal) S_ .f32 0x00000000#32)⟩]
    concatenates_S64x2x512_S64x6x512_S64x8x512_d1 = keySums X W N := by
  funext j
  obtain ⟨t, r, d, rfl⟩ : ∃ (t : Fin 64) (r : Fin 8) (d : Fin 512), j = ix3 t r d := ⟨j 0, j 1, j 2, eq_ix3 j⟩
  pointwise
  show _ = keySumAt X W N t r d
  unfold keySumAt
  split
  · exact sumsA_apply X W N t ⟨r.val, by assumption⟩ d
  · rfl

/-! ## The gates -/

/-- The decays' arguments. -/
def argsA (p : FVec Ideal S16x2048x3600 .f32) (D : FVec Ideal S1x8 .f32) : FVec Ideal S16x2048x8 .f32 :=
  addf (extractStridedSlice S16x2048x8 ![0, 0, 3584] p slices_S16x2048x3600_S16x2048x8_0_0_3584)
    (broadcastInDim S16x2048x8 ![0, 1, 2] bcast_S1x1x8_S16x2048x8_0_1_2 (broadcastInDim S1x1x8 ![2] bcast_S8_S1x1x8_2
      (shapeCast S8 D shapeCasts_S1x8_S8)))

/-- A zero for every token and head. -/
def noughtA : FVec Ideal S16x2048x8 .f32 := broadcastInDim S16x2048x8 ![] bcast_S_S16x2048x8 (constant S_ .f32 0x00000000#32)

/-- Softplus. -/
def softplusA (s : FVec Ideal S16x2048x8 .f32) : FVec Ideal S16x2048x8 .f32 :=
  select (cmpf .une (subf s noughtA) (subf s noughtA)) (addf s noughtA)
    (addf (maximumf s noughtA) (Host.log1p (Host.exp (Host.negf (Host.absf (subf s noughtA))))))

/-- The log decays. -/
def decayA (A : FVec Ideal S1x8 .f32) (s : FVec Ideal S16x2048x8 .f32) : FVec Ideal S16x2048x8 .f32 :=
  mulf (broadcastInDim S16x2048x8 ![0, 1, 2] bcast_S1x1x8_S16x2048x8_0_1_2 (broadcastInDim S1x1x8 ![2] bcast_S8_S1x1x8_2
    (Host.negf (Host.exp (shapeCast S8 A shapeCasts_S1x8_S8))))) (softplusA s)

/-- The write strengths. -/
def betaA (p : FVec Ideal S16x2048x3600 .f32) : FVec Ideal S16x2048x8 .f32 :=
  Host.divf (broadcastInDim S16x2048x8 ![] bcast_S_S16x2048x8 (constant S_ .f32 0x3F800000#32))
    (addf (broadcastInDim S16x2048x8 ![] bcast_S_S16x2048x8 (constant S_ .f32 0x3F800000#32))
      (Host.exp (Host.negf (extractStridedSlice S16x2048x8 ![0, 0, 3592] p slices_S16x2048x3600_S16x2048x8_0_0_3592))))

theorem argsA_apply (b : Fin 16) (s : Fin 2048) (h : Fin 8) :
    argsA (dotA X W N) D (ix3 b s h) = entry X W N b s ⟨3584 + h.val, by omega⟩ + D (ix2 0 h) := by
  pointwise [argsA]
  rw [dotA_apply]

theorem softplusA_apply (s : FVec Ideal S16x2048x8 .f32) (b : Fin 16) (u : Fin 2048) (h : Fin 8) : softplusA s (ix3 b u h)
    = max (s (ix3 b u h)) 0 + Ideal.log1p (Ideal.exp (-(max (s (ix3 b u h)) (-(s (ix3 b u h)))))) := by
  pointwise [softplusA, noughtA]
  rw [if_neg (by simp)]
  rfl

theorem decayA_apply (s : FVec Ideal S16x2048x8 .f32) (b : Fin 16) (u : Fin 2048) (h : Fin 8) :
    decayA A s (ix3 b u h) = decay (A (ix2 0 h)) (s (ix3 b u h)) := by
  pointwise [decayA]
  rw [softplusA_apply]
  rfl

theorem betaA_apply (b : Fin 16) (s : Fin 2048) (h : Fin 8) :
    betaA (dotA X W N) (ix3 b s h) = sigmoid (entry X W N b s ⟨3592 + h.val, by omega⟩) := by
  pointwise [betaA]
  rw [dotA_apply]
  rfl

theorem gates_eq : shapeCast S32768x128 (concatenate S16x2048x128 2 [⟨S16x2048x8, decayA A (argsA (dotA X W N) D)⟩,
      ⟨S16x2048x8, betaA (dotA X W N)⟩,
      ⟨S16x2048x112, broadcastInDim S16x2048x112 ![] bcast_S_S16x2048x112 (constant (F := Ideal) S_ .f32 0x3F000000#32)⟩]
      concatenates_S16x2048x8_S16x2048x8_S16x2048x112_S16x2048x128_d2 : FVec Ideal S16x2048x128 .f32)
      shapeCasts_S16x2048x128_S32768x128 = gates X W A D N := by
  funext j
  obtain ⟨i, d, rfl⟩ : ∃ (i : Fin 32768) (d : Fin 128), j = ix2 i d := ⟨j 0, j 1, eq_ix2 j⟩
  pointwise
  show _ = gatesAt X W A D N i d
  unfold gatesAt
  by_cases h8 : d.val < 8
  · rw [dif_pos h8, dif_pos h8, decayA_apply, argsA_apply]
  · rw [dif_neg h8, dif_neg h8]
    by_cases h16 : d.val < 16
    · rw [dif_pos h16, dif_pos (by omega), betaA_apply]
      congr 2
      exact Fin.ext (by simp only; omega)
    · rw [dif_neg h16, dif_neg (by omega)]

variable (m : (ℓ : Loc nD τ sig) → Buf (Elt Ideal) ℓ)

/-- The reference's gates, their operations grouped. -/
theorem res_gates (c : Dev nD) : Cert.Reference3Ideal.Value.res_out6 m c
    = gates (m ((c : Thread nD τ).loc main_arg0)) (m ((c : Thread nD τ).loc main_arg1)) (m ((c : Thread nD τ).loc main_arg3))
        (m ((c : Thread nD τ).loc main_arg4)) (m ((c : Thread nD τ).loc main_arg5)) :=
  Eq.trans rfl (gates_eq _ _ _ _ _)

end Cert.Proj.Ref

end
-- ==== Proof.Proj.lean ====
/-
  The claims about the input projection: the frame of its reference, and the equality of both programs' results for finite
  weights. The kernel's result arrays are read in Proof/ProjWhole.lean, ProjMixed.lean, ProjSums.lean
  and ProjGates.lean, the reference's in Proof/ProjRef.lean and ProjRefGates.lean; both are the functions of Proof/ProjResult.lean
  and ProjFurther.lean.
-/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.ProjRef
public import proofs.«01_k».proof.Proof.ProjWhole
public import proofs.«01_k».proof.Proof.ProjMixed
public import proofs.«01_k».proof.Proof.ProjSums
public import proofs.«01_k».proof.Proof.ProjGates
public import proofs.«01_k».proof.Proof.ProjRefGates
public import Idealize.ShloMosaic.Adequacy
public import Idealize.ShloMosaic.Init
public import Idealize.ShloMosaic.Lib.Quiescent

@[expose] public section

noncomputable section

namespace Cert.Proj.Claim

open Idealize.ShloMosaic Idealize.ShloMosaic.TcCoe Idealize.SL.Sem Cert.Proj Cert.Proj.Entry

/-- The reference's host operations leave its arguments and every semaphore counter as they were. -/
theorem referenceRun (m : (ℓ : Loc Reference3Ideal.nD Reference3Ideal.τ Reference3Ideal.sig) → Buf (Elt Ideal) ℓ)
    (g : Dev Reference3Ideal.nD → PrngReg) : θ_run (Reference3Ideal.defs (F := Ideal))
      (onTc (τ := Reference3Ideal.τ) (Reference3Ideal.main (F := Ideal))) ⟨m, fun _ => 0, g⟩ (fun r =>
        (∀ c : Dev Reference3Ideal.nD,
          r.2.mem ((c.tc : Thread Reference3Ideal.nD Reference3Ideal.τ).loc Reference3Ideal.main_arg0) = m ((c.tc : Thread Reference3Ideal.nD Reference3Ideal.τ).loc Reference3Ideal.main_arg0)
          ∧ r.2.mem ((c.tc : Thread Reference3Ideal.nD Reference3Ideal.τ).loc Reference3Ideal.main_arg1) = m ((c.tc : Thread Reference3Ideal.nD Reference3Ideal.τ).loc Reference3Ideal.main_arg1)
          ∧ r.2.mem ((c.tc : Thread Reference3Ideal.nD Reference3Ideal.τ).loc Reference3Ideal.main_arg2) = m ((c.tc : Thread Reference3Ideal.nD Reference3Ideal.τ).loc Reference3Ideal.main_arg2)
          ∧ r.2.mem ((c.tc : Thread Reference3Ideal.nD Reference3Ideal.τ).loc Reference3Ideal.main_arg3) = m ((c.tc : Thread Reference3Ideal.nD Reference3Ideal.τ).loc Reference3Ideal.main_arg3)
          ∧ r.2.mem ((c.tc : Thread Reference3Ideal.nD Reference3Ideal.τ).loc Reference3Ideal.main_arg4) = m ((c.tc : Thread Reference3Ideal.nD Reference3Ideal.τ).loc Reference3Ideal.main_arg4)
          ∧ r.2.mem ((c.tc : Thread Reference3Ideal.nD Reference3Ideal.τ).loc Reference3Ideal.main_arg5) = m ((c.tc : Thread Reference3Ideal.nD Reference3Ideal.τ).loc Reference3Ideal.main_arg5))
        ∧ r.2.sem = fun _ => 0) := by
  refine (θ_run _ _ _).mono (fun r hr => ⟨fun c => (hr c).2.2.2.2.2.2.2, ?_⟩) (Cert.Reference3Ideal.Value.run m g)
  exact sem_eq_zero_of_no_sems (by decide) r.2

/-- An absolute value below infinity, at every index, is a real number there. -/
theorem fin_of_ones {s : Shape} {v w : FVec Ideal s .f32} (hw : ∀ i, w i = (⊤ : EReal))
    (h : cmpf .olt (Host.absf v) w = fun _ => 1#1) (i : s.Idx) : Fin' (v i) := by
  have h' : Ideal.cmp .olt (max (v i) (-(v i)) : EReal) (w i) = 1#1 := congrFun h i
  refine fin'_of_lt ?_
  rw [hw i] at h'
  by_contra hc
  have e : Ideal.cmp .olt (max (v i) (-(v i)) : EReal) (⊤ : EReal) = 0#1 := by
    unfold Ideal.cmp
    simp only [decide_eq_false hc]
    rfl
  rw [e] at h'
  exact absurd h' (by decide)

theorem top_bits : Ideal.ofBits .f32 0x7F800000#32 = (⊤ : EReal) := by
  simp [Ideal.ofBits, Ideal.ieee]

/-- The finite weights the claim asks for. -/
theorem finite (m : (ℓ : Loc Kernel3Ideal.nD Kernel3Ideal.τ Kernel3Ideal.sig) → Buf (Elt Ideal) ℓ)
    (hp : Pre_Kernel3Ideal_finite3 (hPre_finite3 := Cert.Pre_finite3.Gen.facts) m) (c : Dev Kernel3Ideal.nD) :
    (∀ i, Fin' (argW m c i)) ∧ (∀ i, Fin' (argC m c i)) ∧ (∀ i, Fin' (argN m c i)) := by
  obtain ⟨h1, h2, h3⟩ := hp c
  exact ⟨fin_of_ones (fun _ => top_bits) h1, fin_of_ones (fun _ => top_bits) h2, fin_of_ones (fun _ => top_bits) h3⟩

/-- Both programs, from memories whose arguments agree and whose weights are finite, end with the same results. -/
theorem algebraic : algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hp h
  refine ⟨fun c => queries (argX m c) (argW m c) (argN m c), fun c => keys (argX m c) (argW m c) (argN m c),
    fun c => keySums (argX m c) (argW m c) (argN m c), fun c => values (argX m c) (argW m c) (argN m c),
    fun c => mixed (argX m c) (argW m c) (argC m c) (argN m c), fun c => gate (argX m c) (argW m c) (argN m c),
    fun c => gates (argX m c) (argW m c) (Gates.argA m c) (Gates.argD m c) (argN m c), ?_, ?_⟩
  · refine (θ_run _ _ _).mono (fun r hr c => ?_) (Cert.Kernel3Ideal.Value.run_blocks m g)
    obtain ⟨e0, e1, e2, e3, e4, e5, e6, e⟩ := hr c
    obtain ⟨hW, hC, hN⟩ := finite m hp c
    exact ⟨e0.trans (Whole.final12 m c), e1.trans (Whole.final13 m c), e2.trans (Sums.final14 m c), e3.trans (Whole.final15 m c),
      e4.trans (Mixed.final16 m c hW hC hN), e5.trans (Whole.final17 m c hW hN), e6.trans (Gates.final18 m c hW hN), e⟩
  · refine (θ_run _ _ _).mono (fun r hr c => ?_) (Cert.Reference3Ideal.Value.run m' g')
    obtain ⟨h0, h1, h2, h3, h4, h5⟩ := h c
    obtain ⟨e0, e1, e2, e3, e4, e5, e6, e⟩ := hr c
    refine ⟨e0.trans ?_, e1.trans ?_, e2.trans ?_, e3.trans ?_, e4.trans ?_, e5.trans ?_, e6.trans ?_, e⟩
    · rw [h0, h1, h5]
      exact Ref.queries_eq _ _ _
    · rw [h0, h1, h5]
      exact Ref.keys_eq _ _ _
    · rw [h0, h1, h5]
      exact Ref.keySums_eq _ _ _
    · rw [h0, h1, h5]
      exact Ref.values_eq _ _ _
    · refine (Ref.res_mixed m' c).trans ?_
      rw [h0, h1, h2, h5]
    · rw [h0, h1, h5]
      exact Ref.gate_eq _ _ _
    · refine (Ref.res_gates m' c).trans ?_
      rw [h0, h1, h3, h4, h5]

end Cert.Proj.Claim

end
-- ==== Proof.lean ====
/-
  The proof of `Cert.Claim`: the frames of the kernel and of the reference, and the equality of their results. The kernel's
  result array is `Cert.Tail.Whole.result` (Proof/Whole.lean); the reference's, read at an index, is the same row function
  of the same argument rows (Proof/Ref.lean). The input projection's claims are proved in Proof/Proj.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Ref
public import proofs.«01_k».proof.Proof.Whole
public import proofs.«01_k».proof.Proof.Mixers
public import proofs.«01_k».proof.Proof.MixersIdeal
public import proofs.«01_k».proof.Proof.Proj
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's host operations leave its arguments and every semaphore counter as they were. -/
theorem referenceFrame : quiescent_ReferenceIdeal (hReferenceIdeal := Cert.ReferenceIdeal.Gen.facts) := by
  intro m g _
  refine (θ_run _ _ _).mono (fun r hr => ⟨fun c => (hr c).2, ?_⟩) (Cert.ReferenceIdeal.Value.run m g)
  exact sem_eq_zero_of_no_sems (by decide) r.2

/-- Both programs, from memories whose arguments agree, end with the kernel's `Whole.result`. -/
theorem algebraic : algebraic_KernelIdeal_ReferenceIdeal (hKernelIdeal := Cert.KernelIdeal.Gen.facts)
    (hReferenceIdeal := Cert.ReferenceIdeal.Gen.facts) := by
  intro m g m' g' _ h
  refine ⟨fun c => Cert.Tail.Whole.result m c, ?_, ?_⟩
  · refine (θ_run _ _ _).mono (fun r hr c => ?_) (Cert.KernelIdeal.Value.run_blocks m g)
    exact ⟨(hr c).1.trans (Cert.Tail.Whole.final m c), (hr c).2⟩
  · refine (θ_run _ _ _).mono (fun r hr c => ?_) (Cert.ReferenceIdeal.Value.run m' g')
    refine ⟨(hr c).1.trans ?_, (hr c).2⟩
    obtain ⟨h0, h1, h2, h3, h4, h5, h6, h7, h8⟩ := h c
    funext j
    obtain ⟨i, d, rfl⟩ : ∃ (i : Fin 32768) (d : Fin 1024), j = ix2 i d := ⟨j 0, j 1, eq_ix2 j⟩
    refine (Cert.Tail.Ref.res_apply m' c i d).trans ?_
    rw [h0, h1, h2, h3, h4, h5, h6, h7, h8]
    rfl

theorem claim : Cert.Claim := ⟨Cert.Kernel.Gen.facts, Cert.KernelIdeal.Gen.facts, Cert.ReferenceIdeal.Gen.facts,
  Cert.Kernel2.Gen.facts, Cert.Kernel2Ideal.Gen.facts,
  Cert.Kernel3.Gen.facts, Cert.Kernel3Ideal.Gen.facts, Cert.Reference3Ideal.Gen.facts, Cert.Pre_finite3.Gen.facts,
  fun m ρ _ => Cert.Kernel.Gen.frame m ρ, fun m ρ _ => Cert.KernelIdeal.Gen.frame m ρ,
  referenceFrame,
  fun m ρ _ => Cert.Kernel2.Body.frame m ρ, fun m ρ _ => Cert.Kernel2Ideal.Body.frame m ρ,
  fun m ρ _ => Cert.Kernel3.Gen.frame m ρ, fun m ρ _ => Cert.Kernel3Ideal.Gen.frame m ρ,
  fun m ρ _ => Cert.Kernel3Ideal.Gen.frame m ρ,
  fun m ρ _ => Cert.Proj.Claim.referenceRun m ρ, fun m ρ _ => Cert.Proj.Claim.referenceRun m ρ,
  trivial, algebraic, trivial, trivial, Cert.Proj.Claim.algebraic⟩

end Cert.Proof

end
